-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 64, 64]⟩ ⟨4, ![2, 4096, 64, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 64, 64]⟩ ⟨4, ![2, 4096, 64, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x64x64 : S_.BroadcastsInDim S2x256x64x64 (![] : Fin 0 → Fin S2x256x64x64.rank)
  reducesTo_S2x256x64x64_S_d0_1_2_3 : S2x256x64x64.ReducesTo [0, 1, 2, 3] S_

variable [Facts]

def fn {F : FTy → Type} [FloatOps F] (main_arg0 : FVec F S2x256x512 .f32) (main_arg1 : FVec F S512x256 .f32) (main_arg2 : FVec F S2x256x64x64 .f32) (main_arg3 : FVec F S2x256x64x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x64x64 .f32 := Host.absf main_arg2
  let main_cst_2 : FVec F S_ .f32 := constant S_ .f32 0x7F800000#32
  let main_v10 : FVec F S2x256x64x64 .f32 := broadcastInDim S2x256x64x64 ![] bcast_S_S2x256x64x64 main_cst_2
  let main_v11 : IVec S2x256x64x64 1 := cmpf .olt main_v9 main_v10
  let main_c_3 : IVec S_ 1 := constantI S_ 1 1#1
  let main_v12 : IVec S_ 1 := (fun x v => Host.reduce IntOp.andi x v reducesTo_S2x256x64x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x4096 : Shape := ⟨2, ![512, 4096]⟩
abbrev S2x4096x64x64 : Shape := ⟨4, ![2, 4096, 64, 64]⟩
abbrev S4096x512 : Shape := ⟨2, ![4096, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2x4096x64x64 : S_.BroadcastsInDim S2x4096x64x64 (![] : Fin 0 → Fin S2x4096x64x64.rank)
  reducesTo_S2x4096x64x64_S_d0_1_2_3 : S2x4096x64x64.ReducesTo [0, 1, 2, 3] S_

variable [Facts]

def fn {F : FTy → Type} [FloatOps F] (main_arg0 : FVec F S2x256x512 .f32) (main_arg1 : FVec F S512x4096 .f32) (main_arg2 : FVec F S2x4096x64x64 .f32) (main_arg3 : FVec F S2x4096x64x64 .f32) (main_arg4 : FVec F S4096x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S2x4096x64x64 .f32 := Host.absf main_arg2
  let main_cst_2 : FVec F S_ .f32 := constant S_ .f32 0x7F800000#32
  let main_v10 : FVec F S2x4096x64x64 .f32 := broadcastInDim S2x4096x64x64 ![] bcast_S_S2x4096x64x64 main_cst_2
  let main_v11 : IVec S2x4096x64x64 1 := cmpf .olt main_v9 main_v10
  let main_c_3 : IVec S_ 1 := constantI S_ 1 1#1
  let main_v12 : IVec S_ 1 := (fun x v => Host.reduce IntOp.andi x v reducesTo_S2x4096x64x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S2x256x256 : Shape := ⟨3, ![2, 256, 256]⟩
abbrev S16x2x256x4x64 : Shape := ⟨5, ![16, 2, 256, 4, 64]⟩
abbrev S2x256x4x64 : Shape := ⟨4, ![2, 256, 4, 64]⟩
abbrev S4x2x256x512 : Shape := ⟨4, ![4, 2, 256, 512]⟩
abbrev S16 : Shape := ⟨1, ![16]⟩
abbrev S4 : Shape := ⟨1, ![4]⟩
abbrev S2 : Shape := ⟨1, ![2]⟩
abbrev S_ : Shape := ⟨0, ![]⟩
abbrev S1 : Shape := ⟨1, ![1]⟩
abbrev S1x2x256x4x64 : Shape := ⟨5, ![1, 2, 256, 4, 64]⟩
abbrev S1x256x512 : Shape := ⟨3, ![1, 256, 512]⟩
abbrev S256x256 : Shape := ⟨2, ![256, 256]⟩
abbrev S1x256x256 : Shape := ⟨3, ![1, 256, 256]⟩
abbrev S1x64x64 : Shape := ⟨3, ![1, 64, 64]⟩
abbrev S64x64 : Shape := ⟨2, ![64, 64]⟩
abbrev S16x1x64x1x64 : Shape := ⟨5, ![16, 1, 64, 1, 64]⟩
abbrev S16x64x64 : Shape := ⟨3, ![16, 64, 64]⟩
abbrev S1024x64 : Shape := ⟨2, ![1024, 64]⟩
abbrev S64x1024 : Shape := ⟨2, ![64, 1024]⟩
abbrev S64 : Shape := ⟨1, ![64]⟩
abbrev S64x1 : Shape := ⟨2, ![64, 1]⟩
abbrev S1x64x1x64 : Shape := ⟨4, ![1, 64, 1, 64]⟩
abbrev S1x256x1x64 : Shape := ⟨4, ![1, 256, 1, 64]⟩
abbrev S256x64 : Shape := ⟨2, ![256, 64]⟩
abbrev S64x512 : Shape := ⟨2, ![64, 512]⟩
abbrev S1x2x256x512 : Shape := ⟨4, ![1, 2, 256, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x64x64, .f32⟩
  | .hbm, ⟨3, _⟩ => ⟨S2x256x64x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S256x512, .f32⟩
  | .local _ .vmem, ⟨3, _⟩ => ⟨S2x256x512, .f32⟩
  | .local _ .vmem, ⟨4, _⟩ => ⟨S2x256x256, .f32⟩
  | .local _ .vmem, ⟨5, _⟩ => ⟨S16x2x256x4x64, .f32⟩
  | .local _ .vmem, ⟨6, _⟩ => ⟨S16x2x256x4x64, .f32⟩
  | .local _ .vmem, ⟨7, _⟩ => ⟨S2x256x4x64, .f32⟩
  | .local _ .vmem, ⟨8, _⟩ => ⟨S4x2x256x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1093 : BitVec 32 := 0#32
  let c0_i32_1091 : BitVec 32 := 0#32
  let c1_i32_1092 : BitVec 32 := 1#32
  let v1228 : BitVec 32 := Scalar.muli c0_i32_1091 c1_i32_1092
  let v1229 : BitVec 32 := Scalar.addi c0_i32_1093 v1228
  v1229.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1093 : BitVec 32 := 0#32
  let c1_i32_1091 : BitVec 32 := 1#32
  let c1_i32_1092 : BitVec 32 := 1#32
  let v1228 : BitVec 32 := Scalar.muli c1_i32_1091 c1_i32_1092
  let v1229 : BitVec 32 := Scalar.addi c0_i32_1093 v1228
  v1229.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1093 : BitVec 32 := 0#32
  let c2_i32_1091 : BitVec 32 := 2#32
  let c1_i32_1092 : BitVec 32 := 1#32
  let v1228 : BitVec 32 := Scalar.muli c2_i32_1091 c1_i32_1092
  let v1229 : BitVec 32 := Scalar.addi c0_i32_1093 v1228
  v1229.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1093 : BitVec 32 := 0#32
  let c3_i32_1091 : BitVec 32 := 3#32
  let c1_i32_1092 : BitVec 32 := 1#32
  let v1228 : BitVec 32 := Scalar.muli c3_i32_1091 c1_i32_1092
  let v1229 : BitVec 32 := Scalar.addi c0_i32_1093 v1228
  v1229.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1093 : BitVec 32 := 0#32
  let c4_i32_1091 : BitVec 32 := 4#32
  let c1_i32_1092 : BitVec 32 := 1#32
  let v1228 : BitVec 32 := Scalar.muli c4_i32_1091 c1_i32_1092
  let v1229 : BitVec 32 := Scalar.addi c0_i32_1093 v1228
  v1229.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1093 : BitVec 32 := 0#32
  let c5_i32_1091 : BitVec 32 := 5#32
  let c1_i32_1092 : BitVec 32 := 1#32
  let v1228 : BitVec 32 := Scalar.muli c5_i32_1091 c1_i32_1092
  let v1229 : BitVec 32 := Scalar.addi c0_i32_1093 v1228
  v1229.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1093 : BitVec 32 := 0#32
  let c6_i32_1091 : BitVec 32 := 6#32
  let c1_i32_1092 : BitVec 32 := 1#32
  let v1228 : BitVec 32 := Scalar.muli c6_i32_1091 c1_i32_1092
  let v1229 : BitVec 32 := Scalar.addi c0_i32_1093 v1228
  v1229.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1093 : BitVec 32 := 0#32
  let c7_i32_1091 : BitVec 32 := 7#32
  let c1_i32_1092 : BitVec 32 := 1#32
  let v1228 : BitVec 32 := Scalar.muli c7_i32_1091 c1_i32_1092
  let v1229 : BitVec 32 := Scalar.addi c0_i32_1093 v1228
  v1229.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_1093 : BitVec 32 := 0#32
  let c8_i32_1091 : BitVec 32 := 8#32
  let c1_i32_1092 : BitVec 32 := 1#32
  let v1228 : BitVec 32 := Scalar.muli c8_i32_1091 c1_i32_1092
  let v1229 : BitVec 32 := Scalar.addi c0_i32_1093 v1228
  v1229.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_1093 : BitVec 32 := 0#32
  let c9_i32_1091 : BitVec 32 := 9#32
  let c1_i32_1092 : BitVec 32 := 1#32
  let v1228 : BitVec 32 := Scalar.muli c9_i32_1091 c1_i32_1092
  let v1229 : BitVec 32 := Scalar.addi c0_i32_1093 v1228
  v1229.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_1093 : BitVec 32 := 0#32
  let c10_i32_1091 : BitVec 32 := 10#32
  let c1_i32_1092 : BitVec 32 := 1#32
  let v1228 : BitVec 32 := Scalar.muli c10_i32_1091 c1_i32_1092
  let v1229 : BitVec 32 := Scalar.addi c0_i32_1093 v1228
  v1229.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_1093 : BitVec 32 := 0#32
  let c11_i32_1091 : BitVec 32 := 11#32
  let c1_i32_1092 : BitVec 32 := 1#32
  let v1228 : BitVec 32 := Scalar.muli c11_i32_1091 c1_i32_1092
  let v1229 : BitVec 32 := Scalar.addi c0_i32_1093 v1228
  v1229.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_1093 : BitVec 32 := 0#32
  let c12_i32_1091 : BitVec 32 := 12#32
  let c1_i32_1092 : BitVec 32 := 1#32
  let v1228 : BitVec 32 := Scalar.muli c12_i32_1091 c1_i32_1092
  let v1229 : BitVec 32 := Scalar.addi c0_i32_1093 v1228
  v1229.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_1093 : BitVec 32 := 0#32
  let c13_i32_1091 : BitVec 32 := 13#32
  let c1_i32_1092 : BitVec 32 := 1#32
  let v1228 : BitVec 32 := Scalar.muli c13_i32_1091 c1_i32_1092
  let v1229 : BitVec 32 := Scalar.addi c0_i32_1093 v1228
  v1229.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_1093 : BitVec 32 := 0#32
  let c14_i32_1091 : BitVec 32 := 14#32
  let c1_i32_1092 : BitVec 32 := 1#32
  let v1228 : BitVec 32 := Scalar.muli c14_i32_1091 c1_i32_1092
  let v1229 : BitVec 32 := Scalar.addi c0_i32_1093 v1228
  v1229.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_1093 : BitVec 32 := 0#32
  let c15_i32_1091 : BitVec 32 := 15#32
  let c1_i32_1092 : BitVec 32 := 1#32
  let v1228 : BitVec 32 := Scalar.muli c15_i32_1091 c1_i32_1092
  let v1229 : BitVec 32 := Scalar.addi c0_i32_1093 v1228
  v1229.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_20 : BitVec 32 := 0#32
  let v55 : BitVec 1 := Scalar.cmpi .ne v2 c0_i32_20
  let v56 : BitVec 32 := Scalar.extui v55
  let c0_i32_21 : BitVec 32 := 0#32
  let v57 : BitVec 1 := Scalar.cmpi .ne v56 c0_i32_21
  v57

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev17 : Nat :=
  let c0_i32_1093 : BitVec 32 := 0#32
  let c0_i32_1091 : BitVec 32 := 0#32
  let c1_i32_1092 : BitVec 32 := 1#32
  let v1228 : BitVec 32 := Scalar.muli c0_i32_1091 c1_i32_1092
  let v1229 : BitVec 32 := Scalar.addi c0_i32_1093 v1228
  v1229.toNat
def k0_dev18 : Nat :=
  let c0_i32_1105 : BitVec 32 := 0#32
  let c0_i32_1103 : BitVec 32 := 0#32
  let c1_i32_1104 : BitVec 32 := 1#32
  let v1237 : BitVec 32 := Scalar.muli c0_i32_1103 c1_i32_1104
  let v1238 : BitVec 32 := Scalar.addi c0_i32_1105 v1237
  v1238.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v61 : BitVec 1 := Scalar.cmpi .ne v2 c1_i32_24
  let v62 : BitVec 32 := Scalar.extui v61
  let c0_i32_25 : BitVec 32 := 0#32
  let v63 : BitVec 1 := Scalar.cmpi .ne v62 c0_i32_25
  v63

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev19 : Nat :=
  let c0_i32_1093 : BitVec 32 := 0#32
  let c1_i32_1091 : BitVec 32 := 1#32
  let c1_i32_1092 : BitVec 32 := 1#32
  let v1228 : BitVec 32 := Scalar.muli c1_i32_1091 c1_i32_1092
  let v1229 : BitVec 32 := Scalar.addi c0_i32_1093 v1228
  v1229.toNat
def k0_dev20 : Nat :=
  let c0_i32_1105 : BitVec 32 := 0#32
  let c1_i32_1103 : BitVec 32 := 1#32
  let c1_i32_1104 : BitVec 32 := 1#32
  let v1237 : BitVec 32 := Scalar.muli c1_i32_1103 c1_i32_1104
  let v1238 : BitVec 32 := Scalar.addi c0_i32_1105 v1237
  v1238.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_28 : BitVec 32 := 2#32
  let v67 : BitVec 1 := Scalar.cmpi .ne v2 c2_i32_28
  let v68 : BitVec 32 := Scalar.extui v67
  let c0_i32_29 : BitVec 32 := 0#32
  let v69 : BitVec 1 := Scalar.cmpi .ne v68 c0_i32_29
  v69

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev21 : Nat :=
  let c0_i32_1093 : BitVec 32 := 0#32
  let c2_i32_1091 : BitVec 32 := 2#32
  let c1_i32_1092 : BitVec 32 := 1#32
  let v1228 : BitVec 32 := Scalar.muli c2_i32_1091 c1_i32_1092
  let v1229 : BitVec 32 := Scalar.addi c0_i32_1093 v1228
  v1229.toNat
def k0_dev22 : Nat :=
  let c0_i32_1105 : BitVec 32 := 0#32
  let c2_i32_1103 : BitVec 32 := 2#32
  let c1_i32_1104 : BitVec 32 := 1#32
  let v1237 : BitVec 32 := Scalar.muli c2_i32_1103 c1_i32_1104
  let v1238 : BitVec 32 := Scalar.addi c0_i32_1105 v1237
  v1238.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_32 : BitVec 32 := 3#32
  let v73 : BitVec 1 := Scalar.cmpi .ne v2 c3_i32_32
  let v74 : BitVec 32 := Scalar.extui v73
  let c0_i32_33 : BitVec 32 := 0#32
  let v75 : BitVec 1 := Scalar.cmpi .ne v74 c0_i32_33
  v75

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev23 : Nat :=
  let c0_i32_1093 : BitVec 32 := 0#32
  let c3_i32_1091 : BitVec 32 := 3#32
  let c1_i32_1092 : BitVec 32 := 1#32
  let v1228 : BitVec 32 := Scalar.muli c3_i32_1091 c1_i32_1092
  let v1229 : BitVec 32 := Scalar.addi c0_i32_1093 v1228
  v1229.toNat
def k0_dev24 : Nat :=
  let c0_i32_1105 : BitVec 32 := 0#32
  let c3_i32_1103 : BitVec 32 := 3#32
  let c1_i32_1104 : BitVec 32 := 1#32
  let v1237 : BitVec 32 := Scalar.muli c3_i32_1103 c1_i32_1104
  let v1238 : BitVec 32 := Scalar.addi c0_i32_1105 v1237
  v1238.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_36 : BitVec 32 := 4#32
  let v79 : BitVec 1 := Scalar.cmpi .ne v2 c4_i32_36
  let v80 : BitVec 32 := Scalar.extui v79
  let c0_i32_37 : BitVec 32 := 0#32
  let v81 : BitVec 1 := Scalar.cmpi .ne v80 c0_i32_37
  v81

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev25 : Nat :=
  let c0_i32_1093 : BitVec 32 := 0#32
  let c4_i32_1091 : BitVec 32 := 4#32
  let c1_i32_1092 : BitVec 32 := 1#32
  let v1228 : BitVec 32 := Scalar.muli c4_i32_1091 c1_i32_1092
  let v1229 : BitVec 32 := Scalar.addi c0_i32_1093 v1228
  v1229.toNat
def k0_dev26 : Nat :=
  let c0_i32_1105 : BitVec 32 := 0#32
  let c4_i32_1103 : BitVec 32 := 4#32
  let c1_i32_1104 : BitVec 32 := 1#32
  let v1237 : BitVec 32 := Scalar.muli c4_i32_1103 c1_i32_1104
  let v1238 : BitVec 32 := Scalar.addi c0_i32_1105 v1237
  v1238.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_40 : BitVec 32 := 5#32
  let v85 : BitVec 1 := Scalar.cmpi .ne v2 c5_i32_40
  let v86 : BitVec 32 := Scalar.extui v85
  let c0_i32_41 : BitVec 32 := 0#32
  let v87 : BitVec 1 := Scalar.cmpi .ne v86 c0_i32_41
  v87

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev27 : Nat :=
  let c0_i32_1093 : BitVec 32 := 0#32
  let c5_i32_1091 : BitVec 32 := 5#32
  let c1_i32_1092 : BitVec 32 := 1#32
  let v1228 : BitVec 32 := Scalar.muli c5_i32_1091 c1_i32_1092
  let v1229 : BitVec 32 := Scalar.addi c0_i32_1093 v1228
  v1229.toNat
def k0_dev28 : Nat :=
  let c0_i32_1104 : BitVec 32 := 0#32
  let c5_i32_1102 : BitVec 32 := 5#32
  let c1_i32_1103 : BitVec 32 := 1#32
  let v1237 : BitVec 32 := Scalar.muli c5_i32_1102 c1_i32_1103
  let v1238 : BitVec 32 := Scalar.addi c0_i32_1104 v1237
  v1238.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_44 : BitVec 32 := 6#32
  let v91 : BitVec 1 := Scalar.cmpi .ne v2 c6_i32_44
  let v92 : BitVec 32 := Scalar.extui v91
  let c0_i32_45 : BitVec 32 := 0#32
  let v93 : BitVec 1 := Scalar.cmpi .ne v92 c0_i32_45
  v93

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev29 : Nat :=
  let c0_i32_1093 : BitVec 32 := 0#32
  let c6_i32_1091 : BitVec 32 := 6#32
  let c1_i32_1092 : BitVec 32 := 1#32
  let v1228 : BitVec 32 := Scalar.muli c6_i32_1091 c1_i32_1092
  let v1229 : BitVec 32 := Scalar.addi c0_i32_1093 v1228
  v1229.toNat
def k0_dev30 : Nat :=
  let c0_i32_1104 : BitVec 32 := 0#32
  let c6_i32_1102 : BitVec 32 := 6#32
  let c1_i32_1103 : BitVec 32 := 1#32
  let v1237 : BitVec 32 := Scalar.muli c6_i32_1102 c1_i32_1103
  let v1238 : BitVec 32 := Scalar.addi c0_i32_1104 v1237
  v1238.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_48 : BitVec 32 := 7#32
  let v97 : BitVec 1 := Scalar.cmpi .ne v2 c7_i32_48
  let v98 : BitVec 32 := Scalar.extui v97
  let c0_i32_49 : BitVec 32 := 0#32
  let v99 : BitVec 1 := Scalar.cmpi .ne v98 c0_i32_49
  v99

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev31 : Nat :=
  let c0_i32_1093 : BitVec 32 := 0#32
  let c7_i32_1091 : BitVec 32 := 7#32
  let c1_i32_1092 : BitVec 32 := 1#32
  let v1228 : BitVec 32 := Scalar.muli c7_i32_1091 c1_i32_1092
  let v1229 : BitVec 32 := Scalar.addi c0_i32_1093 v1228
  v1229.toNat
def k0_dev32 : Nat :=
  let c0_i32_1104 : BitVec 32 := 0#32
  let c7_i32_1102 : BitVec 32 := 7#32
  let c1_i32_1103 : BitVec 32 := 1#32
  let v1237 : BitVec 32 := Scalar.muli c7_i32_1102 c1_i32_1103
  let v1238 : BitVec 32 := Scalar.addi c0_i32_1104 v1237
  v1238.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_52 : BitVec 32 := 8#32
  let v103 : BitVec 1 := Scalar.cmpi .ne v2 c8_i32_52
  let v104 : BitVec 32 := Scalar.extui v103
  let c0_i32_53 : BitVec 32 := 0#32
  let v105 : BitVec 1 := Scalar.cmpi .ne v104 c0_i32_53
  v105

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev33 : Nat :=
  let c0_i32_1093 : BitVec 32 := 0#32
  let c8_i32_1091 : BitVec 32 := 8#32
  let c1_i32_1092 : BitVec 32 := 1#32
  let v1228 : BitVec 32 := Scalar.muli c8_i32_1091 c1_i32_1092
  let v1229 : BitVec 32 := Scalar.addi c0_i32_1093 v1228
  v1229.toNat
def k0_dev34 : Nat :=
  let c0_i32_1104 : BitVec 32 := 0#32
  let c8_i32_1102 : BitVec 32 := 8#32
  let c1_i32_1103 : BitVec 32 := 1#32
  let v1237 : BitVec 32 := Scalar.muli c8_i32_1102 c1_i32_1103
  let v1238 : BitVec 32 := Scalar.addi c0_i32_1104 v1237
  v1238.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_56 : BitVec 32 := 9#32
  let v109 : BitVec 1 := Scalar.cmpi .ne v2 c9_i32_56
  let v110 : BitVec 32 := Scalar.extui v109
  let c0_i32_57 : BitVec 32 := 0#32
  let v111 : BitVec 1 := Scalar.cmpi .ne v110 c0_i32_57
  v111

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev35 : Nat :=
  let c0_i32_1093 : BitVec 32 := 0#32
  let c9_i32_1091 : BitVec 32 := 9#32
  let c1_i32_1092 : BitVec 32 := 1#32
  let v1228 : BitVec 32 := Scalar.muli c9_i32_1091 c1_i32_1092
  let v1229 : BitVec 32 := Scalar.addi c0_i32_1093 v1228
  v1229.toNat
def k0_dev36 : Nat :=
  let c0_i32_1104 : BitVec 32 := 0#32
  let c9_i32_1102 : BitVec 32 := 9#32
  let c1_i32_1103 : BitVec 32 := 1#32
  let v1237 : BitVec 32 := Scalar.muli c9_i32_1102 c1_i32_1103
  let v1238 : BitVec 32 := Scalar.addi c0_i32_1104 v1237
  v1238.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_60 : BitVec 32 := 10#32
  let v115 : BitVec 1 := Scalar.cmpi .ne v2 c10_i32_60
  let v116 : BitVec 32 := Scalar.extui v115
  let c0_i32_61 : BitVec 32 := 0#32
  let v117 : BitVec 1 := Scalar.cmpi .ne v116 c0_i32_61
  v117

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev37 : Nat :=
  let c0_i32_1093 : BitVec 32 := 0#32
  let c10_i32_1091 : BitVec 32 := 10#32
  let c1_i32_1092 : BitVec 32 := 1#32
  let v1228 : BitVec 32 := Scalar.muli c10_i32_1091 c1_i32_1092
  let v1229 : BitVec 32 := Scalar.addi c0_i32_1093 v1228
  v1229.toNat
def k0_dev38 : Nat :=
  let c0_i32_1104 : BitVec 32 := 0#32
  let c10_i32_1102 : BitVec 32 := 10#32
  let c1_i32_1103 : BitVec 32 := 1#32
  let v1237 : BitVec 32 := Scalar.muli c10_i32_1102 c1_i32_1103
  let v1238 : BitVec 32 := Scalar.addi c0_i32_1104 v1237
  v1238.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_64 : BitVec 32 := 11#32
  let v121 : BitVec 1 := Scalar.cmpi .ne v2 c11_i32_64
  let v122 : BitVec 32 := Scalar.extui v121
  let c0_i32_65 : BitVec 32 := 0#32
  let v123 : BitVec 1 := Scalar.cmpi .ne v122 c0_i32_65
  v123

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev39 : Nat :=
  let c0_i32_1093 : BitVec 32 := 0#32
  let c11_i32_1091 : BitVec 32 := 11#32
  let c1_i32_1092 : BitVec 32 := 1#32
  let v1228 : BitVec 32 := Scalar.muli c11_i32_1091 c1_i32_1092
  let v1229 : BitVec 32 := Scalar.addi c0_i32_1093 v1228
  v1229.toNat
def k0_dev40 : Nat :=
  let c0_i32_1104 : BitVec 32 := 0#32
  let c11_i32_1102 : BitVec 32 := 11#32
  let c1_i32_1103 : BitVec 32 := 1#32
  let v1237 : BitVec 32 := Scalar.muli c11_i32_1102 c1_i32_1103
  let v1238 : BitVec 32 := Scalar.addi c0_i32_1104 v1237
  v1238.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_68 : BitVec 32 := 12#32
  let v127 : BitVec 1 := Scalar.cmpi .ne v2 c12_i32_68
  let v128 : BitVec 32 := Scalar.extui v127
  let c0_i32_69 : BitVec 32 := 0#32
  let v129 : BitVec 1 := Scalar.cmpi .ne v128 c0_i32_69
  v129

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev41 : Nat :=
  let c0_i32_1093 : BitVec 32 := 0#32
  let c12_i32_1091 : BitVec 32 := 12#32
  let c1_i32_1092 : BitVec 32 := 1#32
  let v1228 : BitVec 32 := Scalar.muli c12_i32_1091 c1_i32_1092
  let v1229 : BitVec 32 := Scalar.addi c0_i32_1093 v1228
  v1229.toNat
def k0_dev42 : Nat :=
  let c0_i32_1104 : BitVec 32 := 0#32
  let c12_i32_1102 : BitVec 32 := 12#32
  let c1_i32_1103 : BitVec 32 := 1#32
  let v1237 : BitVec 32 := Scalar.muli c12_i32_1102 c1_i32_1103
  let v1238 : BitVec 32 := Scalar.addi c0_i32_1104 v1237
  v1238.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_72 : BitVec 32 := 13#32
  let v133 : BitVec 1 := Scalar.cmpi .ne v2 c13_i32_72
  let v134 : BitVec 32 := Scalar.extui v133
  let c0_i32_73 : BitVec 32 := 0#32
  let v135 : BitVec 1 := Scalar.cmpi .ne v134 c0_i32_73
  v135

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev43 : Nat :=
  let c0_i32_1093 : BitVec 32 := 0#32
  let c13_i32_1091 : BitVec 32 := 13#32
  let c1_i32_1092 : BitVec 32 := 1#32
  let v1228 : BitVec 32 := Scalar.muli c13_i32_1091 c1_i32_1092
  let v1229 : BitVec 32 := Scalar.addi c0_i32_1093 v1228
  v1229.toNat
def k0_dev44 : Nat :=
  let c0_i32_1104 : BitVec 32 := 0#32
  let c13_i32_1102 : BitVec 32 := 13#32
  let c1_i32_1103 : BitVec 32 := 1#32
  let v1237 : BitVec 32 := Scalar.muli c13_i32_1102 c1_i32_1103
  let v1238 : BitVec 32 := Scalar.addi c0_i32_1104 v1237
  v1238.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v139 : BitVec 1 := Scalar.cmpi .ne v2 c14_i32_76
  let v140 : BitVec 32 := Scalar.extui v139
  let c0_i32_77 : BitVec 32 := 0#32
  let v141 : BitVec 1 := Scalar.cmpi .ne v140 c0_i32_77
  v141

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev45 : Nat :=
  let c0_i32_1093 : BitVec 32 := 0#32
  let c14_i32_1091 : BitVec 32 := 14#32
  let c1_i32_1092 : BitVec 32 := 1#32
  let v1228 : BitVec 32 := Scalar.muli c14_i32_1091 c1_i32_1092
  let v1229 : BitVec 32 := Scalar.addi c0_i32_1093 v1228
  v1229.toNat
def k0_dev46 : Nat :=
  let c0_i32_1104 : BitVec 32 := 0#32
  let c14_i32_1102 : BitVec 32 := 14#32
  let c1_i32_1103 : BitVec 32 := 1#32
  let v1237 : BitVec 32 := Scalar.muli c14_i32_1102 c1_i32_1103
  let v1238 : BitVec 32 := Scalar.addi c0_i32_1104 v1237
  v1238.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_80 : BitVec 32 := 15#32
  let v145 : BitVec 1 := Scalar.cmpi .ne v2 c15_i32_80
  let v146 : BitVec 32 := Scalar.extui v145
  let c0_i32_81 : BitVec 32 := 0#32
  let v147 : BitVec 1 := Scalar.cmpi .ne v146 c0_i32_81
  v147

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1094 : BitVec 32 := 0#32
  let c0_i32_1095 : BitVec 32 := 0#32
  let c0_i32_1096 : BitVec 32 := 0#32
  let c0_i32_1097 : BitVec 32 := 0#32
  ![v2.toNat, 0, 0, 0, 0]
def k0_dev47 : Nat :=
  let c0_i32_1093 : BitVec 32 := 0#32
  let c15_i32_1091 : BitVec 32 := 15#32
  let c1_i32_1092 : BitVec 32 := 1#32
  let v1228 : BitVec 32 := Scalar.muli c15_i32_1091 c1_i32_1092
  let v1229 : BitVec 32 := Scalar.addi c0_i32_1093 v1228
  v1229.toNat
def k0_dev48 : Nat :=
  let c0_i32_1104 : BitVec 32 := 0#32
  let c15_i32_1102 : BitVec 32 := 15#32
  let c1_i32_1103 : BitVec 32 := 1#32
  let v1237 : BitVec 32 := Scalar.muli c15_i32_1102 c1_i32_1103
  let v1238 : BitVec 32 := Scalar.addi c0_i32_1104 v1237
  v1238.toNat
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_922 : BitVec 32 := 0#32
  let v1080 : BitVec 1 := Scalar.cmpi .ne v2 c0_i32_922
  let v1081 : BitVec 32 := Scalar.extui v1080
  let c0_i32_923 : BitVec 32 := 0#32
  let v1082 : BitVec 1 := Scalar.cmpi .ne v1081 c0_i32_923
  v1082

def k0_off33 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1097 : BitVec 32 := 0#32
  let c0_i32_1098 : BitVec 32 := 0#32
  let c0_i32_1099 : BitVec 32 := 0#32
  let c0_i32_1100 : BitVec 32 := 0#32
  ![v2.toNat, 0, 0, 0, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_924 : BitVec 32 := 1#32
  let v1083 : BitVec 1 := Scalar.cmpi .ne v2 c1_i32_924
  let v1084 : BitVec 32 := Scalar.extui v1083
  let c0_i32_925 : BitVec 32 := 0#32
  let v1085 : BitVec 1 := Scalar.cmpi .ne v1084 c0_i32_925
  v1085

def k0_off34 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1097 : BitVec 32 := 0#32
  let c0_i32_1098 : BitVec 32 := 0#32
  let c0_i32_1099 : BitVec 32 := 0#32
  let c0_i32_1100 : BitVec 32 := 0#32
  ![v2.toNat, 0, 0, 0, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_926 : BitVec 32 := 2#32
  let v1086 : BitVec 1 := Scalar.cmpi .ne v2 c2_i32_926
  let v1087 : BitVec 32 := Scalar.extui v1086
  let c0_i32_927 : BitVec 32 := 0#32
  let v1088 : BitVec 1 := Scalar.cmpi .ne v1087 c0_i32_927
  v1088

def k0_off35 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1097 : BitVec 32 := 0#32
  let c0_i32_1098 : BitVec 32 := 0#32
  let c0_i32_1099 : BitVec 32 := 0#32
  let c0_i32_1100 : BitVec 32 := 0#32
  ![v2.toNat, 0, 0, 0, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_928 : BitVec 32 := 3#32
  let v1089 : BitVec 1 := Scalar.cmpi .ne v2 c3_i32_928
  let v1090 : BitVec 32 := Scalar.extui v1089
  let c0_i32_929 : BitVec 32 := 0#32
  let v1091 : BitVec 1 := Scalar.cmpi .ne v1090 c0_i32_929
  v1091

def k0_off36 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1097 : BitVec 32 := 0#32
  let c0_i32_1098 : BitVec 32 := 0#32
  let c0_i32_1099 : BitVec 32 := 0#32
  let c0_i32_1100 : BitVec 32 := 0#32
  ![v2.toNat, 0, 0, 0, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_930 : BitVec 32 := 4#32
  let v1092 : BitVec 1 := Scalar.cmpi .ne v2 c4_i32_930
  let v1093 : BitVec 32 := Scalar.extui v1092
  let c0_i32_931 : BitVec 32 := 0#32
  let v1094 : BitVec 1 := Scalar.cmpi .ne v1093 c0_i32_931
  v1094

def k0_off37 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1097 : BitVec 32 := 0#32
  let c0_i32_1098 : BitVec 32 := 0#32
  let c0_i32_1099 : BitVec 32 := 0#32
  let c0_i32_1100 : BitVec 32 := 0#32
  ![v2.toNat, 0, 0, 0, 0]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_932 : BitVec 32 := 5#32
  let v1095 : BitVec 1 := Scalar.cmpi .ne v2 c5_i32_932
  let v1096 : BitVec 32 := Scalar.extui v1095
  let c0_i32_933 : BitVec 32 := 0#32
  let v1097 : BitVec 1 := Scalar.cmpi .ne v1096 c0_i32_933
  v1097

def k0_off38 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_934 : BitVec 32 := 6#32
  let v1098 : BitVec 1 := Scalar.cmpi .ne v2 c6_i32_934
  let v1099 : BitVec 32 := Scalar.extui v1098
  let c0_i32_935 : BitVec 32 := 0#32
  let v1100 : BitVec 1 := Scalar.cmpi .ne v1099 c0_i32_935
  v1100

def k0_off39 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_936 : BitVec 32 := 7#32
  let v1101 : BitVec 1 := Scalar.cmpi .ne v2 c7_i32_936
  let v1102 : BitVec 32 := Scalar.extui v1101
  let c0_i32_937 : BitVec 32 := 0#32
  let v1103 : BitVec 1 := Scalar.cmpi .ne v1102 c0_i32_937
  v1103

def k0_off40 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_938 : BitVec 32 := 8#32
  let v1104 : BitVec 1 := Scalar.cmpi .ne v2 c8_i32_938
  let v1105 : BitVec 32 := Scalar.extui v1104
  let c0_i32_939 : BitVec 32 := 0#32
  let v1106 : BitVec 1 := Scalar.cmpi .ne v1105 c0_i32_939
  v1106

def k0_off41 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_940 : BitVec 32 := 9#32
  let v1107 : BitVec 1 := Scalar.cmpi .ne v2 c9_i32_940
  let v1108 : BitVec 32 := Scalar.extui v1107
  let c0_i32_941 : BitVec 32 := 0#32
  let v1109 : BitVec 1 := Scalar.cmpi .ne v1108 c0_i32_941
  v1109

def k0_off42 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_942 : BitVec 32 := 10#32
  let v1110 : BitVec 1 := Scalar.cmpi .ne v2 c10_i32_942
  let v1111 : BitVec 32 := Scalar.extui v1110
  let c0_i32_943 : BitVec 32 := 0#32
  let v1112 : BitVec 1 := Scalar.cmpi .ne v1111 c0_i32_943
  v1112

def k0_off43 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_944 : BitVec 32 := 11#32
  let v1113 : BitVec 1 := Scalar.cmpi .ne v2 c11_i32_944
  let v1114 : BitVec 32 := Scalar.extui v1113
  let c0_i32_945 : BitVec 32 := 0#32
  let v1115 : BitVec 1 := Scalar.cmpi .ne v1114 c0_i32_945
  v1115

def k0_off44 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_946 : BitVec 32 := 12#32
  let v1116 : BitVec 1 := Scalar.cmpi .ne v2 c12_i32_946
  let v1117 : BitVec 32 := Scalar.extui v1116
  let c0_i32_947 : BitVec 32 := 0#32
  let v1118 : BitVec 1 := Scalar.cmpi .ne v1117 c0_i32_947
  v1118

def k0_off45 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_948 : BitVec 32 := 13#32
  let v1119 : BitVec 1 := Scalar.cmpi .ne v2 c13_i32_948
  let v1120 : BitVec 32 := Scalar.extui v1119
  let c0_i32_949 : BitVec 32 := 0#32
  let v1121 : BitVec 1 := Scalar.cmpi .ne v1120 c0_i32_949
  v1121

def k0_off46 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_950 : BitVec 32 := 14#32
  let v1122 : BitVec 1 := Scalar.cmpi .ne v2 c14_i32_950
  let v1123 : BitVec 32 := Scalar.extui v1122
  let c0_i32_951 : BitVec 32 := 0#32
  let v1124 : BitVec 1 := Scalar.cmpi .ne v1123 c0_i32_951
  v1124

def k0_off47 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_952 : BitVec 32 := 15#32
  let v1125 : BitVec 1 := Scalar.cmpi .ne v2 c15_i32_952
  let v1126 : BitVec 32 := Scalar.extui v1125
  let c0_i32_953 : BitVec 32 := 0#32
  let v1127 : BitVec 1 := Scalar.cmpi .ne v1126 c0_i32_953
  v1127

def k0_off48 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1096 : BitVec 32 := 0#32
  let c0_i32_1097 : BitVec 32 := 0#32
  let c0_i32_1098 : BitVec 32 := 0#32
  let c0_i32_1099 : BitVec 32 := 0#32
  ![v2.toNat, 0, 0, 0, 0]
def k0_dev49 (d0 : Dev nD) : Nat :=
  let c0_i32_959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_954 : BitVec 32 := 1#32
  let v1128 : BitVec 32 := Scalar.xori v2 c1_i32_954
  let c1_i32_958 : BitVec 32 := 1#32
  let v1129 : BitVec 32 := Scalar.muli v1128 c1_i32_958
  let v1130 : BitVec 32 := Scalar.addi c0_i32_959 v1129
  v1130.toNat
def k0_dev50 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_988 : BitVec 32 := 2#32
  let v1153 : BitVec 32 := Scalar.xori v2 c2_i32_988
  let c1_i32_992 : BitVec 32 := 1#32
  let v1154 : BitVec 32 := Scalar.muli v1153 c1_i32_992
  let v1155 : BitVec 32 := Scalar.addi c0_i32_993 v1154
  v1155.toNat
def k0_dev51 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1022 : BitVec 32 := 4#32
  let v1178 : BitVec 32 := Scalar.xori v2 c4_i32_1022
  let c1_i32_1026 : BitVec 32 := 1#32
  let v1179 : BitVec 32 := Scalar.muli v1178 c1_i32_1026
  let v1180 : BitVec 32 := Scalar.addi c0_i32_1027 v1179
  v1180.toNat
def k0_dev52 (d0 : Dev nD) : Nat :=
  let c0_i32_1061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1056 : BitVec 32 := 8#32
  let v1203 : BitVec 32 := Scalar.xori v2 c8_i32_1056
  let c1_i32_1060 : BitVec 32 := 1#32
  let v1204 : BitVec 32 := Scalar.muli v1203 c1_i32_1060
  let v1205 : BitVec 32 := Scalar.addi c0_i32_1061 v1204
  v1205.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x512 : Shape := ⟨3, ![2, 256, 512]⟩
abbrev S512x4096 : Shape := ⟨2, ![512, 4096]⟩
abbrev S2x4096x64x64 : Shape := ⟨4, ![2, 4096, 64, 64]⟩
abbrev S4096x512 : Shape := ⟨2, ![4096, 512]⟩
abbrev S2x256x4096 : Shape := ⟨3, ![2, 256, 4096]⟩
abbrev S2x256x64x64 : Shape := ⟨4, ![2, 256, 64, 64]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S2x64x256x4096 : Shape := ⟨4, ![2, 64, 256, 4096]⟩
abbrev S1x1x256x4096 : Shape := ⟨4, ![1, 1, 256, 4096]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 137
  | .vmem => 0
  | .smem => 0
  | _ => 0

abbrev hbmTy0_0 (i : Nat) : BufTy := match i % 128 with
  | 0 => ⟨S2x256x512, .f32⟩
  | 1 => ⟨S512x4096, .f32⟩
  | 2 => ⟨S2x4096x64x64, .f32⟩
  | 3 => ⟨S2x4096x64x64, .f32⟩
  | 4 => ⟨S4096x512, .f32⟩
  | 5 => ⟨S2x256x4096, .f32⟩
  | 6 => ⟨S2x256x64x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S256x4096, .i32⟩
  | 48 => ⟨S256x4096, .i32⟩
  | 49 => ⟨S256x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x4096, .i32⟩
  | 95 => ⟨S256x4096, .i32⟩
  | 96 => ⟨S256x4096, .i1⟩
  | 97 => ⟨S256x4096, .i1⟩
  | 98 => ⟨S2x64x256x4096, .f32⟩
  | 99 => ⟨S_, .f32⟩
  | 100 => ⟨S2x64x256x4096, .f32⟩
  | 101 => ⟨S2x64x256x4096, .f32⟩
  | 102 => ⟨S1x1x256x4096, .i1⟩
  | 103 => ⟨S_, .f32⟩
  | 104 => ⟨S_, .f32⟩
  | 105 => ⟨S2x64x256x4096, .i1⟩
  | 106 => ⟨S2x64x256x4096, .f32⟩
  | 107 => ⟨S2x64x256x4096, .f32⟩
  | 108 => ⟨S_, .f32⟩
  | 109 => ⟨S2x64x256, .f32⟩
  | 110 => ⟨S2x64x256x1, .f32⟩
  | 111 => ⟨S2x64x256x4096, .f32⟩
  | 112 => ⟨S2x64x256x4096, .f32⟩
  | 113 => ⟨S2x64x256x4096, .f32⟩
  | 114 => ⟨S_, .i1⟩
  | 115 => ⟨S256, .i1⟩
  | 116 => ⟨S1x1x256x1, .i1⟩
  | 117 => ⟨S_, .f32⟩
  | 118 => ⟨S2x64x256, .f32⟩
  | 119 => ⟨S2x64x256x1, .f32⟩
  | 120 => ⟨S_, .f32⟩
  | 121 => ⟨S_, .f32⟩
  | 122 => ⟨S2x64x256x1, .i1⟩
  | 123 => ⟨S2x64x256x1, .f32⟩
  | 124 => ⟨S2x64x256x1, .f32⟩
  | 125 => ⟨S2x64x256x4096, .f32⟩
  | 126 => ⟨S2x64x256x4096, .f32⟩
  | 127 => ⟨S1x1x256x1, .i1⟩
  | _ => ⟨S2x256x512, .f32⟩

abbrev hbmTy0_1 (i : Nat) : BufTy := match i % 128 with
  | 0 => ⟨S_, .f32⟩
  | 1 => ⟨S_, .f32⟩
  | 2 => ⟨S2x64x256x4096, .i1⟩
  | 3 => ⟨S2x64x256x4096, .f32⟩
  | 4 => ⟨S2x64x256x4096, .f32⟩
  | 5 => ⟨S2x64x64x256, .f32⟩
  | 6 => ⟨S2x256x64x64, .f32⟩
  | 7 => ⟨S2x256x4096, .f32⟩
  | 8 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Contents.lean ====
/-
What the kernel's buffers hold, as closed functions of the launch memory, for any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Value

@[expose] public section

noncomputable section

namespace Cert.Attn

open Cert.KernelIdeal Cert.KernelIdeal.Gen
open Idealize.ShloMosaic Idealize.ShloMosaic.TcCoe

variable {F : FTy → Type} [FloatOps F]

variable (m : (ℓ : Loc nD τ sig) → Buf (Elt F) ℓ)

/-! ## The exchanged arrays -/

/-- The argument a device exchanges: `false` the keys, `true` the values. -/
abbrev srcRef : Bool → Ref sig .tc | false => main_arg2 | true => main_arg3
/-- Where it is gathered. -/
abbrev allRef : Bool → Ref sig .tc | false => cc0_scratch1 | true => cc0_scratch2

abbrev srcM : Bool → Memref sig .tc .hbm S2x256x64x64 .f32 | false => Memref.whole main_arg2 | true => Memref.whole main_arg3
abbrev allM : Bool → Memref sig .tc .vmem S16x2x256x4x64 .f32 | false => Memref.whole cc0_scratch1 | true => Memref.whole cc0_scratch2

/-- Device `c`'s own keys (values): the argument as launched. -/
def kv (b : Bool) (c : Dev nD) : S2x256x64x64.Idx → F .f32 :=
  match b with
  | false => m ((c : Thread nD τ).loc main_arg2)
  | true => m ((c : Thread nD τ).loc main_arg3)

/-- Where element `i` of device `c`'s gathered buffer comes from in device `i 0`'s argument: the same batch and position,
    head `4 c + i 3`. -/
def srcIx (c : Dev nD) (i : S16x2x256x4x64.Idx) : S2x256x64x64.Idx := fun
  | 0 => i 1
  | 1 => i 2
  | 2 => ⟨4 * c.val + (i 3).val, by have h1 : c.val < 16 := c.isLt; have h2 : (i 3).val < 4 := (i 3).isLt; show _ < 64; omega⟩
  | 3 => i 4

/-- Device `c`'s gathered keys (values): slot `j` holds device `j`'s block of heads `4 c .. 4 c + 3`. -/
def allAt (b : Bool) (c : Dev nD) : S16x2x256x4x64.Idx → F .f32 := fun i => kv m b (i 0) (srcIx c i)

/-! ## The staged operands -/

def xAt (c : Dev nD) : S2x256x512.Idx → F .f32 := (win0_0.blk (0 : Fin 1)).view.read (Elt F) (m ((c : Thread nD τ).loc main_arg0))
def wqAt (c : Dev nD) : S512x256.Idx → F .f32 := (win0_1.blk (0 : Fin 1)).view.read (Elt F) (m ((c : Thread nD τ).loc main_arg1))
def woAt (c : Dev nD) : S256x512.Idx → F .f32 := (win0_2.blk (0 : Fin 1)).view.read (Elt F) (m ((c : Thread nD τ).loc main_arg4))

/-! ## The rectangles read and written -/

abbrev rX (b : Fin 2) : Rect S2x256x512 := Rect.unit (s := S2x256x512) ![b.val, 0, 0] S1x256x512.size (by intro a; fin_cases a <;> fin_cases b <;> decide)
abbrev rWq : Rect S512x256 := Rect.unit (s := S512x256) ![0, 0] S512x256.size inb_S512x256_S512x256_0_0
abbrev rQ (b : Fin 2) : Rect S2x256x256 := Rect.unit (s := S2x256x256) ![b.val, 0, 0] S1x256x256.size (by intro a; fin_cases a <;> fin_cases b <;> decide)
/-- The queries of batch `b`, block `g` of 64 positions, head `h`. -/
abbrev rQt (b : Fin 2) (g h : Fin 4) : Rect S2x256x256 :=
  Rect.unit (s := S2x256x256) ![b.val, 64 * g.val, 64 * h.val] S1x64x64.size (by intro a; fin_cases a <;> fin_cases b <;> fin_cases g <;> fin_cases h <;> decide)
/-- The gathered keys (values) of every device, batch `b`, block `g` of 64 positions, head `h`. -/
abbrev rKt (b : Fin 2) (g h : Fin 4) : Rect S16x2x256x4x64 :=
  Rect.unit (s := S16x2x256x4x64) ![0, b.val, 64 * g.val, h.val, 0] S16x1x64x1x64.size (by intro a; fin_cases a <;> fin_cases b <;> fin_cases g <;> fin_cases h <;> decide)
abbrev rCt (b : Fin 2) (g h : Fin 4) : Rect S2x256x4x64 :=
  Rect.unit (s := S2x256x4x64) ![b.val, 64 * g.val, h.val, 0] S1x64x1x64.size (by intro a; fin_cases a <;> fin_cases b <;> fin_cases g <;> fin_cases h <;> decide)
/-- The context of batch `b`, head `h`. -/
abbrev rCh (b : Fin 2) (h : Fin 4) : Rect S2x256x4x64 :=
  Rect.unit (s := S2x256x4x64) ![b.val, 0, h.val, 0] S1x256x1x64.size (by intro a; fin_cases a <;> fin_cases b <;> fin_cases h <;> decide)
abbrev rWo (h : Fin 4) : Rect S256x512 := Rect.unit (s := S256x512) ![64 * h.val, 0] S64x512.size (by intro a; fin_cases a <;> fin_cases h <;> decide)
abbrev rA (s : Fin 4) : Rect S4x2x256x512 := Rect.unit (s := S4x2x256x512) ![s.val, 0, 0, 0] S1x2x256x512.size (by intro a; fin_cases a <;> fin_cases s <;> decide)

/-! ## The queries, the context, the local product -/

/-- The queries of batch `b`. -/
def qRow (c : Dev nD) (b : Fin 2) : FVec F S1x256x256 .f32 := k0_pay2 (View.ld (xAt m c) (rX b)) (View.ld (wqAt m c) rWq)

/-- The query buffer: each batch its product. -/
def qAt (c : Dev nD) : S2x256x256.Idx → F .f32 := fun i =>
  qRow m c (i 0) (fun | 0 => (0 : Fin 1) | 1 => i 1 | 2 => i 2)

/-- One tile of attention: 64 queries over the 1024 keys of its positions' block on every device. -/
def tile (c : Dev nD) (b : Fin 2) (g h : Fin 4) : FVec F S1x64x1x64 .f32 :=
  k0_pay12 (View.ld (qAt m c) (rQt b g h)) (View.ld (allAt m false c) (rKt b g h)) (View.ld (allAt m true c) (rKt b g h))

/-- The context buffer, tile by tile. -/
def ctxAt (c : Dev nD) : S2x256x4x64.Idx → F .f32 := fun i =>
  tile m c (i 0) ⟨(i 1).val / 64, by have h : (i 1).val < 256 := (i 1).isLt; omega⟩ (i 2)
    (fun | 0 => (0 : Fin 1) | 1 => (⟨(i 1).val % 64, Nat.mod_lt _ (by decide)⟩ : Fin 64) | 2 => (0 : Fin 1) | 3 => i 3)

/-- Batch `b` of the local product. -/
def outRow (c : Dev nD) (b : Fin 2) : FVec F S1x256x512 .f32 :=
  k0_pay69 (k0_pay68 (View.ld (ctxAt m c) (rCh b 0)) (View.ld (woAt m c) (rWo 0)))
    (View.ld (ctxAt m c) (rCh b 1)) (View.ld (woAt m c) (rWo 1)) (View.ld (ctxAt m c) (rCh b 2)) (View.ld (woAt m c) (rWo 2))
    (View.ld (ctxAt m c) (rCh b 3)) (View.ld (woAt m c) (rWo 3))

/-- The local product: device `c`'s four heads' share of the output. -/
def outAt (c : Dev nD) : S2x256x512.Idx → F .f32 := fun i =>
  outRow m c (i 0) (fun | 0 => (0 : Fin 1) | 1 => i 1 | 2 => i 2)

/-! ## The all-reduce -/

/-- Device `c`'s partner in round `s`: bit `s` of its number flipped. -/
def par (s : ℕ) (c : Dev nD) : Dev nD := ⟨(c.val ^^^ (2 ^ s)) % 16, Nat.mod_lt _ (by decide)⟩

/-- A partner's partner is the device itself. -/
theorem par_par : ∀ (s : Fin 4) (c : Dev nD), par s (par s c) = c := by decide
/-- No device is its own partner. -/
theorem par_ne : ∀ (s : Fin 4) (c : Dev nD), par s c ≠ c := by decide

/-- The pointwise sum the rounds form. -/
def addP (x y : S2x256x512.Idx → F .f32) : S2x256x512.Idx → F .f32 := k0_pay1 x (fun i => y (fun | 0 => i 1 | 1 => i 2 | 2 => i 3))

/-- The running sum after `s` rounds. -/
def acc : ℕ → Dev nD → S2x256x512.Idx → F .f32
  | 0, c => outAt m c
  | s + 1, c => addP (acc s c) (acc s (par s c))

/-- The landing buffer of the all-reduce: slot `s` holds the round's partner's running sum. -/
def arAt (c : Dev nD) : S4x2x256x512.Idx → F .f32 := fun i =>
  acc m (i 0).val (par (i 0).val c) (fun | 0 => i 1 | 1 => i 2 | 2 => i 3)

end Cert.Attn

end
-- ==== Proof.Cells.lean ====
/-
The exchange's cells: their semaphores, what each pays and is paid, what a device owes at launch, and the levels that order the waits.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Kinds of cell -/

/-- The kernel's own cells: the sends of keys and values to a device, their landings from a device, the two local copies,
    the all-reduce's sends, its landings. -/
abbrev OwnK : Type := ((Bool × Dev nD) ⊕ (Bool × Dev nD)) ⊕ (Bool ⊕ (Fin 4 ⊕ Fin 4))
/-- All cells of a device: the entry barrier's first. -/
abbrev CK : Type := Unit ⊕ OwnK

instance : DecidableEq CK := inferInstance
instance : DecidableEq (Dev nD × CK) := instDecidableEqProd

@[match_pattern] abbrev kbar : CK := .inl ()
@[match_pattern] abbrev ksnd (b : Bool) (d : Dev nD) : CK := .inr (.inl (.inl (b, d)))
@[match_pattern] abbrev krcv (b : Bool) (d : Dev nD) : CK := .inr (.inl (.inr (b, d)))
@[match_pattern] abbrev klcl (b : Bool) : CK := .inr (.inr (.inl b))
@[match_pattern] abbrev kasn (s : Fin 4) : CK := .inr (.inr (.inr (.inl s)))
@[match_pattern] abbrev karc (s : Fin 4) : CK := .inr (.inr (.inr (.inr s)))

abbrev barS : Sem sig := (SemArray.scalar (sig.barrier 0 rfl) : Sems sig S_).sem

/-- The number of an own cell's semaphore. -/
def onum : OwnK → ℕ
  | .inl (.inl (b, d)) => (if b then 20 else 4) + d.val
  | .inl (.inr (b, d)) => (if b then 52 else 36) + d.val
  | .inr (.inl b) => if b then 77 else 76
  | .inr (.inr (.inl s)) => 68 + s.val
  | .inr (.inr (.inr s)) => 72 + s.val

/-- A counter's number is below 78. -/
theorem onum_lt (k : OwnK) : onum k < 78 := by
  rcases k with ((⟨b, d⟩ | ⟨b, d⟩) | (b | (s | s)))
  · have h : d.val < 16 := d.isLt
    cases b <;> simp [onum] <;> omega
  · have h : d.val < 16 := d.isLt
    cases b <;> simp [onum] <;> omega
  · cases b <;> simp [onum]
  · have := s.isLt; simp only [onum]; omega
  · have := s.isLt; simp only [onum]; omega

/-- A counter's number is at least 4. -/
theorem onum_ge (k : OwnK) : 4 ≤ onum k := by
  rcases k with ((⟨b, d⟩ | ⟨b, d⟩) | (b | (s | s)))
  · cases b <;> simp [onum] <;> omega
  · cases b <;> simp [onum] <;> omega
  · cases b <;> simp [onum]
  · simp only [onum]; omega
  · simp only [onum]; omega

/-- Counters with one number are one counter. -/
theorem onum_inj : Function.Injective onum := by
  rintro ((⟨b, d⟩ | ⟨b, d⟩) | (b | (s | s))) ((⟨b', d'⟩ | ⟨b', d'⟩) | (b' | (s' | s'))) h
  all_goals
    (try have hd : d.val < 16 := d.isLt); (try have hd' : d'.val < 16 := d'.isLt)
    (try have hs : s.val < 4 := s.isLt); (try have hs' : s'.val < 4 := s'.isLt)
    (try cases b) <;> (try cases b') <;> simp only [onum, if_true, if_false, Bool.false_eq_true] at h <;> first
      | (exfalso; omega)
      | (have : d = d' := Fin.ext (by omega); subst this; rfl)
      | (have : s = s' := Fin.ext (by omega); subst this; rfl)
      | rfl

def odma (k : OwnK) : DmaSem sig := ⟨onum k, onum_lt k⟩
def osem (k : OwnK) : SemLoc sig := .dma (odma k)
def csem : CK → SemLoc sig | .inl _ => .reg barS | .inr k => osem k

/-- Own counters with one semaphore are one counter. -/
theorem osem_inj : Function.Injective osem := fun a b h => by
  unfold osem at h; injection h with h; exact onum_inj (congrArg Fin.val h)
/-- Counters with one semaphore are one counter. -/
theorem csem_inj : Function.Injective csem := by
  rintro (_ | a) (_ | b) h
  · rfl
  · exact absurd h (by unfold csem osem; intro h; cases h)
  · exact absurd h (by unfold csem osem; intro h; cases h)
  · exact congrArg _ (osem_inj h)

def kcell (ck : Dev nD × CK) : GSem nD τ sig := ((ck.1 : Thread nD τ), csem ck.2)

/-- Devices' counters with one place are one counter. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

open Classical in
/-- The cell a semaphore is, if it is one of the exchange's. -/
def kinv (g : GSem nD τ sig) : Option (Dev nD × CK) := if h : ∃ ck, kcell ck = g then some h.choose else none

/-- The counter at a counter's place is that counter. -/
theorem kinv_kcell (ck : Dev nD × CK) : kinv (kcell ck) = some ck := by
  unfold kinv
  have h : ∃ ck', kcell ck' = kcell ck := ⟨ck, rfl⟩
  rw [dif_pos h, kcell_inj h.choose_spec]

/-- A place at which a counter is found is that counter's. -/
theorem kinv_some {g : GSem nD τ sig} {ck} (h : kinv g = some ck) : kcell ck = g := by
  unfold kinv at h
  split at h
  · next h' => rw [← Option.some.inj h]; exact h'.choose_spec
  · cases h

/-! ## Memrefs -/

/-- Slot `d` of a gathered buffer. -/
def slotOf (M : Memref sig .tc .vmem S16x2x256x4x64 .f32) (d : Dev nD) : Memref sig .tc .vmem S2x256x4x64 .f32 :=
  (M.slice (Rect.unit (s := S16x2x256x4x64) ![d.val, 0, 0, 0, 0] S1x2x256x4x64.size
    (by intro a; have : d.val < 16 := d.isLt; fin_cases a <;> simp <;> omega)) (fun _ => rfl)).squeeze S2x256x4x64 squeezes_S1x2x256x4x64_S2x256x4x64
/-- Heads `4 d .. 4 d + 3` of an exchanged argument. -/
def srcOf (M : Memref sig .tc .hbm S2x256x64x64 .f32) (d : Dev nD) : Memref sig .tc .hbm S2x256x4x64 .f32 :=
  M.slice (Rect.unit (s := S2x256x64x64) ![0, 0, 4 * d.val, 0] S2x256x4x64.size
    (by intro a; have : d.val < 16 := d.isLt; fin_cases a <;> simp <;> omega)) (fun _ => rfl)
/-- Slot `s` of the all-reduce's landing buffer. -/
def arOf (s : Fin 4) : Memref sig .tc .vmem S2x256x512 .f32 :=
  ((Memref.whole cc0_scratch4 : Memref sig .tc .vmem S4x2x256x512 .f32).slice (rA s) (fun _ => rfl)).squeeze S2x256x512 squeezes_S1x2x256x512_S2x256x512
abbrev oM : Memref sig .tc .vmem S2x256x512 .f32 := Memref.whole cc0_stg3_0

def NK : ℕ := (slotOf (allM false) 0).view.dmaCredit
def NA : ℕ := (arOf 0).view.dmaCredit

/-- A key or value copy moves something. -/
theorem NK_pos : 0 < NK := View.dmaCredit_pos _ (by decide)
/-- A round's copy moves something. -/
theorem NA_pos : 0 < NA := View.dmaCredit_pos _ (by decide)
/-- A slot's credit is a key or value copy's. -/
theorem credit_slot (b : Bool) (d : Dev nD) : (slotOf (allM b) d).view.dmaCredit = NK := by cases b <;> rfl
/-- A source group's credit is the same. -/
theorem credit_src (b : Bool) (d : Dev nD) : (srcOf (srcM b) d).view.dmaCredit = NK := by cases b <;> rfl
/-- A round slot's credit is a round's copy's. -/
theorem credit_ar (s : Fin 4) : (arOf s).view.dmaCredit = NA := rfl
/-- The running sum's credit is the same. -/
theorem credit_o : oM.view.dmaCredit = NA := rfl

end Cert.Attn

end
-- ==== Proof.Sched.lean ====
/-
The exchange's schedule: who pays each cell, how much, and with what; what each device owes at launch; the levels.
-/
module

public import proofs.«01_k».proof.Proof.Cells

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Pieces of the buffers -/

def kvBuf (b : Bool) (c : Dev nD) : Buf (Elt F) ((srcM b).view.loc (c : Thread nD τ)) :=
  match b with
  | false => m ((c : Thread nD τ).loc main_arg2)
  | true => m ((c : Thread nD τ).loc main_arg3)

def allBuf (b : Bool) (c : Dev nD) : Buf (Elt F) ((allM b).view.loc (c : Thread nD τ)) :=
  match b with
  | false => allAt m false c
  | true => allAt m true c

/-- A view's elements on device `c`, held whole at contents `f`. -/
def vpts {sp : Space} {s : Shape} {e : EltTy} (v : View sig .tc sp s e) (c : Dev nD) (f : Buf (Elt F) (v.loc (c : Thread nD τ))) : sProp 𝕄 :=
  v.loc (c : Thread nD τ) ↦[v.set]{fullShare} f

omit [FloatOps F] in
instance vpts_storable {sp : Space} {s : Shape} {e : EltTy} (v : View sig .tc sp s e) (c f) : BI.Storable (upEmb : UEmb _ 𝕄) (vpts (F := F) v c f) := by
  unfold vpts; infer_instance

/-- The part of device `c`'s keys (values) that device `d` wants. -/
def srcPts (b : Bool) (c d : Dev nD) : sProp 𝕄 :=
  vpts (srcOf (srcM b) d).view c (kvBuf m b c)
/-- Slot `d` of device `c`'s gathered keys (values). -/
def slotPts (b : Bool) (c d : Dev nD) (f : Buf (Elt F) ((allM b).view.loc (c : Thread nD τ))) : sProp 𝕄 :=
  vpts (slotOf (allM b) d).view c f
/-- Slot `s` of device `c`'s landing buffer. -/
def arPts (c : Dev nD) (s : Fin 4) (f : Buf (Elt F) ((c : Thread nD τ).loc cc0_scratch4)) : sProp 𝕄 :=
  vpts (arOf s).view c f
/-- Device `c`'s output buffer. -/
def oPts (c : Dev nD) (f : Buf (Elt F) ((c : Thread nD τ).loc cc0_stg3_0)) : sProp 𝕄 :=
  vpts oM.view c f

omit [FloatOps F] in
instance srcPts_storable (b c d) : BI.Storable (upEmb : UEmb _ 𝕄) (srcPts (F := F) m b c d) := by unfold srcPts; exact vpts_storable _ _ _
omit [FloatOps F] in
instance slotPts_storable (b c d f) : BI.Storable (upEmb : UEmb _ 𝕄) (slotPts (F := F) b c d f) := by unfold slotPts; exact vpts_storable _ _ _
omit [FloatOps F] in
instance arPts_storable (c s f) : BI.Storable (upEmb : UEmb _ 𝕄) (arPts (F := F) c s f) := by unfold arPts; exact vpts_storable _ _ _
omit [FloatOps F] in
instance oPts_storable (c f) : BI.Storable (upEmb : UEmb _ 𝕄) (oPts (F := F) c f) := by unfold oPts; exact vpts_storable _ _ _

/-! ## The schedule -/

/-- What device `p` hands device `c` with its entry signal: the slots of `p`'s buffers that `c` writes. -/
def barPay (c p : Dev nD) : sProp 𝕄 :=
  iprop((bigSep Finset.univ fun b : Bool => iprop(∃ f, slotPts (F := F) b p c f))
    ∗ bigSep Finset.univ fun s : Fin 4 => iprop(if par s.val c = p then iprop(∃ f, arPts (F := F) p s f) else emp))

def kduties : Dev nD × CK → Finset (Dev nD)
  | (c, kbar) => Finset.univ.erase c
  | (c, ksnd _ d) => if d = c then ∅ else {c}
  | (c, krcv _ d) => if d = c then ∅ else {d}
  | (c, klcl _) => {c}
  | (c, kasn _) => {c}
  | (c, karc s) => {par s.val c}

def kamt : CK → ℕ
  | kbar => 1
  | kasn _ => NA
  | karc _ => NA
  | _ => NK

def kpay : Dev nD × CK → Dev nD → sProp 𝕄
  | (c, kbar), p => barPay c p
  | (c, ksnd b d), _ => srcPts m b c d
  | (c, krcv b d), _ => slotPts b c d (allBuf m b c)
  | (c, klcl b), _ => iprop(slotPts b c c (allBuf m b c) ∗ srcPts m b c c)
  | (c, kasn s), _ => oPts c (acc m s.val c)
  | (c, karc s), _ => arPts c s (arAt m c)

omit [FloatOps F] in
instance barPay_storable (c p) : BI.Storable (upEmb : UEmb _ 𝕄) (barPay (F := F) c p) := by
  unfold barPay
  haveI (s : Fin 4) : BI.Storable (upEmb : UEmb _ 𝕄) iprop(if par s.val c = p then iprop(∃ f, arPts (F := F) p s f) else emp) := by
    split <;> infer_instance
  infer_instance

instance kpay_storable (ck p) : BI.Storable (upEmb : UEmb _ 𝕄) (kpay (F := F) m ck p) := by
  rcases ck with ⟨c, (_ | ((⟨b, d⟩ | ⟨b, d⟩) | (b | (s | s))))⟩ <;> (unfold kpay; infer_instance)

/-- Every counter takes positive amounts. -/
theorem kamt_pos (k : CK) : 0 < kamt k := by
  rcases k with (_ | ((⟨b, d⟩ | ⟨b, d⟩) | (b | (s | s))))
  all_goals first | exact Nat.one_pos | exact NK_pos | exact NA_pos

def sch : Rounds.Schedule (GSem nD τ sig) (Dev nD) 𝕄 where
  duties g r := if r = 0 then (match kinv g with | some ck => kduties ck | none => ∅) else ∅
  unitless _ := False
  amount g _ _ := match kinv g with | some ck => kamt ck.2 | none => 1
  payload g _ d := match kinv g with | some ck => kpay m ck d | none => iprop(emp)
  amount_pos g _ _ _ := by
    split
    · exact kamt_pos _
    · exact Nat.one_pos

instance sch_payload_storable (g : GSem nD τ sig) (r : ℕ) (d : Dev nD) :
    BI.Storable (upEmb : UEmb _ 𝕄) ((sch (F := F) m).payload g r d) := by
  show BI.Storable upEmb (match kinv g with | some ck => kpay m ck d | none => iprop(emp))
  split <;> infer_instance

/-- The schedule's duties at a counter. -/
theorem duties_cell (ck) : (sch (F := F) m).duties (kcell ck) 0 = kduties ck := by dsimp only [sch]; rw [if_pos rfl, kinv_kcell]
/-- The schedule's amount at a counter. -/
theorem amount_cell (ck d) : (sch (F := F) m).amount (kcell ck) 0 d = kamt ck.2 := by dsimp only [sch]; rw [kinv_kcell]
/-- The schedule's payload at a counter. -/
theorem payload_cell (ck d) : (sch (F := F) m).payload (kcell ck) 0 d = kpay m ck d := by dsimp only [sch]; rw [kinv_kcell]
/-- No counter has duties after its first round. -/
theorem duties_later (g : GSem nD τ sig) : ∀ r, 1 ≤ r → (sch (F := F) m).duties g r = ∅ := fun r hr => by
  dsimp only [sch]; rw [if_neg (by omega)]
/-- A counter without duties has none in any round. -/
theorem duties_none (ck) (h : kduties ck = ∅) : ∀ r, 0 ≤ r → (sch (F := F) m).duties (kcell ck) r = ∅ := fun r _ => by
  rcases r with _ | r
  · rw [duties_cell, h]
  · exact duties_later m _ _ (by omega)

/-- What a counter expects: its amount from each of its duties. -/
theorem expect_cell (ck) : (sch (F := F) m).expect (kcell ck) 0 = (kduties ck).card * kamt ck.2 := by
  unfold Schedule.expect Schedule.amountOf
  rw [duties_cell, Finset.sum_congr rfl fun d _ => amount_cell m ck d, Finset.sum_const, smul_eq_mul]

/-! ## What a device owes -/

/-- A device's payments to other devices, in the order it makes them. -/
abbrev J : Type := Dev nD ⊕ ((Dev nD × Bool) ⊕ Fin 4)

def pos : J → ℕ
  | .inl d => d.val
  | .inr (.inl (d, b)) => 16 + 2 * d.val + (if b then 1 else 0)
  | .inr (.inr s) => 48 + s.val

/-- Jobs at one position are one job. -/
theorem pos_inj : Function.Injective pos := by
  rintro (d | (⟨d, b⟩ | s)) (d' | (⟨d', b'⟩ | s')) h
  all_goals
    (try have hd : d.val < 16 := d.isLt); (try have hd' : d'.val < 16 := d'.isLt)
    (try cases b) <;> (try cases b') <;> simp only [pos, if_true, if_false, Bool.false_eq_true] at h <;> first
      | (exfalso; omega)
      | (have : d = d' := Fin.ext (by omega); subst this; rfl)
      | (have : s = s' := Fin.ext (by omega); subst this; rfl)

/-- The cell a payment of device `c` goes to. -/
def jcell (c : Dev nD) : J → Dev nD × CK
  | .inl d => (d, kbar)
  | .inr (.inl (d, b)) => (d, krcv b c)
  | .inr (.inr s) => (par s.val c, karc s)

/-- Whether device `c` makes it: nothing is sent to itself. -/
def jon (c : Dev nD) : J → Prop
  | .inl d => d ≠ c
  | .inr (.inl (d, _)) => d ≠ c
  | .inr (.inr _) => True

instance (c j) : Decidable (jon c j) := by rcases j with (d | (⟨d, b⟩ | s)) <;> (unfold jon; infer_instance)

def owj (c : Dev nD) (j : J) : CellTallies nD τ sig Unit :=
  if jon c j then tallyAt (kcell (jcell c j)) () (kamt (jcell c j).2) else 0

/-- What device `c` owes when its first `n` payments are made. -/
def O (c : Dev nD) (n : ℕ) : CellTallies nD τ sig Unit := ∑ j ∈ Finset.univ.filter (fun j : J => n ≤ pos j), owj c j

/-- The debt before a job is its own and the debt after it. -/
theorem O_step (c : Dev nD) (j : J) : O c (pos j) = O c (pos j + 1) + owj c j := by
  unfold O
  have : (Finset.univ.filter fun i : J => pos j ≤ pos i) = insert j (Finset.univ.filter fun i : J => pos j + 1 ≤ pos i) := by
    ext i
    simp only [Finset.mem_filter, Finset.mem_univ, true_and, Finset.mem_insert]
    constructor
    · intro h
      by_cases hi : pos i = pos j
      · exact Or.inl (pos_inj hi)
      · exact Or.inr (by omega)
    · rintro (rfl | h)
      · exact le_rfl
      · omega
  rw [this, Finset.sum_insert (by simp), add_comm]

/-- After all the jobs nothing is owed. -/
theorem O_end (c : Dev nD) : O c 52 = 0 := by
  unfold O
  rw [Finset.sum_eq_zero]
  intro j hj
  exfalso
  simp only [Finset.mem_filter, Finset.mem_univ, true_and] at hj
  rcases j with (d | (⟨d, b⟩ | s))
  · have : d.val < 16 := d.isLt
    simp only [pos] at hj; omega
  · have : d.val < 16 := d.isLt
    cases b <;> simp [pos] at hj <;> omega
  · simp only [pos] at hj; omega

/-- What is owed is owed by a job still to come. -/
theorem O_pos {c : Dev nD} {n : ℕ} {g : GSem nD τ sig} {u : Unit} (h : 0 < O c n g u) :
    ∃ j, n ≤ pos j ∧ jon c j ∧ g = kcell (jcell c j) := by
  unfold O at h
  rw [Finset.sum_apply, Finsupp.finset_sum_apply] at h
  obtain ⟨j, hj, hne⟩ := Finset.exists_ne_zero_of_sum_ne_zero h.ne'
  refine ⟨j, by simpa using hj, ?_⟩
  unfold owj at hne
  by_cases hon : jon c j
  · rw [if_pos hon, tallyAt_apply] at hne
    refine ⟨hon, ?_⟩
    by_contra hg
    exact hne (if_neg fun h' => hg h'.1)
  · rw [if_neg hon] at hne; exact absurd rfl hne

/-! ## Levels -/

def L (g : GSem nD τ sig) : Finset Unit := if g.1.2 = .tc then {()} else ∅
def klv : CK → ℕ
  | kbar => 1
  | krcv _ _ => 2
  | karc s => 3 + s.val
  | _ => 0
def lv (g : GSem nD τ sig) (_ : Unit) : ℕ := match kinv g with | some ck => klv ck.2 | none => 0

/-- A thread that is not a core has no levels. -/
theorem L_of_ne (g : GSem nD τ sig) (h : g.1.2 ≠ .tc) : L g = ∅ := if_neg h
/-- A core's counter has one level. -/
theorem L_tc (c : Dev nD) (sm : SemLoc sig) : L ((c : Thread nD τ), sm) = {()} := if_pos rfl
/-- So has a cell. -/
theorem L_kcell (ck) : L (kcell ck) = {()} := if_pos rfl
/-- The level of a cell is its kind's. -/
theorem lv_kcell (ck) (u) : lv (kcell ck) u = klv ck.2 := by unfold lv; rw [kinv_kcell]

/-- The level of every payment still due when `n` are made, from below. -/
def lvl (n : ℕ) : ℕ := if n < 16 then 0 else if n < 48 then 1 else n - 46

/-- A job still to come lies above the level at which the device waits. -/
theorem klv_pos (c : Dev nD) (n : ℕ) (j : J) (h : n ≤ pos j) : lvl n < klv (jcell c j).2 := by
  rcases j with (d | (⟨d, b⟩ | s))
  · have : d.val < 16 := d.isLt
    simp only [pos] at h; unfold lvl; rw [if_pos (by omega)]; exact Nat.one_pos
  · have : d.val < 16 := d.isLt
    have h' : n < 48 := by cases b <;> simp [pos] at h <;> omega
    show lvl n < 2
    unfold lvl; split
    · omega
    · first | omega | (rw [if_pos h']; omega)
  · simp only [pos] at h
    show lvl n < 3 + s.val
    unfold lvl; split
    · omega
    · split <;> omega

/-- A device that has made its first `n` payments may wait on any cell of low enough level. -/
theorem mayWait (c : Dev nD) (sm : SemLoc sig) (n : ℕ) (h : lv ((c : Thread nD τ), sm) () ≤ lvl n) :
    (levAts L lv : sProp 𝕄) ⊢ MayWait (c : Thread nD τ) sm () (O c n) :=
  MayOwe.of_cut (L := L) (lev := lv) (lvl n) (fun p hp => by rw [Finset.mem_singleton.mp hp, L_tc]; exact Finset.mem_singleton_self _)
    (fun g u hg => by
      obtain ⟨j, hj, -, rfl⟩ := O_pos hg
      rw [L_kcell]; exact Finset.mem_singleton_self _)
    (fun p hp => by rw [Finset.mem_singleton.mp hp]; exact h)
    (fun g u hg => by
      obtain ⟨j, hj, -, rfl⟩ := O_pos hg
      rw [lv_kcell]; exact klv_pos c n j hj)

end Cert.Attn

end
-- ==== Proof.Landing.lean ====
/-
Where the pieces lie: each slot's elements, and that what lands in a slot is what the gathered buffer is said to hold there.
-/
module

public import proofs.«01_k».proof.Proof.Sched

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Element `j` of slot `d`, in the whole buffer. -/
def slotIx (d : Dev nD) (j : S2x256x4x64.Idx) : S16x2x256x4x64.Idx := fun
  | 0 => d
  | 1 => j 0
  | 2 => j 1
  | 3 => j 2
  | 4 => j 3

/-- Element `j` of device `d`'s heads, in the whole argument. -/
def hdIx (d : Dev nD) (j : S2x256x4x64.Idx) : S2x256x64x64.Idx := fun
  | 0 => j 0
  | 1 => j 1
  | 2 => ⟨4 * d.val + (j 2).val, by have h1 : d.val < 16 := d.isLt; have h2 : (j 2).val < 4 := (j 2).isLt; show _ < 64; omega⟩
  | 3 => j 3

/-- Where a slot's entry lies in the gathered buffer's shape. -/
theorem slot_emb_rect (d : Dev nD) (inb) (j : S2x256x4x64.Idx) :
    (Rect.unit (s := S16x2x256x4x64) ![d.val, 0, 0, 0, 0] S1x2x256x4x64.size inb).emb
      (Shape.reshapeEquiv squeezes_S1x2x256x4x64_S2x256x4x64.numel_eq j) = slotIx d j := by
  have h : (Shape.reshapeEquiv squeezes_S1x2x256x4x64_S2x256x4x64.numel_eq j : S1x2x256x4x64.Idx)
      = (fun | 0 => (0 : Fin 1) | 1 => j 0 | 2 => j 1 | 3 => j 2 | 4 => j 3) := by
    refine Shape.reshapeEquiv_eq_of_rowMajor _ ?_
    rw [Shape.rowMajor_val_five, Shape.rowMajor_val_four]
    simp
  rw [h]
  funext a
  apply Fin.ext
  rw [Rect.emb_apply]
  fin_cases a <;> simp [slotIx, Rect.unit]

/-- Entry `j` of slot `d` is entry `(d, j)` of the gathered buffer. -/
theorem slot_emb (b : Bool) (d : Dev nD) (j : S2x256x4x64.Idx) : (slotOf (allM b) d).view.emb j = (allM b).view.emb (slotIx d j) :=
  congrArg (allM b).view.emb (slot_emb_rect d _ j)

/-- Entry `j` of head group `d` is the entry of the source array with its head moved by `4 d`. -/
theorem src_emb (b : Bool) (d : Dev nD) (j : S2x256x4x64.Idx) : (srcOf (srcM b) d).view.emb j = (srcM b).view.emb (hdIx d j) := by
  refine congrArg (srcM b).view.emb ?_
  funext a
  apply Fin.ext
  rw [Rect.emb_apply]
  fin_cases a <;> simp [hdIx, Rect.unit]

/-- Element `j` of slot `s`, in the whole landing buffer. -/
def arIx (s : Fin 4) (j : S2x256x512.Idx) : S4x2x256x512.Idx := fun
  | 0 => s
  | 1 => j 0
  | 2 => j 1
  | 3 => j 2

/-- Entry `j` of round slot `s` is entry `(s, j)` of the rounds' buffer. -/
theorem ar_emb (s : Fin 4) (j : S2x256x512.Idx) : ((arOf s).view.emb j : S4x2x256x512.Idx) = arIx s j := by
  have h : (Shape.reshapeEquiv squeezes_S1x2x256x512_S2x256x512.numel_eq j : S1x2x256x512.Idx)
      = (fun | 0 => (0 : Fin 1) | 1 => j 0 | 2 => j 1 | 3 => j 2) := by
    refine Shape.reshapeEquiv_eq_of_rowMajor _ ?_
    rw [Shape.rowMajor_val_three, Shape.rowMajor_val_four]
    simp
  show (rA s).emb (Shape.reshapeEquiv squeezes_S1x2x256x512_S2x256x512.numel_eq j) = _
  rw [h]
  funext a
  apply Fin.ext
  rw [Rect.emb_apply]
  fin_cases a <;> simp [arIx, Rect.unit]

/-- What device `d`'s copy leaves in slot `d` of device `c`'s gathered buffer. -/
theorem landed_slot (b : Bool) (c d : Dev nD) (fd : Buf (Elt F) ((allM b).view.loc (c : Thread nD τ))) :
    ∀ i ∈ (slotOf (allM b) d).view.set,
      (slotOf (allM b) d).view.write (Elt F) fd ((srcOf (srcM b) c).view.read (Elt F) (kvBuf m b d)) Finset.univ i = allBuf m b c i := by
  intro i hi
  obtain ⟨j, -, rfl⟩ := Finset.mem_map.mp hi
  refine (View.write_emb_of_mem _ _ (Finset.mem_univ j)).trans ?_
  cases b
  · exact (congrArg (kvBuf m false d) (src_emb false c j)).trans (congrArg (allBuf m false c) (slot_emb false d j)).symm
  · exact (congrArg (kvBuf m true d) (src_emb true c j)).trans (congrArg (allBuf m true c) (slot_emb true d j)).symm

/-- What device `p`'s copy of its running sum leaves in slot `s` of device `c`'s landing buffer. -/
theorem landed_ar (s : Fin 4) (c : Dev nD) (fd : Buf (Elt F) ((c : Thread nD τ).loc cc0_scratch4)) :
    ∀ i ∈ (arOf s).view.set,
      (arOf s).view.write (Elt F) fd (oM.view.read (Elt F) (acc m s.val (par s.val c))) Finset.univ i = arAt m c i := by
  intro i hi
  obtain ⟨j, -, rfl⟩ := Finset.mem_map.mp hi
  refine (View.write_emb_of_mem _ _ (Finset.mem_univ j)).trans ?_
  refine Eq.trans ?_ (congrArg (arAt m c) (ar_emb s j)).symm
  show acc m s.val (par s.val c) j = acc m s.val (par s.val c) _
  congr 1
  funext a; fin_cases a <;> rfl

/-- What a key or value copy writes into a slot is what the slot should hold. -/
theorem slot_write (b : Bool) (c d : Dev nD) (fd : Buf (Elt F) ((allM b).view.loc (c : Thread nD τ))) :
    vpts (slotOf (allM b) d).view c ((slotOf (allM b) d).view.write (Elt F) fd ((srcOf (srcM b) c).view.read (Elt F) (kvBuf m b d)) Finset.univ)
      = (slotPts b c d (allBuf m b c) : sProp 𝕄) := by
  unfold slotPts vpts
  exact pointsTo_congr (landed_slot m b c d fd)

/-- What a round's copy writes into a slot is what the slot should hold. -/
theorem ar_write (s : Fin 4) (c : Dev nD) (fd : Buf (Elt F) ((c : Thread nD τ).loc cc0_scratch4)) :
    vpts (arOf s).view c ((arOf s).view.write (Elt F) fd (oM.view.read (Elt F) (acc m s.val (par s.val c))) Finset.univ)
      = (arPts c s (arAt m c) : sProp 𝕄) := by
  unfold arPts vpts
  exact pointsTo_congr (landed_ar m s c fd)

/-! ## Each buffer is its slots -/

/-- Slot `d` is where the first coordinate is `d`. -/
theorem mem_slot (b : Bool) (d : Dev nD) (i : S16x2x256x4x64.Idx) : (allM b).view.emb i ∈ (slotOf (allM b) d).view.set ↔ i 0 = d := by
  constructor
  · intro h
    obtain ⟨j, -, hj⟩ := Finset.mem_map.mp h
    rw [← (allM b).view.emb.injective ((slot_emb b d j).symm.trans hj)]; rfl
  · intro h
    refine Finset.mem_map.mpr ⟨fun | 0 => i 1 | 1 => i 2 | 2 => i 3 | 3 => i 4, Finset.mem_univ _, ?_⟩
    refine (slot_emb b d _).trans (congrArg _ ?_)
    funext a; fin_cases a <;> first | exact h.symm | rfl

/-- Head group `d` is where the head divided by 4 is `d`. -/
theorem mem_src (b : Bool) (d : Dev nD) (i : S2x256x64x64.Idx) : (srcM b).view.emb i ∈ (srcOf (srcM b) d).view.set ↔ (i 2).val / 4 = d.val := by
  constructor
  · intro h
    obtain ⟨j, -, hj⟩ := Finset.mem_map.mp h
    rw [← (srcM b).view.emb.injective ((src_emb b d j).symm.trans hj)]
    have h2 : (j 2).val < 4 := (j 2).isLt
    show (4 * d.val + (j 2).val) / 4 = d.val
    omega
  · intro h
    refine Finset.mem_map.mpr ⟨fun | 0 => i 0 | 1 => i 1 | 2 => (⟨(i 2).val % 4, Nat.mod_lt _ (by decide)⟩ : Fin 4) | 3 => i 3, Finset.mem_univ _, ?_⟩
    refine (src_emb b d _).trans (congrArg _ ?_)
    funext a; fin_cases a <;> first | rfl | (apply Fin.ext; show 4 * d.val + (i 2).val % 4 = (i 2).val; omega)

/-- Round slot `s` is where the first coordinate is `s`. -/
theorem mem_ar (s : Fin 4) (i : S4x2x256x512.Idx) : i ∈ (arOf s).view.set ↔ i 0 = s := by
  constructor
  · intro h
    obtain ⟨j, -, hj⟩ := Finset.mem_map.mp h
    rw [← (ar_emb s j).symm.trans hj]; rfl
  · intro h
    refine Finset.mem_map.mpr ⟨fun | 0 => i 1 | 1 => i 2 | 2 => i 3, Finset.mem_univ _, ?_⟩
    refine (ar_emb s _).trans ?_
    funext a; fin_cases a <;> first | exact h.symm | rfl

omit [FloatOps F] in
/-- A buffer held whole is held piece by piece, the pieces told apart by a function of the index. -/
theorem pieces (ℓ : Loc nD τ sig) {T : Type} [Fintype T] [DecidableEq T] (K : T → Finset (Idx ℓ)) (p : Idx ℓ → T)
    (hK : ∀ t i, i ∈ K t ↔ p i = t) (f : Buf (Elt F) ℓ) :
    (ℓ ↦{fullShare} f : sProp 𝕄) = bigSep Finset.univ fun t => ℓ ↦[K t]{fullShare} f := by
  have h : (Finset.univ : Finset (Idx ℓ)) = Finset.univ.biUnion K := by
    ext i
    simp only [Finset.mem_univ, Finset.mem_biUnion, true_and, true_iff]
    exact ⟨p i, (hK _ i).mpr rfl⟩
  have h2 : (ℓ ↦[Finset.univ.biUnion K]{fullShare} f : sProp 𝕄) = bigSep Finset.univ fun t => ℓ ↦[K t]{fullShare} f :=
    pointsTo_biUnion Finset.univ K
      (fun t _ t' _ hne => Finset.disjoint_left.mpr fun i hi hi' => hne (((hK t i).mp hi).symm.trans ((hK t' i).mp hi')))
  exact (congrArg (fun S => (ℓ ↦[S]{fullShare} f : sProp 𝕄)) h).trans h2

omit [FloatOps F] in
/-- A gathered buffer is its sixteen slots. -/
theorem slots_eq (b : Bool) (c : Dev nD) (f : Buf (Elt F) ((allM b).view.loc (c : Thread nD τ))) :
    ((allM b).view.loc (c : Thread nD τ) ↦{fullShare} f : sProp 𝕄) = bigSep Finset.univ fun d => slotPts b c d f := by
  cases b
  · exact pieces ((c : Thread nD τ).loc cc0_scratch1) (fun d => (slotOf (allM false) d).view.set) (fun i : S16x2x256x4x64.Idx => (i 0 : Dev nD)) (fun d i => mem_slot false d i) f
  · exact pieces ((c : Thread nD τ).loc cc0_scratch2) (fun d => (slotOf (allM true) d).view.set) (fun i : S16x2x256x4x64.Idx => (i 0 : Dev nD)) (fun d i => mem_slot true d i) f

omit [FloatOps F] in
/-- An exchanged argument is its sixteen blocks of heads. -/
theorem srcs_eq (b : Bool) (c : Dev nD) :
    ((srcM b).view.loc (c : Thread nD τ) ↦{fullShare} kvBuf m b c : sProp 𝕄) = bigSep Finset.univ fun d => srcPts m b c d := by
  have hp (i : S2x256x64x64.Idx) : (i 2).val / 4 < 16 := by
    have h : (i 2).val < 64 := (i 2).isLt
    omega
  have hk (b d) (i : S2x256x64x64.Idx) : (srcM b).view.emb i ∈ (srcOf (srcM b) d).view.set ↔ (⟨(i 2).val / 4, hp i⟩ : Dev nD) = d :=
    (mem_src b d i).trans ⟨fun h => Fin.ext h, fun h => congrArg Fin.val h⟩
  cases b
  · exact pieces ((c : Thread nD τ).loc main_arg2) (fun d => (srcOf (srcM false) d).view.set) (fun i : S2x256x64x64.Idx => (⟨(i 2).val / 4, hp i⟩ : Dev nD)) (fun d i => hk false d i) _
  · exact pieces ((c : Thread nD τ).loc main_arg3) (fun d => (srcOf (srcM true) d).view.set) (fun i : S2x256x64x64.Idx => (⟨(i 2).val / 4, hp i⟩ : Dev nD)) (fun d i => hk true d i) _

omit [FloatOps F] in
/-- The landing buffer is its four slots. -/
theorem ars_eq (c : Dev nD) (f : Buf (Elt F) ((c : Thread nD τ).loc cc0_scratch4)) :
    (((c : Thread nD τ).loc cc0_scratch4) ↦{fullShare} f : sProp 𝕄) = bigSep Finset.univ fun s => arPts c s f :=
  pieces ((c : Thread nD τ).loc cc0_scratch4) (fun s => (arOf s).view.set) (fun i : S4x2x256x512.Idx => (i 0 : Fin 4)) (fun s i => mem_ar s i) f

end Cert.Attn

end
-- ==== Proof.Steps.lean ====
/-
The exchange's steps, one rule each: a signal, a local copy's start, a send, a wait.
-/
module

public import proofs.«01_k».proof.Proof.Landing

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

abbrev PR (F : FTy → Type) [FloatOps F] (α : Type) : Type 1 := Prog (TpuEff nD τ sig (Elt F) Λ₀ .tc) α

/-- The weakest precondition of a program on device `c`. -/
abbrev WP {α : Type} (c : Dev nD) (p : PR F α) (Q : α → sProp 𝕄) : sProp 𝕄 :=
  wp frame (wpE (defs₀ (F := F)) Variants.none (c : Thread nD τ) none) Set.univ p Q

/-- What never changes: every cell's invariant, that its only round is reached, and the levels. -/
def Rec : sProp 𝕄 :=
  iprop((bigSep Finset.univ fun ck : Dev nD × CK => cellInv ER (sch m) (K ck) (kcell ck))
    ∗ (bigSep Finset.univ fun ck : Dev nD × CK => reached ER (kcell ck) 0) ∗ levAts L lv)

instance Rec_persistent : BI.Persistent (Rec (F := F) m K) := by unfold Rec; infer_instance

/-- The records hold every cell's invariant. -/
theorem Rec.inv (ck : Dev nD × CK) : Rec m K ⊢ cellInv ER (sch m) (K ck) (kcell ck) := by
  have h : (bigSep Finset.univ fun ck : Dev nD × CK => (cellInv ER (sch m) (K ck) (kcell ck) : sProp 𝕄)) ⊢ cellInv ER (sch m) (K ck) (kcell ck) :=
    bigSep_elim (Finset.mem_univ ck)
  unfold Rec; iintro ⟨#HI, -, -⟩
  iapply h; iexact HI
/-- The records say that every cell has reached its first round. -/
theorem Rec.rch (ck : Dev nD × CK) : Rec m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold Rec; iintro ⟨-, #HI, -⟩
  iapply h; iexact HI
/-- A device may wait at a counter whose level is at most `lvl n`: all that it still owes lies above. -/
theorem Rec.wait (c : Dev nD) (sm : SemLoc sig) (n : ℕ) (h : lv ((c : Thread nD τ), sm) () ≤ lvl n) :
    Rec m K ⊢ MayWait (c : Thread nD τ) sm () (O c n) := by
  unfold Rec; iintro ⟨-, -, #HI⟩
  iapply (mayWait (F := F) c sm n h); iexact HI

/-- The right to pay duty `d` of a cell. -/
def tok (ck : Dev nD × CK) (d : Dev nD) : sProp 𝕄 := dutyTok ER (kcell ck) 0 d
/-- A cell's waiter, before its wait. -/
def at0 (ck : Dev nD × CK) : sProp 𝕄 := atPos ER (kcell ck) 0 ∅ 0
/-- The credit a cell's waiter waits with. -/
def crd (ck : Dev nD × CK) : sProp 𝕄 := cred (tallyAt (kcell ck) () ((kduties ck).card * kamt ck.2))
/-- A cell closed, its counter at zero. -/
def fin0 (ck : Dev nD × CK) : sProp 𝕄 := semVal (kcell ck) 0
/-- Device `c` owes all but its first `n` payments. -/
def own (c : Dev nD) (n : ℕ) : sProp 𝕄 := iprop(∃ W, owes (c : Thread nD τ) (O c n) W)

omit [FloatOps F] in
/-- A job that the device does not have changes nothing that it owes. -/
theorem own_skip (c : Dev nD) (j : J) (h : ¬ jon c j) : (own c (pos j) : sProp 𝕄) = own c (pos j + 1) := by
  unfold own; rw [O_step c j]; unfold owj; rw [if_neg h, add_zero]

/-- What a job that it has owes. -/
theorem owj_on (c : Dev nD) (j : J) (h : jon c j) : owj c j = tallyAt (kcell (jcell c j)) () (kamt (jcell c j).2) := if_pos h

/-- A cell nobody pays closes at once. -/
theorem close_empty (ck : Dev nD × CK) (h : kduties ck = ∅) : iprop(Rec m K ∗ at0 ck) ⊢ |={Set.univ}=> (fin0 ck : sProp 𝕄) := by
  unfold at0 fin0
  iintro ⟨#HR, Ha⟩
  iapply (Rounds.cell_close ER (sch m) (Set.mem_univ (K ck)) (fun h => h) (R := 0) (duties_none m ck h))
  isplitr
  · iapply (Rec.inv m K ck); iexact HR
  iexact Ha

/-- A signal to another device pays the barrier duty there. -/
theorem op_signal {α : Type} {Q : α → sProp 𝕄} {k : PUnit → PR F α} (c d : Dev nD) (hd : d ≠ c) :
    iprop(Rec m K ∗ own c d.val ∗ tok (d, kbar) c ∗ barPay d c)
      ⊢ iprop((own c (d.val + 1) -∗ WP c (k ⟨⟩) Q) -∗ WP c (semSignalWord d barS 1#32 >>= k) Q) := by
  unfold own tok
  iintro ⟨#HR, ⟨%W, Ho⟩, Ht, Hp⟩ Hk
  iapply (Rounds.wp_signal Variants.none ER (sch m) (c : Thread nD τ) none (dst := (d : Thread nD τ)) (κ := K (d, kbar))
      (d := c) (r := 0) (sem := barS) (k' := 1) (by
        show c ∈ (sch m).duties (kcell (d, kbar)) 0
        rw [duties_cell]; exact Finset.mem_erase.mpr ⟨hd.symm, Finset.mem_univ _⟩)
      (amount_cell m (d, kbar) c) () (O c (d.val + 1)) (O₀ := O c d.val) (by
        have := O_step c (.inl d); rw [owj_on c (.inl d) hd] at this; exact this) (W := W)) $$ [Ho Ht Hp]
  · isplitr; · iapply (Rec.inv m K (d, kbar)); iexact HR
    isplitl [Ho]; · iexact Ho
    isplitl [Ht]; · iexact Ht
    isplitl [Hp]
    · iapply (Entails.of_eq (show barPay d c = (sch m).payload ((d : Thread nD τ), .reg barS) 0 c from (payload_cell m (d, kbar) c).symm)); iexact Hp
    iapply (Rec.rch m K (d, kbar)); iexact HR
  iintro Ho
  iapply Hk; iexists W; iexact Ho

/-- The start of the copy of a device's own heads into its own slot. -/
theorem op_local {α : Type} {Q : α → sProp 𝕄} {k : PUnit → PR F α} (c : Dev nD) (b : Bool)
    {src : Memref sig .tc .hbm S2x256x4x64 .f32} {dst : Memref sig .tc .vmem S2x256x4x64 .f32} {sem : DmaSem sig}
    (hs : src = srcOf (srcM b) c) (hd : dst = slotOf (allM b) c) (hm : sem = odma (.inr (.inl b)))
    {h1 : src.view.WordExact} {h2 : dst.view.WordExact} {h3 : DmaTarget.Typed (nD := nD) (τ := τ) (p := .tc) .hbm (.dma sem) (.here dst)} :
    iprop(Rec m K ∗ srcPts m b c c ∗ (∃ f, slotPts b c c f) ∗ tok (c, klcl b) c)
      ⊢ iprop((crd (c, klcl b) -∗ WP c (k ⟨⟩) Q)
          -∗ WP c ((Prog.lift (.enqueueDma src (.here dst) (.dma sem) h1 h2 h3) : PR F PUnit) >>= k) Q) := by
  subst hs hd hm
  unfold tok crd srcPts
  iintro ⟨#HR, Hs, ⟨%f, Hd⟩, Ht⟩ Hk
  unfold slotPts vpts
  iapply (Rounds.wp_copy_pointsTo Variants.none ER (sch m) (c : Thread nD τ) none (κ := K (c, klcl b)) (d := c) (r := 0)
      (src := srcOf (srcM b) c) (dst := slotOf (allM b) c) (fs := kvBuf m b c) (fd := f) (q := fullShare)
      (show c ∈ (sch m).duties (kcell (c, klcl b)) 0 by rw [duties_cell]; exact Finset.mem_singleton_self _)
      () NK (credit_slot b c) (amount_cell m (c, klcl b) c)
      (by
        have h := slot_write m b c c f
        unfold slotPts vpts at h
        rw [h]
        exact Entails.of_eq (show _ = (sch m).payload ((c : Thread nD τ), osem (.inr (.inl b))) 0 c from (payload_cell m (c, klcl b) c).symm))) $$ [Hs Hd Ht]
  · isplitr; · iapply (Rec.inv m K (c, klcl b)); iexact HR
    isplitl [Hs]; · iexact Hs
    isplitl [Hd]; · iexact Hd
    isplitl [Ht]; · iexact Ht
    iapply (Rec.rch m K (c, klcl b)); iexact HR
  iintro Hc
  iapply Hk
  iapply (Entails.of_eq (show cred (tallyAt (kcell (c, klcl b)) () NK) = _ from by
    show _ = cred (tallyAt (kcell (c, klcl b)) () (({c} : Finset (Dev nD)).card * NK)); rw [Finset.card_singleton, one_mul])); iexact Hc

omit [FloatOps F] in
/-- The credit of a counter with one duty. -/
theorem crd_one (ck : Dev nD × CK) (d : Dev nD) (h : kduties ck = {d}) : (crd ck : sProp 𝕄) = cred (tallyAt (kcell ck) () (kamt ck.2)) := by
  unfold crd; rw [h, Finset.card_singleton, one_mul]

/-- The one duty of a send counter: the device's own. -/
theorem kduties_snd {b : Bool} {c d : Dev nD} (h : d ≠ c) : kduties (c, ksnd b d) = {c} := if_neg h
/-- The one duty of a receive counter: the sender's. -/
theorem kduties_rcv {b : Bool} {c d : Dev nD} (h : d ≠ c) : kduties (c, krcv b d) = {d} := if_neg h

/-- A send of one device's heads to it. -/
theorem op_send {α : Type} {Q : α → sProp 𝕄} {k : PUnit → PR F α} (c d n : Dev nD) (hdc : d ≠ c) (hn : n = d) (b : Bool)
    {src : Memref sig .tc .hbm S2x256x4x64 .f32} {dst : Memref sig .tc .vmem S2x256x4x64 .f32} {sS sR : DmaSem sig}
    (hs : src = srcOf (srcM b) d) (hd : dst = slotOf (allM b) c)
    (hm : sS = odma (.inl (.inl (b, d)))) (hr : sR = odma (.inl (.inr (b, c))))
    {hsc} {h1 : src.view.WordExact} {h2 : dst.view.WordExact}
    {h3 : DmaTarget.Typed (nD := nD) (τ := τ) (p := .tc) .hbm (.dma sR) (.remote (Dev.tc n : Thread nD τ) dst (.dma sS) hsc)} :
    iprop(Rec m K ∗ own c (pos (.inr (.inl (d, b)))) ∗ srcPts m b c d ∗ (∃ f, slotPts b d c f) ∗ tok (c, ksnd b d) c ∗ tok (d, krcv b c) c)
      ⊢ iprop((own c (pos (.inr (.inl (d, b))) + 1) ∗ crd (c, ksnd b d) -∗ WP c (k ⟨⟩) Q)
          -∗ WP c ((Prog.lift (.enqueueDma src (.remote (Dev.tc n : Thread nD τ) dst (.dma sS) hsc) (.dma sR) h1 h2 h3) : PR F PUnit) >>= k) Q) := by
  subst hs hd hm hr hn
  rw [crd_one _ _ (kduties_snd hdc)]
  unfold tok srcPts own
  iintro ⟨#HR, ⟨%W, Ho⟩, Hs, ⟨%f, Hd⟩, Ht1, Ht2⟩ Hk
  unfold slotPts vpts
  iapply (Rounds.wp_send_pointsTo Variants.none ER (sch m) (c : Thread nD τ) none (κ₁ := K (c, ksnd b n)) (κ₂ := K (n, krcv b c)) (d₁ := c) (d₂ := c) (r₁ := 0) (r₂ := 0)
      (src := srcOf (srcM b) n) (dst := slotOf (allM b) c) (c' := (Dev.tc n : Thread nD τ)) (fs := kvBuf m b c) (fd := f) (q := fullShare)
      (show c ∈ (sch m).duties (kcell (c, ksnd b n)) 0 by rw [duties_cell, kduties_snd hdc]; exact Finset.mem_singleton_self _)
      (show c ∈ (sch m).duties (kcell (n, krcv b c)) 0 by rw [duties_cell, kduties_rcv hdc.symm]; exact Finset.mem_singleton_self _)
      () () NK (credit_slot b c) (amount_cell m (c, ksnd b n) c) (amount_cell m (n, krcv b c) c)
      (O c (pos (.inr (.inl (n, b))) + 1)) (O₀ := O c (pos (.inr (.inl (n, b)))))
      (by have := O_step c (.inr (.inl (n, b))); rw [owj_on c (.inr (.inl (n, b))) hdc] at this; exact this) (W := W)
      (Entails.of_eq (show _ = (sch m).payload ((c : Thread nD τ), osem (.inl (.inl (b, n)))) 0 c from (payload_cell m (c, ksnd b n) c).symm))
      (by
        have h := slot_write m b n c f
        unfold slotPts vpts at h
        exact Entails.of_eq (h.trans (show _ = (sch m).payload ((n : Thread nD τ), osem (.inl (.inr (b, c)))) 0 c from (payload_cell m (n, krcv b c) c).symm)))) $$ [Ho Hs Hd Ht1 Ht2]
  · isplitr; · iapply (Rec.inv m K (c, ksnd b n)); iexact HR
    isplitr; · iapply (Rec.inv m K (n, krcv b c)); iexact HR
    isplitl [Hs]; · iexact Hs
    isplitl [Hd]; · iexact Hd
    isplitl [Ho]; · iexact Ho
    isplitl [Ht1]; · iexact Ht1
    isplitr; · iapply (Rec.rch m K (c, ksnd b n)); iexact HR
    isplitl [Ht2]; · iexact Ht2
    iapply (Rec.rch m K (n, krcv b c)); iexact HR
  iintro ⟨Hc, Ho⟩
  iapply Hk
  isplitl [Ho]; · iexists W; iexact Ho
  iexact Hc

/-- A send of the running sum to the round's partner. -/
theorem op_sendA {α : Type} {Q : α → sProp 𝕄} {k : PUnit → PR F α} (c n : Dev nD) (s : Fin 4) (hn : n = par s.val c)
    {dst : Memref sig .tc .vmem S2x256x512 .f32} {sS sR : DmaSem sig} (hd : dst = arOf s)
    (hm : sS = odma (.inr (.inr (.inl s)))) (hr : sR = odma (.inr (.inr (.inr s))))
    {hsc} {h1 : (oM : Memref sig .tc .vmem S2x256x512 .f32).view.WordExact} {h2 : dst.view.WordExact}
    {h3 : DmaTarget.Typed (nD := nD) (τ := τ) (p := .tc) .vmem (.dma sR) (.remote (Dev.tc n : Thread nD τ) dst (.dma sS) hsc)} :
    iprop(Rec m K ∗ own c (pos (.inr (.inr s))) ∗ oPts c (acc m s.val c) ∗ (∃ f, arPts (par s.val c) s f) ∗ tok (c, kasn s) c ∗ tok (par s.val c, karc s) c)
      ⊢ iprop((own c (pos (.inr (.inr s)) + 1) ∗ crd (c, kasn s) -∗ WP c (k ⟨⟩) Q)
          -∗ WP c ((Prog.lift (.enqueueDma oM (.remote (Dev.tc n : Thread nD τ) dst (.dma sS) hsc) (.dma sR) h1 h2 h3) : PR F PUnit) >>= k) Q) := by
  subst hd hm hr
  rw [← hn, crd_one (c, kasn s) c rfl]
  have hpp : par s.val n = c := by rw [hn, par_par]
  unfold tok own
  iintro ⟨#HR, ⟨%W, Ho⟩, Hs, ⟨%f, Hd⟩, Ht1, Ht2⟩ Hk
  unfold oPts arPts vpts
  iapply (Rounds.wp_send_pointsTo Variants.none ER (sch m) (c : Thread nD τ) none (κ₁ := K (c, kasn s)) (κ₂ := K (n, karc s)) (d₁ := c) (d₂ := c) (r₁ := 0) (r₂ := 0)
      (src := oM) (dst := arOf s) (c' := (Dev.tc n : Thread nD τ)) (fs := acc m s.val c) (fd := f) (q := fullShare)
      (show c ∈ (sch m).duties (kcell (c, kasn s)) 0 by rw [duties_cell]; exact Finset.mem_singleton_self _)
      (show c ∈ (sch m).duties (kcell (n, karc s)) 0 by rw [duties_cell]; exact Finset.mem_singleton.mpr hpp.symm)
      () () NA (credit_ar s) (amount_cell m (c, kasn s) c) (amount_cell m (n, karc s) c)
      (O c (pos (.inr (.inr s)) + 1)) (O₀ := O c (pos (.inr (.inr s))))
      (by
        have := O_step c (.inr (.inr s)); rw [owj_on c (.inr (.inr s)) trivial] at this
        rw [hn]; exact this) (W := W)
      (Entails.of_eq (show oPts c (acc m s.val c) = (sch m).payload ((c : Thread nD τ), osem (.inr (.inr (.inl s)))) 0 c from (payload_cell m (c, kasn s) c).symm))
      (by
        have h := ar_write m s n f
        unfold arPts vpts at h
        rw [hpp] at h
        exact Entails.of_eq (h.trans (show arPts n s (arAt m n) = (sch m).payload ((n : Thread nD τ), osem (.inr (.inr (.inr s)))) 0 c from (payload_cell m (n, karc s) c).symm)))) $$ [Ho Hs Hd Ht1 Ht2]
  · isplitr; · iapply (Rec.inv m K (c, kasn s)); iexact HR
    isplitr; · iapply (Rec.inv m K (n, karc s)); iexact HR
    isplitl [Hs]; · iexact Hs
    isplitl [Hd]; · iexact Hd
    isplitl [Ho]; · iexact Ho
    isplitl [Ht1]; · iexact Ht1
    isplitr; · iapply (Rec.rch m K (c, kasn s)); iexact HR
    isplitl [Ht2]; · iexact Ht2
    iapply (Rec.rch m K (n, karc s)); iexact HR
  iintro ⟨Hc, Ho⟩
  iapply Hk
  isplitl [Ho]; · iexists W; iexact Ho
  iexact Hc

/-- The wait on one of the device's transfers: what the payer handed over, and the cell closed. -/
theorem op_wait {α : Type} {Q : α → sProp 𝕄} {k : PUnit → PR F α} (c : Dev nD) (x : OwnK) (p : Dev nD) (n : ℕ) (hp : kduties (c, .inr x) = {p})
    (hl : klv (.inr x) ≤ lvl n) {sem : DmaSem sig} (hm : sem = odma x)
    {sp sp' : Space} {s s' : Shape} {e e' : EltTy} {src : Memref sig .tc sp s e} {dst : Memref sig .tc sp' s' e'}
    (hN : dst.view.dmaCredit = kamt (.inr x)) {h1 : src.view.WordExact} {h2 : dst.view.WordExact} :
    iprop(Rec m K ∗ own c n ∗ crd (c, .inr x) ∗ at0 (c, .inr x))
      ⊢ iprop((own c n ∗ fin0 (c, .inr x) ∗ kpay m (c, .inr x) p -∗ WP c (k ⟨⟩) Q)
          -∗ WP c ((Prog.lift (.waitDma2 sem src dst h1 h2) : PR F PUnit) >>= k) Q) := by
  subst hm
  rw [crd_one _ _ hp]
  unfold at0 own fin0
  iintro ⟨#HR, ⟨%W, Ho⟩, Hc, Ha⟩ Hk
  iapply (Rounds.wp_wait_rest_token Variants.none ER (sch m) (c : Thread nD τ) none (κ := K (c, .inr x)) (sm := osem x)
      (wpE_waitDma2_eq Variants.none (c : Thread nD τ) none Set.univ) (Set.mem_univ _) () (O := O c n) (W := W) (R := 0) (m := 0) (T := ∅)
      (by
        rw [Nat.zero_add, hN]
        have := expect_cell m (c, .inr x)
        rw [hp, Finset.card_singleton, one_mul] at this
        exact this.symm)) $$ [Hc Ho Ha]
  · isplitr; · iapply (Rec.inv m K (c, .inr x)); iexact HR
    isplitl [Hc]
    · rw [hN]; iexact Hc
    isplitl [Ho]; · iexact Ho
    isplitr
    · iapply (Rec.wait m K c (osem x) n ((lv_kcell (c, .inr x) ()).trans_le hl)); iexact HR
    iexact Ha
  iintro ⟨Ho, Ha, -, Hp⟩
  imod (Rounds.cell_close ER (sch m) (Set.mem_univ (K (c, .inr x))) (fun h => h) (R := 0 + 1) (duties_later m (kcell (c, .inr x)))) $$ [Ha] with Hz
  · isplitr; · iapply (Rec.inv m K (c, .inr x)); iexact HR
    iexact Ha
  iapply Hk
  isplitl [Ho]; · iexists _; iexact Ho
  isplitl [Hz]; · iexact Hz
  have hb : (bigSep ((sch m).duties ((c : Thread nD τ), osem x) 0 \ ∅) fun d => (sch m).payload ((c : Thread nD τ), osem x) 0 d)
      = (kpay m (c, .inr x) p : sProp 𝕄) := by
    show (bigSep ((sch m).duties (kcell (c, .inr x)) 0 \ ∅) fun d => (sch m).payload (kcell (c, .inr x)) 0 d) = _
    rw [duties_cell, hp, Finset.sdiff_empty, bigSep_singleton, payload_cell]
  iapply (Entails.of_eq hb); iexact Hp

/-- The entry barrier's wait: every other device's slots. -/
theorem op_barrier {α : Type} {Q : α → sProp 𝕄} {k : PUnit → PR F α} (c : Dev nD) :
    iprop(Rec m K ∗ own c 16 ∗ crd (c, kbar) ∗ at0 (c, kbar))
      ⊢ iprop((own c 16 ∗ fin0 (c, kbar) ∗ (bigSep (Finset.univ.erase c) fun p => barPay (F := F) c p) -∗ WP c (k ⟨⟩) Q)
          -∗ WP c (semWaitWord barS 15#32 >>= k) Q) := by
  unfold at0 own fin0 crd
  have hcard : (kduties (c, kbar)).card * kamt kbar = 15 := by
    show (Finset.univ.erase c).card * 1 = 15
    rw [Finset.card_erase_of_mem (Finset.mem_univ _)]; rfl
  iintro ⟨#HR, ⟨%W, Ho⟩, Hc, Ha⟩ Hk
  iapply (Rounds.wp_wait_rest_token Variants.none ER (sch m) (c : Thread nD τ) none (κ := K (c, kbar)) (sm := .reg barS) (k' := 15)
      (wpE_semWait_eq Variants.none (c : Thread nD τ) none Set.univ) (Set.mem_univ _) () (O := O c 16) (W := W) (R := 0) (m := 0) (T := ∅)
      (by
        rw [Nat.zero_add]
        exact hcard.symm.trans (expect_cell m (c, kbar)).symm)) $$ [Hc Ho Ha]
  · isplitr; · iapply (Rec.inv m K (c, kbar)); iexact HR
    isplitl [Hc]
    · iapply (Entails.of_eq (congrArg (fun n => (cred (tallyAt (kcell (c, kbar)) () n) : sProp 𝕄)) hcard)); iexact Hc
    isplitl [Ho]; · iexact Ho
    isplitr
    · iapply (Rec.wait m K c (.reg barS) 16 ((lv_kcell (c, kbar) ()).trans_le (show klv kbar ≤ lvl 16 by decide))); iexact HR
    iexact Ha
  iintro ⟨Ho, Ha, -, Hp⟩
  imod (Rounds.cell_close ER (sch m) (Set.mem_univ (K (c, kbar))) (fun h => h) (R := 0 + 1) (duties_later m (kcell (c, kbar)))) $$ [Ha] with Hz
  · isplitr; · iapply (Rec.inv m K (c, kbar)); iexact HR
    iexact Ha
  iapply Hk
  isplitl [Ho]; · iexists _; iexact Ho
  isplitl [Hz]; · iexact Hz
  have hb : (bigSep ((sch m).duties ((c : Thread nD τ), .reg barS) 0 \ ∅) fun d => (sch m).payload ((c : Thread nD τ), .reg barS) 0 d)
      = (bigSep (Finset.univ.erase c) fun p => barPay (F := F) c p : sProp 𝕄) := by
    show (bigSep ((sch m).duties (kcell (c, kbar)) 0 \ ∅) fun d => (sch m).payload (kcell (c, kbar)) 0 d) = _
    rw [duties_cell, Finset.sdiff_empty]
    exact bigSep_congr fun p _ => payload_cell m (c, kbar) p
  iapply (Entails.of_eq hb); iexact Hp

end Cert.Attn

end
-- ==== Proof.Blocks.lean ====
/-
The exchange's blocks: what the program does for one device number, guarded by a comparison with its own.
-/
module

public import proofs.«01_k».proof.Proof.Steps

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## Families over the devices, worked through in order -/

/-- `B` for the devices already worked through, `A` for the rest. -/
def Fam (A B : Dev nD → sProp 𝕄) (n : ℕ) : sProp 𝕄 := bigSep Finset.univ fun d : Dev nD => if d.val < n then B d else A d

/-- The family without device `d`. -/
def FamRest (A B : Dev nD → sProp 𝕄) (d : Dev nD) : sProp 𝕄 := bigSep (Finset.univ.erase d) fun e : Dev nD => if e.val < d.val then B e else A e

omit [FloatOps F] in
/-- At 0 every member of the family is in its first state. -/
theorem Fam_zero (A B : Dev nD → sProp 𝕄) : Fam A B 0 = bigSep Finset.univ A :=
  bigSep_congr fun d _ => if_neg (Nat.not_lt_zero _)
omit [FloatOps F] in
/-- At 16 every member is in its second state. -/
theorem Fam_all (A B : Dev nD → sProp 𝕄) : Fam A B 16 = bigSep Finset.univ B :=
  bigSep_congr fun d _ => if_pos d.isLt
omit [FloatOps F] in
/-- At `d` the family is `d`'s member, still in its first state, and the rest. -/
theorem Fam_at (A B : Dev nD → sProp 𝕄) (d : Dev nD) : Fam A B d.val = iprop(A d ∗ FamRest A B d) := by
  unfold Fam FamRest
  rw [bigSep_univ_at _ d, if_neg (lt_irrefl _)]
omit [FloatOps F] in
/-- One past `d` it is `d`'s member in its second state, and the same rest. -/
theorem Fam_next (A B : Dev nD → sProp 𝕄) (d : Dev nD) : Fam A B (d.val + 1) = iprop(B d ∗ FamRest A B d) := by
  unfold Fam FamRest
  rw [bigSep_univ_at _ d, if_pos (Nat.lt_succ_self _)]
  congr 1
  refine bigSep_congr fun e he => ?_
  have hne : e.val ≠ d.val := fun h => (Finset.mem_erase.mp he).1 (Fin.ext h)
  by_cases h : e.val < d.val
  · rw [if_pos h, if_pos (by omega)]
  · rw [if_neg h, if_neg (by omega)]

/-- One device's step of a family, the rest carried along. -/
theorem fam_step {P P' W W' R : sProp 𝕄} {A B : Dev nD → sProp 𝕄} (d : Dev nD)
    (core : iprop(Rec m K ∗ P ∗ A d) ⊢ iprop((P' ∗ B d -∗ W) -∗ W'))
    (h : iprop(Rec m K ∗ P' ∗ Fam A B (d.val + 1) ∗ R) ⊢ W) :
    iprop(Rec m K ∗ P ∗ Fam A B d.val ∗ R) ⊢ W' := by
  rw [Fam_at]; rw [Fam_next] at h
  iintro ⟨#HR, HP, ⟨HA, HF⟩, HX⟩
  iapply core $$ [HP HA]
  · isplitr; · iexact HR
    isplitl [HP] <;> iassumption
  iintro ⟨HP, HB⟩
  iapply h
  isplitr; · iexact HR
  isplitl [HP]; · iexact HP
  isplitl [HB HF]
  · isplitl [HB] <;> iassumption
  iexact HX

/-- Keys and values alike. -/
abbrev both (X : Bool → sProp 𝕄) : sProp 𝕄 := iprop(X false ∗ X true)

/-! ## The entry signals -/

def sigA (c d : Dev nD) : sProp 𝕄 := if d = c then iprop(emp) else iprop(tok (d, kbar) c ∗ barPay (F := F) d c)
def none1 (_ : Dev nD) : sProp 𝕄 := iprop(emp)

/-- The step that signals device `d` unless it is the device itself: its barrier duty is paid. -/
theorem sig_block {α : Type} {Q : α → sProp 𝕄} (c d : Dev nD) {R : sProp 𝕄} {cond : Prop} [Decidable cond] (hc : cond ↔ d ≠ c)
    {nn : cond → Dev nD} (hn : ∀ h, nn h = d) {rest : PR F α}
    (h : iprop(Rec m K ∗ own c (d.val + 1) ∗ Fam (sigA c) none1 (d.val + 1) ∗ R) ⊢ WP c rest Q) :
    iprop(Rec m K ∗ own c d.val ∗ Fam (sigA c) none1 d.val ∗ R)
      ⊢ WP c (dite cond (fun h => (semSignalWord (nn h) barS 1#32 : PR F PUnit) >>= fun _ => rest) (fun _ => rest)) Q := by
  refine fam_step m K d ?_ h
  by_cases hcd : cond
  · rw [dif_pos hcd, hn hcd]
    have hdc := hc.mp hcd
    unfold sigA; rw [if_neg hdc]
    iintro ⟨#HR, Ho, Ht, Hp⟩ Hk
    iapply (op_signal m K c d hdc) $$ [Ho Ht Hp]
    · isplitr; · iexact HR
      isplitl [Ho]; · iexact Ho
      isplitl [Ht] <;> iassumption
    iintro Ho
    iapply Hk
    isplitl; · iexact Ho
    unfold none1; iempintro
  · rw [dif_neg hcd]
    have hdc : d = c := by by_contra h; exact hcd (hc.mpr h)
    have e := own_skip (F := F) c (.inl d) (fun h => h hdc)
    iintro ⟨#HR, Ho, -⟩ Hk
    iapply Hk
    isplitl
    · iapply (Entails.of_eq e); iexact Ho
    unfold none1; iempintro

/-! ## The starts -/

def locA (c d : Dev nD) : sProp 𝕄 :=
  if d = c then both fun b => iprop(srcPts m b c c ∗ (∃ f, slotPts b c c f) ∗ tok (c, klcl b) c) else iprop(emp)
def locB (c d : Dev nD) : sProp 𝕄 := if d = c then both fun b => crd (c, klcl b) else iprop(emp)
def remA (c d : Dev nD) : sProp 𝕄 :=
  if d = c then iprop(emp) else both fun b => iprop(srcPts m b c d ∗ (∃ f, slotPts b d c f) ∗ tok (c, ksnd b d) c ∗ tok (d, krcv b c) c)
def remB (c d : Dev nD) : sProp 𝕄 := if d = c then iprop(emp) else both fun b => crd (c, ksnd b d)

/-- The step that starts the two local copies when `d` is the device itself. -/
theorem loc_block {α : Type} {Q : α → sProp 𝕄} (c d : Dev nD) {P R : sProp 𝕄} {cond : Prop} [Decidable cond] (hc : cond ↔ d = c)
    {s0 s1 : Memref sig .tc .hbm S2x256x4x64 .f32} {d0 d1 : Memref sig .tc .vmem S2x256x4x64 .f32} {m0 m1 : DmaSem sig}
    (hs0 : s0 = srcOf (srcM false) d) (hs1 : s1 = srcOf (srcM true) d) (hd0 : d0 = slotOf (allM false) d) (hd1 : d1 = slotOf (allM true) d)
    (hm0 : m0 = odma (.inr (.inl false))) (hm1 : m1 = odma (.inr (.inl true)))
    {a0 : cond → s0.view.WordExact} {b0 : cond → d0.view.WordExact} {t0 : cond → DmaTarget.Typed (nD := nD) (τ := τ) (p := .tc) .hbm (.dma m0) (.here d0)}
    {a1 : cond → s1.view.WordExact} {b1 : cond → d1.view.WordExact} {t1 : cond → DmaTarget.Typed (nD := nD) (τ := τ) (p := .tc) .hbm (.dma m1) (.here d1)}
    {rest : PR F α}
    (h : iprop(Rec m K ∗ P ∗ Fam (locA m c) (locB c) (d.val + 1) ∗ R) ⊢ WP c rest Q) :
    iprop(Rec m K ∗ P ∗ Fam (locA m c) (locB c) d.val ∗ R)
      ⊢ WP c (dite cond (fun h => (Prog.lift (.enqueueDma s0 (.here d0) (.dma m0) (a0 h) (b0 h) (t0 h)) : PR F PUnit) >>= fun _ =>
          (Prog.lift (.enqueueDma s1 (.here d1) (.dma m1) (a1 h) (b1 h) (t1 h)) : PR F PUnit) >>= fun _ => rest) (fun _ => rest)) Q := by
  refine fam_step m K d ?_ h
  by_cases hcd : cond
  · rw [dif_pos hcd]
    have hdc := hc.mp hcd
    subst hdc
    unfold locA locB; rw [if_pos rfl, if_pos rfl]
    iintro ⟨#HR, HP, ⟨H0s, H0d, H0t⟩, H1s, H1d, H1t⟩ Hk
    iapply (op_local m K d false hs0 hd0 hm0) $$ [H0s H0d H0t]
    · isplitr; · iexact HR
      isplitl [H0s]; · iexact H0s
      isplitl [H0d] <;> iassumption
    iintro Hc0
    iapply (op_local m K d true hs1 hd1 hm1) $$ [H1s H1d H1t]
    · isplitr; · iexact HR
      isplitl [H1s]; · iexact H1s
      isplitl [H1d] <;> iassumption
    iintro Hc1
    iapply Hk
    isplitl [HP]; · iexact HP
    isplitl [Hc0] <;> iassumption
  · rw [dif_neg hcd]
    have hdc : d ≠ c := fun h => hcd (hc.mpr h)
    unfold locA locB; rw [if_neg hdc, if_neg hdc]
    iintro ⟨#HR, Ho, He⟩ Hk
    iapply Hk
    isplitl [Ho] <;> iassumption

/-- The step that starts the two remote copies to device `d` unless it is the device itself. -/
theorem rem_block {α : Type} {Q : α → sProp 𝕄} (c d : Dev nD) {R : sProp 𝕄} {cond : Prop} [Decidable cond] (hc : cond ↔ d ≠ c)
    {n0 n1 : cond → Dev nD} (hn0 : ∀ h, n0 h = d) (hn1 : ∀ h, n1 h = d)
    {s0 s1 : Memref sig .tc .hbm S2x256x4x64 .f32} {d0 d1 : cond → Memref sig .tc .vmem S2x256x4x64 .f32} {m0 m1 : DmaSem sig} {r0 r1 : cond → DmaSem sig}
    (hs0 : s0 = srcOf (srcM false) d) (hs1 : s1 = srcOf (srcM true) d) (hd0 : ∀ h, d0 h = slotOf (allM false) c) (hd1 : ∀ h, d1 h = slotOf (allM true) c)
    (hm0 : m0 = odma (.inl (.inl (false, d)))) (hm1 : m1 = odma (.inl (.inl (true, d))))
    (hr0 : ∀ h, r0 h = odma (.inl (.inr (false, c)))) (hr1 : ∀ h, r1 h = odma (.inl (.inr (true, c))))
    {c0 : ∀ h : cond, (d0 h).view.ref.isScScratch = false} {c1 : ∀ h : cond, (d1 h).view.ref.isScScratch = false}
    {a0 : cond → s0.view.WordExact} {b0 : ∀ h, (d0 h).view.WordExact}
    {t0 : ∀ h, DmaTarget.Typed (nD := nD) (τ := τ) (p := .tc) .hbm (.dma (r0 h)) (.remote (Dev.tc (n0 h) : Thread nD τ) (d0 h) (.dma m0) (c0 h))}
    {a1 : cond → s1.view.WordExact} {b1 : ∀ h, (d1 h).view.WordExact}
    {t1 : ∀ h, DmaTarget.Typed (nD := nD) (τ := τ) (p := .tc) .hbm (.dma (r1 h)) (.remote (Dev.tc (n1 h) : Thread nD τ) (d1 h) (.dma m1) (c1 h))}
    {rest : PR F α} {P : sProp 𝕄}
    (h : iprop(Rec m K ∗ own c (16 + 2 * (d.val + 1)) ∗ P ∗ Fam (remA m c) (remB c) (d.val + 1) ∗ R) ⊢ WP c rest Q) :
    iprop(Rec m K ∗ own c (16 + 2 * d.val) ∗ P ∗ Fam (remA m c) (remB c) d.val ∗ R)
      ⊢ WP c (dite cond (fun h => (Prog.lift (.enqueueDma s0 (.remote (Dev.tc (n0 h) : Thread nD τ) (d0 h) (.dma m0) (c0 h)) (.dma (r0 h)) (a0 h) (b0 h) (t0 h)) : PR F PUnit) >>= fun _ =>
          (Prog.lift (.enqueueDma s1 (.remote (Dev.tc (n1 h) : Thread nD τ) (d1 h) (.dma m1) (c1 h)) (.dma (r1 h)) (a1 h) (b1 h) (t1 h)) : PR F PUnit) >>= fun _ => rest) (fun _ => rest)) Q := by
  have hassoc (X : sProp 𝕄) (n : ℕ) (Y : sProp 𝕄) : iprop(X ∗ P ∗ Y) ⊢ iprop((X ∗ P) ∗ Y) := by
    iintro ⟨H1, H2, H3⟩
    isplitl [H1 H2]
    · isplitl [H1] <;> iassumption
    iexact H3
  have hassoc' (X : sProp 𝕄) (n : ℕ) (Y : sProp 𝕄) : iprop((X ∗ P) ∗ Y) ⊢ iprop(X ∗ P ∗ Y) := by
    iintro ⟨⟨H1, H2⟩, H3⟩
    isplitl [H1]; · iexact H1
    isplitl [H2] <;> iassumption
  refine (sep_mono_right (hassoc _ 0 _)).trans (fam_step m K d (P' := iprop(own c (16 + 2 * (d.val + 1)) ∗ P)) ?_ ((sep_mono_right (hassoc' _ 0 _)).trans h))
  have e0 : pos (.inr (.inl (d, false))) = 16 + 2 * d.val := rfl
  have e1 : pos (.inr (.inl (d, false))) + 1 = pos (.inr (.inl (d, true))) := rfl
  have e2 : pos (.inr (.inl (d, true))) + 1 = 16 + 2 * (d.val + 1) := by show 16 + 2 * d.val + 1 + 1 = _; omega
  by_cases hcd : cond
  · rw [dif_pos hcd]
    have hdc := hc.mp hcd
    unfold remA remB; rw [if_neg hdc, if_neg hdc]
    iintro ⟨#HR, ⟨Ho, HP⟩, ⟨H0s, H0d, H0t, H0u⟩, H1s, H1d, H1t, H1u⟩ Hk
    iapply (op_send m K c d (n0 hcd) hdc (hn0 hcd) false hs0 (hd0 hcd) hm0 (hr0 hcd)) $$ [Ho H0s H0d H0t H0u]
    · isplitr; · iexact HR
      isplitl [Ho]; · iexact Ho
      isplitl [H0s]; · iexact H0s
      isplitl [H0d]; · iexact H0d
      isplitl [H0t] <;> iassumption
    iintro ⟨Ho, Hc0⟩
    rw [e1]
    iapply (op_send m K c d (n1 hcd) hdc (hn1 hcd) true hs1 (hd1 hcd) hm1 (hr1 hcd)) $$ [Ho H1s H1d H1t H1u]
    · isplitr; · iexact HR
      isplitl [Ho]; · iexact Ho
      isplitl [H1s]; · iexact H1s
      isplitl [H1d]; · iexact H1d
      isplitl [H1t] <;> iassumption
    iintro ⟨Ho, Hc1⟩
    rw [e2]
    iapply Hk
    isplitl [Ho HP]
    · isplitl [Ho] <;> iassumption
    isplitl [Hc0] <;> iassumption
  · rw [dif_neg hcd]
    have hdc : d = c := by by_contra h; exact hcd (hc.mpr h)
    have e : (own c (16 + 2 * d.val) : sProp 𝕄) = own c (16 + 2 * (d.val + 1)) :=
      (own_skip (F := F) c (.inr (.inl (d, false))) (fun h => h hdc)).trans
        ((own_skip (F := F) c (.inr (.inl (d, true))) (fun h => h hdc)).trans (congrArg _ e2))
    unfold remA remB; rw [if_pos hdc, if_pos hdc, e]
    iintro ⟨#HR, Ho, He⟩ Hk
    iapply Hk
    isplitl [Ho] <;> iassumption

/-! ## The waits -/

def lwA (c d : Dev nD) : sProp 𝕄 := if d = c then both fun b => iprop(crd (c, klcl b) ∗ at0 (c, klcl b)) else iprop(emp)
def lwB (c d : Dev nD) : sProp 𝕄 := if d = c then both fun b => iprop(fin0 (c, klcl b) ∗ slotPts b c c (allBuf m b c) ∗ srcPts m b c c) else iprop(emp)
def rwA (c d : Dev nD) : sProp 𝕄 := both fun b => if d = c then at0 (c, krcv b d) else iprop(crd (c, krcv b d) ∗ at0 (c, krcv b d))
def rwB (c d : Dev nD) : sProp 𝕄 := both fun b => iprop(fin0 (c, krcv b d) ∗ if d = c then iprop(emp) else slotPts b c d (allBuf m b c))
def swA (c d : Dev nD) : sProp 𝕄 := both fun b => if d = c then at0 (c, ksnd b d) else iprop(crd (c, ksnd b d) ∗ at0 (c, ksnd b d))
def swB (c d : Dev nD) : sProp 𝕄 := both fun b => iprop(fin0 (c, ksnd b d) ∗ if d = c then iprop(emp) else srcPts m b c d)

/-- A wait on the pair of transfers of a family's device, guarded. -/
theorem pair_block {α : Type} {Q : α → sProp 𝕄} (c d : Dev nD) (x : Bool → OwnK) {R : sProp 𝕄} {cond : Prop} [Decidable cond] {A B : sProp 𝕄}
    {dd : Dev nD} {f0 f1 : sProp 𝕄}
    (hx : ∀ b, cond → kduties (c, .inr (x b)) = {dd}) (hl : ∀ b, klv (.inr (x b)) ≤ 2) (hamt : ∀ b, kamt (.inr (x b)) = NK)
    {sp sp' : Space} {s0 s1 : cond → Memref sig .tc sp S2x256x4x64 .f32} {d0 d1 : cond → Memref sig .tc sp' S2x256x4x64 .f32} {m0 m1 : DmaSem sig}
    (hm0 : m0 = odma (x false)) (hm1 : m1 = odma (x true))
    (hN0 : ∀ h, (d0 h).view.dmaCredit = NK) (hN1 : ∀ h, (d1 h).view.dmaCredit = NK)
    {a0 : ∀ h, (s0 h).view.WordExact} {b0 : ∀ h, (d0 h).view.WordExact} {a1 : ∀ h, (s1 h).view.WordExact} {b1 : ∀ h, (d1 h).view.WordExact}
    {rest : PR F α}
    (hA : cond → A ⊢ both fun b => iprop(crd (c, .inr (x b)) ∗ at0 (c, .inr (x b))))
    (hB : cond → (both fun b => iprop(fin0 (c, .inr (x b)) ∗ kpay m (c, .inr (x b)) dd)) ⊢ B)
    (hneg : ¬cond → iprop(Rec m K ∗ A) ⊢ |={Set.univ}=> B) :
    iprop(Rec m K ∗ own c 48 ∗ A) ⊢ iprop((own c 48 ∗ B -∗ WP c rest Q) -∗
      WP c (dite cond (fun h => (Prog.lift (.waitDma2 m0 (s0 h) (d0 h) (a0 h) (b0 h)) : PR F PUnit) >>= fun _ =>
          (Prog.lift (.waitDma2 m1 (s1 h) (d1 h) (a1 h) (b1 h)) : PR F PUnit) >>= fun _ => rest) (fun _ => rest)) Q) := by
  by_cases hcd : cond
  · rw [dif_pos hcd]
    iintro ⟨#HR, Ho, HA⟩ Hk
    ihave HA' := (hA hcd) $$ HA
    icases HA' with ⟨⟨Hc0, Ha0⟩, Hc1, Ha1⟩
    iapply (op_wait m K c (x false) dd 48 (hx false hcd) (hl false) hm0 ((hN0 hcd).trans (hamt false).symm)) $$ [Ho Hc0 Ha0]
    · isplitr; · iexact HR
      isplitl [Ho]; · iexact Ho
      isplitl [Hc0] <;> iassumption
    iintro ⟨Ho, Hf0, Hp0⟩
    iapply (op_wait m K c (x true) dd 48 (hx true hcd) (hl true) hm1 ((hN1 hcd).trans (hamt true).symm)) $$ [Ho Hc1 Ha1]
    · isplitr; · iexact HR
      isplitl [Ho]; · iexact Ho
      isplitl [Hc1] <;> iassumption
    iintro ⟨Ho, Hf1, Hp1⟩
    iapply Hk
    isplitl [Ho]; · iexact Ho
    iapply (hB hcd)
    isplitl [Hf0 Hp0]
    · isplitl [Hf0] <;> iassumption
    isplitl [Hf1] <;> iassumption
  · rw [dif_neg hcd]
    iintro ⟨#HR, Ho, HA⟩ Hk
    imod (hneg hcd) $$ [HA] with HB
    · isplitr; · iexact HR
      iexact HA
    iapply Hk
    isplitl [Ho] <;> iassumption

/-- The step that waits for the two local copies when `d` is the device itself. -/
theorem lw_block {α : Type} {Q : α → sProp 𝕄} (c d : Dev nD) {R : sProp 𝕄} {cond : Prop} [Decidable cond] (hc : cond ↔ d = c)
    {sp sp' : Space} {s0 s1 : cond → Memref sig .tc sp S2x256x4x64 .f32} {d0 d1 : cond → Memref sig .tc sp' S2x256x4x64 .f32} {m0 m1 : DmaSem sig}
    (hm0 : m0 = odma (.inr (.inl false))) (hm1 : m1 = odma (.inr (.inl true)))
    (hN0 : ∀ h, (d0 h).view.dmaCredit = NK) (hN1 : ∀ h, (d1 h).view.dmaCredit = NK)
    {a0 : ∀ h, (s0 h).view.WordExact} {b0 : ∀ h, (d0 h).view.WordExact} {a1 : ∀ h, (s1 h).view.WordExact} {b1 : ∀ h, (d1 h).view.WordExact}
    {rest : PR F α}
    (h : iprop(Rec m K ∗ own c 48 ∗ Fam (lwA c) (lwB m c) (d.val + 1) ∗ R) ⊢ WP c rest Q) :
    iprop(Rec m K ∗ own c 48 ∗ Fam (lwA c) (lwB m c) d.val ∗ R)
      ⊢ WP c (dite cond (fun h => (Prog.lift (.waitDma2 m0 (s0 h) (d0 h) (a0 h) (b0 h)) : PR F PUnit) >>= fun _ =>
          (Prog.lift (.waitDma2 m1 (s1 h) (d1 h) (a1 h) (b1 h)) : PR F PUnit) >>= fun _ => rest) (fun _ => rest)) Q := by
  refine fam_step m K d (pair_block m K c d (fun b => .inr (.inl b)) (R := R) (dd := c) (f0 := R) (f1 := R) (fun _ _ => rfl)
    (fun _ => Nat.zero_le _) (fun _ => rfl) hm0 hm1 hN0 hN1 (fun h => ?_) (fun h => ?_) (fun h => ?_)) h
  · unfold lwA; rw [if_pos (hc.mp h)]
  · unfold lwB; rw [if_pos (hc.mp h)]; exact .rfl
  · have hdc : d ≠ c := fun e => h (hc.mpr e)
    unfold lwA lwB; rw [if_neg hdc, if_neg hdc]
    iintro ⟨-, HE⟩
    imodintro; iexact HE

/-- The step that waits for device `d`'s two copies unless it is the device itself. -/
theorem rw_block {α : Type} {Q : α → sProp 𝕄} (c d : Dev nD) {R : sProp 𝕄} {cond : Prop} [Decidable cond] (hc : cond ↔ d ≠ c)
    {sp sp' : Space} {s0 s1 : cond → Memref sig .tc sp S2x256x4x64 .f32} {d0 d1 : cond → Memref sig .tc sp' S2x256x4x64 .f32} {m0 m1 : DmaSem sig}
    (hm0 : m0 = odma (.inl (.inr (false, d)))) (hm1 : m1 = odma (.inl (.inr (true, d))))
    (hN0 : ∀ h, (d0 h).view.dmaCredit = NK) (hN1 : ∀ h, (d1 h).view.dmaCredit = NK)
    {a0 : ∀ h, (s0 h).view.WordExact} {b0 : ∀ h, (d0 h).view.WordExact} {a1 : ∀ h, (s1 h).view.WordExact} {b1 : ∀ h, (d1 h).view.WordExact}
    {rest : PR F α}
    (h : iprop(Rec m K ∗ own c 48 ∗ Fam (rwA c) (rwB m c) (d.val + 1) ∗ R) ⊢ WP c rest Q) :
    iprop(Rec m K ∗ own c 48 ∗ Fam (rwA c) (rwB m c) d.val ∗ R)
      ⊢ WP c (dite cond (fun h => (Prog.lift (.waitDma2 m0 (s0 h) (d0 h) (a0 h) (b0 h)) : PR F PUnit) >>= fun _ =>
          (Prog.lift (.waitDma2 m1 (s1 h) (d1 h) (a1 h) (b1 h)) : PR F PUnit) >>= fun _ => rest) (fun _ => rest)) Q := by
  refine fam_step m K d (pair_block m K c d (fun b => .inl (.inr (b, d))) (R := R) (dd := d) (f0 := R) (f1 := R) (fun b h => kduties_rcv (hc.mp h))
    (fun _ => by show 2 ≤ lvl 48; decide) (fun _ => rfl) hm0 hm1 hN0 hN1 (fun h => ?_) (fun h => ?_) (fun h => ?_)) h
  · unfold rwA; simp only [if_neg (hc.mp h)]; exact .rfl
  · unfold rwB; simp only [if_neg (hc.mp h)]; exact .rfl
  · have hdc : d = c := by by_contra e; exact h (hc.mpr e)
    unfold rwA rwB; simp only [if_pos hdc]
    iintro ⟨#HR, H0, H1⟩
    imod (close_empty m K (c, krcv false d) (if_pos hdc)) $$ [H0] with H0
    · isplitr; · iexact HR
      iexact H0
    imod (close_empty m K (c, krcv true d) (if_pos hdc)) $$ [H1] with H1
    · isplitr; · iexact HR
      iexact H1
    imodintro
    isplitl [H0]
    · isplitl; · iexact H0
      iempintro
    isplitl; · iexact H1
    iempintro

/-- The step that waits until the copies to device `d` have left, unless it is the device itself. -/
theorem sw_block {α : Type} {Q : α → sProp 𝕄} (c d : Dev nD) {R : sProp 𝕄} {cond : Prop} [Decidable cond] (hc : cond ↔ d ≠ c)
    {sp sp' : Space} {s0 s1 : cond → Memref sig .tc sp S2x256x4x64 .f32} {d0 d1 : cond → Memref sig .tc sp' S2x256x4x64 .f32} {m0 m1 : DmaSem sig}
    (hm0 : m0 = odma (.inl (.inl (false, d)))) (hm1 : m1 = odma (.inl (.inl (true, d))))
    (hN0 : ∀ h, (d0 h).view.dmaCredit = NK) (hN1 : ∀ h, (d1 h).view.dmaCredit = NK)
    {a0 : ∀ h, (s0 h).view.WordExact} {b0 : ∀ h, (d0 h).view.WordExact} {a1 : ∀ h, (s1 h).view.WordExact} {b1 : ∀ h, (d1 h).view.WordExact}
    {rest : PR F α}
    (h : iprop(Rec m K ∗ own c 48 ∗ Fam (swA c) (swB m c) (d.val + 1) ∗ R) ⊢ WP c rest Q) :
    iprop(Rec m K ∗ own c 48 ∗ Fam (swA c) (swB m c) d.val ∗ R)
      ⊢ WP c (dite cond (fun h => (Prog.lift (.waitDma2 m0 (s0 h) (d0 h) (a0 h) (b0 h)) : PR F PUnit) >>= fun _ =>
          (Prog.lift (.waitDma2 m1 (s1 h) (d1 h) (a1 h) (b1 h)) : PR F PUnit) >>= fun _ => rest) (fun _ => rest)) Q := by
  refine fam_step m K d (pair_block m K c d (fun b => .inl (.inl (b, d))) (R := R) (dd := c) (f0 := R) (f1 := R) (fun b h => kduties_snd (hc.mp h))
    (fun _ => Nat.zero_le _) (fun _ => rfl) hm0 hm1 hN0 hN1 (fun h => ?_) (fun h => ?_) (fun h => ?_)) h
  · unfold swA; simp only [if_neg (hc.mp h)]; exact .rfl
  · unfold swB; simp only [if_neg (hc.mp h)]; exact .rfl
  · have hdc : d = c := by by_contra e; exact h (hc.mpr e)
    unfold swA swB; simp only [if_pos hdc]
    iintro ⟨#HR, H0, H1⟩
    imod (close_empty m K (c, ksnd false d) (if_pos hdc)) $$ [H0] with H0
    · isplitr; · iexact HR
      iexact H0
    imod (close_empty m K (c, ksnd true d) (if_pos hdc)) $$ [H1] with H1
    · isplitr; · iexact HR
      iexact H1
    imodintro
    isplitl [H0]
    · isplitl; · iexact H0
      iempintro
    isplitl; · iexact H1
    iempintro

/-! ## The waits on the barrier and of the all-reduce, the send of a round -/

/-- The barrier's wait takes every other device's signal. -/
theorem bar_step {α : Type} {Q : α → sProp 𝕄} (c : Dev nD) {R : sProp 𝕄} {rest : PR F α}
    (h : iprop(Rec m K ∗ own c 16 ∗ fin0 (c, kbar) ∗ (bigSep (Finset.univ.erase c) fun p => barPay c p) ∗ R) ⊢ WP c rest Q) :
    iprop(Rec m K ∗ own c 16 ∗ crd (c, kbar) ∗ at0 (c, kbar) ∗ R) ⊢ WP c ((semWaitWord barS 15#32 : PR F PUnit) >>= fun _ => rest) Q := by
  iintro ⟨#HR, Ho, Hc, Ha, HX⟩
  iapply (op_barrier m K c) $$ [Ho Hc Ha]
  · isplitr; · iexact HR
    isplitl [Ho]; · iexact Ho
    isplitl [Hc] <;> iassumption
  iintro ⟨Ho, Hf, Hp⟩
  iapply h
  isplitr; · iexact HR
  isplitl [Ho]; · iexact Ho
  isplitl [Hf]; · iexact Hf
  isplitl [Hp] <;> iassumption

/-! ## Loads and stores -/

/-- A whole buffer, read through the view `v` as `X` where `P` says. -/
def part {sp : Space} {s : Shape} {e : EltTy} (v : View sig .tc sp s e) (c : Dev nD) (X : s.Idx → Elt F e) (P : s.Idx → Prop) : sProp 𝕄 :=
  iprop(∃ f : Buf (Elt F) (v.loc (c : Thread nD τ)), ⌜∀ i, P i → v.read (Elt F) f i = X i⌝ ∗ (v.loc (c : Thread nD τ) ↦{fullShare} f))
/-- A whole buffer, read through the view `v` as `X`. -/
abbrev whole {sp : Space} {s : Shape} {e : EltTy} (v : View sig .tc sp s e) (c : Dev nD) (X : s.Idx → Elt F e) : sProp 𝕄 := part v c X fun _ => True

omit [FloatOps F] in
/-- Contents known on a set are known on a smaller one. -/
theorem part_mono {sp : Space} {s : Shape} {e : EltTy} {c : Dev nD} {X : s.Idx → Elt F e} {P P' : s.Idx → Prop} (v : View sig .tc sp s e) (h : ∀ i, P' i → P i) : part v c X P ⊢ part v c X P' := by
  unfold part
  iintro ⟨%f, %hf, H⟩
  iexists f
  isplitr
  · ipureintro; exact fun i hi => hf i (h i hi)
  iexact H
omit [FloatOps F] in
/-- Some contents are contents known on the empty set. -/
theorem any_part {sp : Space} {s : Shape} {e : EltTy} {c : Dev nD} {X : s.Idx → Elt F e} {P : s.Idx → Prop} (v : View sig .tc sp s e) (h : ∀ i, ¬P i) :
    iprop(∃ f : Buf (Elt F) (v.loc (c : Thread nD τ)), (v.loc (c : Thread nD τ) ↦{fullShare} f)) ⊢ part v c X P := by
  unfold part
  iintro ⟨%f, H⟩
  iexists f
  isplitr
  · ipureintro; exact fun i hi => absurd hi (h i)
  iexact H

/-- A load from a view with known contents reads them. -/
theorem ld_whole {α : Type} {Q : α → sProp 𝕄} {s : Shape} {e : EltTy} {cs : CoreSpace} {c : Dev nD} {X : s.Idx → Elt F e} {S R : sProp 𝕄}
    {mm : Memref sig .tc (.core cs) s e} (hS : S ⊢ iprop(whole mm.view c X ∗ R)) (hS' : iprop(whole mm.view c X ∗ R) ⊢ S)
    {r : Rect s} {hl : mm.view.LoadsAt r.toLoadRect}
    {k : (r.toLoadRect.shape.Idx → Elt F e) → PR F α} (h : S ⊢ WP c (k (View.ld X r)) Q) :
    S ⊢ WP c ((Prog.lift (.load mm r.toLoadRect hl) : PR F _) >>= k) Q := by
  iintro HS
  ihave H := hS $$ HS
  icases H with ⟨Hb, HR⟩
  unfold whole part
  icases Hb with ⟨%f, %hf, Hb⟩
  iapply (wp_load Variants.none (c : Thread nD τ) none Set.univ (m := mm) (r := r.toLoadRect) (hl := hl) (k := k) (Q := Q) (q := fullShare)
    (f := f) (Finset.subset_univ _)) $$ Hb
  iintro Hb
  rw [View.readAt_eq_ld, show mm.view.read (Elt F) f = X from funext fun i => hf i trivial]
  iapply h
  iapply hS'
  isplitl [Hb]
  · unfold whole part
    iexists f
    isplitr; · ipureintro; exact hf
    iexact Hb
  iexact HR

/-- A load whose value is not used may read from partly known contents. -/
theorem ld_part {α : Type} {Q : α → sProp 𝕄} {s : Shape} {e : EltTy} {cs : CoreSpace} {c : Dev nD} {X : s.Idx → Elt F e} {P : s.Idx → Prop} {S R : sProp 𝕄}
    {mm : Memref sig .tc (.core cs) s e} (hS : S ⊢ iprop(part mm.view c X P ∗ R)) (hS' : iprop(part mm.view c X P ∗ R) ⊢ S)
    {r : LoadRect s} {hl : mm.view.LoadsAt r} {rest : PR F α} (h : S ⊢ WP c rest Q) :
    S ⊢ WP c ((Prog.lift (.load mm r hl) : PR F _) >>= fun _ => rest) Q := by
  iintro HS
  ihave H := hS $$ HS
  icases H with ⟨Hb, HR⟩
  unfold part
  icases Hb with ⟨%f, %hf, Hb⟩
  iapply (wp_load Variants.none (c : Thread nD τ) none Set.univ (m := mm) (r := r) (hl := hl) (k := fun _ => rest) (q := fullShare)
    (f := f) (Finset.subset_univ _)) $$ Hb
  iintro Hb
  iapply h
  iapply hS'
  unfold part
  isplitl [Hb]
  · iexists f
    isplitr; · ipureintro; exact hf
    iexact Hb
  iexact HR

/-- A store of the wanted values widens the set on which the contents are known. -/
theorem st_part {α : Type} {Q : α → sProp 𝕄} {s : Shape} {e : EltTy} {cs : CoreSpace} {c : Dev nD} {X : s.Idx → Elt F e} {P P' : s.Idx → Prop} {S S' R : sProp 𝕄}
    {mm : Memref sig .tc (.core cs) s e} (hS : S ⊢ iprop(part mm.view c X P ∗ R)) {Y : s.Idx → Elt F e} (hS' : iprop(part mm.view c Y P' ∗ R) ⊢ S')
    {r : Rect s} {w : r.shape.Idx → Elt F e} {hx : (mm.access r).Stores Finset.univ} {hm : Finset.univ = Finset.univ ∨ ∀ a, r.stride a = 1}
    (hw : ∀ x, w x = Y (r.idx x)) (hP : ∀ i, P' i → (P i ∧ X i = Y i) ∨ ∃ x, r.idx x = i)
    {k : PUnit → PR F α} (h : S' ⊢ WP c (k ⟨⟩) Q) :
    S ⊢ WP c ((Prog.lift (.store mm r w Finset.univ hx hm) : PR F _) >>= k) Q := by
  iintro HS
  ihave H := hS $$ HS
  icases H with ⟨Hb, HR⟩
  unfold part
  icases Hb with ⟨%f, %hf, Hb⟩
  iapply (wp_store Variants.none (c : Thread nD τ) none Set.univ (m := mm) (r := r) (Mk := Finset.univ) (w := w) (hx := hx) (hm := hm) (k := k) (Q := Q)
    (f := f) (Finset.subset_univ _)) $$ Hb
  iintro Hb
  iapply h
  iapply hS'
  unfold part
  isplitl [Hb]
  · iexists _
    isplitr
    swap; · iexact Hb
    ipureintro
    intro i hi
    by_cases hr : ∃ x, r.idx x = i
    · obtain ⟨x, rfl⟩ := hr
      exact (View.read_slice_write_emb (v := mm.view) r f w (Finset.mem_univ x)).trans (hw x)
    · have hp := (hP i hi).resolve_right hr
      refine (View.read_slice_write_of_not_mem (v := mm.view) r f w _ ?_).trans ((hf i hp.1).trans hp.2)
      intro hmem
      obtain ⟨x, -, hx⟩ := Finset.mem_map.mp hmem
      exact hr ⟨x, hx⟩
  iexact HR

end Cert.Attn

end
-- ==== Proof.Parts.lean ====
/-
The body's parts on the launch's buffers: the exchange.
-/
module

public import proofs.«01_k».proof.Proof.Blocks

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- A part of the body on the buffers the launch gives it. -/
abbrev on {β : Type 1} (f : (arg0 : Memref sig .tc .vmem S2x256x512 .f32) → arg0.IsWhole → (arg1 : Memref sig .tc .vmem S512x256 .f32) → arg1.IsWhole →
    (arg2 : Memref sig .tc .hbm S2x256x64x64 .f32) → arg2.IsWhole → (arg3 : Memref sig .tc .hbm S2x256x64x64 .f32) → arg3.IsWhole →
    (arg4 : Memref sig .tc .vmem S256x512 .f32) → arg4.IsWhole → (arg5 : Memref sig .tc .vmem S2x256x512 .f32) → arg5.IsWhole →
    (arg6 : Memref sig .tc .vmem S2x256x256 .f32) → arg6.IsWhole → (arg7 : Memref sig .tc .vmem S16x2x256x4x64 .f32) → arg7.IsWhole →
    (arg8 : Memref sig .tc .vmem S16x2x256x4x64 .f32) → arg8.IsWhole → (arg9 : Memref sig .tc .vmem S2x256x4x64 .f32) → arg9.IsWhole →
    (arg10 : Memref sig .tc .vmem S4x2x256x512 .f32) → arg10.IsWhole →
    DmaSems sig S16 → DmaSems sig S16 → DmaSems sig S16 → DmaSems sig S16 → DmaSems sig S4 → DmaSems sig S4 → DmaSems sig S2 → β) : β :=
  f (Memref.whole cc0_stg0_0) (Memref.isWhole_whole _) (Memref.whole cc0_stg1_0) (Memref.isWhole_whole _)
    (Memref.whole main_arg2) (Memref.isWhole_whole _) (Memref.whole main_arg3) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10 cc0_scratch11

/-! ## Steps of the program logic -/

/-- To run a step and then the rest, run the step. -/
theorem bind_step {α β : Type} {Q : β → sProp 𝕄} {c : Dev nD} {S : sProp 𝕄} {p : PR F α} {k : α → PR F β}
    (h : S ⊢ WP c p fun a => WP c (k a) Q) : S ⊢ WP c (p >>= k) Q := by
  unfold WP at h ⊢; rw [wp_bind]; exact h
/-- A step that only returns a value ends with what it started with. -/
theorem pure_step {α : Type} {Q : α → sProp 𝕄} {c : Dev nD} {S : sProp 𝕄} {v : α} (h : S ⊢ Q v) : S ⊢ WP c (pure v : PR F α) Q := by
  show S ⊢ wp frame _ Set.univ (Prog.ret v) Q
  rw [wp_ret]
  iintro HS
  imodintro
  iapply h; iexact HS
/-- Reading the device's number gives the device. -/
theorem id_step {α : Type} {Q : α → sProp 𝕄} {c : Dev nD} {S : sProp 𝕄} {k : Dev nD → PR F α} (h : S ⊢ WP c (k c) Q) :
    S ⊢ WP c ((Prog.lift .deviceId : PR F (Dev nD)) >>= k) Q := by
  show S ⊢ wp frame _ Set.univ (.op .deviceId fun d => k d) Q
  rw [wp_deviceId]; exact h

/-- The device number as the program computes it. -/
abbrev word2 (c : Dev nD) : BitVec 32 := Scalar.remsi (Scalar.divsi (Dev.word c) 1#32) 16#32

/-- The program's test for its own number. -/
theorem isOwn (c : Dev nD) (d : Dev nD) :
    Scalar.cmpi .ne (Scalar.extui (Scalar.cmpi .eq (word2 c) (BitVec.ofNat 32 d.val)) : BitVec 32) 0#32 = 1#1 ↔ d = c := by
  revert c d; decide +kernel
/-- Its test for every other. -/
theorem isOther (c : Dev nD) (d : Dev nD) :
    Scalar.cmpi .ne (Scalar.extui (Scalar.cmpi .ne (word2 c) (BitVec.ofNat 32 d.val)) : BitVec 32) 0#32 = 1#1 ↔ d ≠ c := by
  revert c d; decide +kernel

/-- A gathered buffer's slot at a computed offset. -/
theorem slot_at (M : Memref sig .tc .vmem S16x2x256x4x64 .f32) (c : Dev nD) {off : Fin 5 → ℕ} (ho : off = ![c.val, 0, 0, 0, 0])
    {inb : ∀ a, off a + S1x2x256x4x64.size a ≤ S16x2x256x4x64.size a} {hst} :
    (M.slice (Rect.unit (s := S16x2x256x4x64) off S1x2x256x4x64.size inb) hst).squeeze S2x256x4x64 squeezes_S1x2x256x4x64_S2x256x4x64 = slotOf M c := by
  subst ho; rfl
/-- A receive semaphore at a computed offset. -/
theorem rcv_at (b : Bool) (c : Dev nD) {A : DmaSems sig S16} (hA : A = if b then cc0_scratch8 else cc0_scratch7) {off : Fin 1 → ℕ} (ho : off = ![c.val])
    {inb : ∀ a, off a + S1.size a ≤ S16.size a} :
    ((A.slice (Rect.unit (s := S16) off S1.size inb)).squeeze S_ squeezes_S1_S_).sem = odma (.inl (.inr (b, c))) := by
  subst ho hA; revert c; cases b <;> decide +kernel

set_option maxRecDepth 65536 in
/-- Part 1: the signals to the first devices. -/
theorem part1_wp {Q : _ → sProp 𝕄} (c : Dev nD) {R : sProp 𝕄}
    (h : iprop(Rec m K ∗ own c 8 ∗ Fam (sigA c) none1 8 ∗ R) ⊢ Q ⟨c, word2 c, SemArray.scalar (sig.barrier 0 rfl)⟩) :
    iprop(Rec m K ∗ own c 0 ∗ Fam (sigA c) none1 0 ∗ R) ⊢ WP c (on (k0_part1 (F := F))) Q := by
  rw [k0_part1_eq_skeleton]; unfold on k0_part1_skel
  refine id_step ?_
  refine sig_block m K c 0 (by clear h; revert c; decide +kernel) (fun _ => Fin.ext k0_dev1_eq) ?_
  refine sig_block m K c 1 (by clear h; revert c; decide +kernel) (fun _ => Fin.ext k0_dev2_eq) ?_
  refine sig_block m K c 2 (by clear h; revert c; decide +kernel) (fun _ => Fin.ext k0_dev3_eq) ?_
  refine sig_block m K c 3 (by clear h; revert c; decide +kernel) (fun _ => Fin.ext k0_dev4_eq) ?_
  refine sig_block m K c 4 (by clear h; revert c; decide +kernel) (fun _ => Fin.ext k0_dev5_eq) ?_
  refine sig_block m K c 5 (by clear h; revert c; decide +kernel) (fun _ => Fin.ext k0_dev6_eq) ?_
  refine sig_block m K c 6 (by clear h; revert c; decide +kernel) (fun _ => Fin.ext k0_dev7_eq) ?_
  refine sig_block m K c 7 (by clear h; revert c; decide +kernel) (fun _ => Fin.ext k0_dev8_eq) ?_
  exact pure_step h

/-- The state of the starts: `n` of the local copies considered, `n'` of the remote ones. -/
abbrev Starts (c : Dev nD) (n n' : ℕ) (R : sProp 𝕄) : sProp 𝕄 :=
  iprop(Rec m K ∗ own c (16 + 2 * n') ∗ Fam (locA m c) (locB c) n ∗ Fam (remA m c) (remB c) n' ∗ R)

set_option maxRecDepth 65536 in
set_option maxHeartbeats 1000000 in
/-- Part 2: the last signals, the barrier and the first copies. -/
theorem part2_wp {Q : _ → sProp 𝕄} (c : Dev nD) {R R' R'' : sProp 𝕄}
    (h0 : iprop(Rec m K ∗ own c 16 ∗ Fam (sigA c) none1 16 ∗ R) ⊢ iprop(Rec m K ∗ own c 16 ∗ crd (c, kbar) ∗ at0 (c, kbar) ∗ R'))
    (h1 : iprop(Rec m K ∗ own c 16 ∗ fin0 (c, kbar) ∗ (bigSep (Finset.univ.erase c) fun p => barPay c p) ∗ R') ⊢ Starts m K c 0 0 R'')
    (h : Starts m K c 1 1 R'' ⊢ Q (Scalar.cmpi .eq (word2 c) 1#32)) :
    iprop(Rec m K ∗ own c 8 ∗ Fam (sigA c) none1 8 ∗ R) ⊢ WP c (on (k0_part2 (F := F)) c (word2 c) (SemArray.scalar (sig.barrier 0 rfl))) Q := by
  rw [k0_part2_eq_skeleton]; unfold on k0_part2_skel
  refine sig_block m K c 8 (by clear h h0 h1; revert c; decide +kernel) (fun _ => Fin.ext k0_dev9_eq) ?_
  refine sig_block m K c 9 (by clear h h0 h1; revert c; decide +kernel) (fun _ => Fin.ext k0_dev10_eq) ?_
  refine sig_block m K c 10 (by clear h h0 h1; revert c; decide +kernel) (fun _ => Fin.ext k0_dev11_eq) ?_
  refine sig_block m K c 11 (by clear h h0 h1; revert c; decide +kernel) (fun _ => Fin.ext k0_dev12_eq) ?_
  refine sig_block m K c 12 (by clear h h0 h1; revert c; decide +kernel) (fun _ => Fin.ext k0_dev13_eq) ?_
  refine sig_block m K c 13 (by clear h h0 h1; revert c; decide +kernel) (fun _ => Fin.ext k0_dev14_eq) ?_
  refine sig_block m K c 14 (by clear h h0 h1; revert c; decide +kernel) (fun _ => Fin.ext k0_dev15_eq) ?_
  refine sig_block m K c 15 (by clear h h0 h1; revert c; decide +kernel) (fun _ => Fin.ext k0_dev16_eq) ?_
  refine h0.trans (bar_step m K c (h1.trans ?_))
  refine loc_block m K c 0 (by exact isOwn c 0) (by rfl) (by rfl) (by rfl) (by rfl) (by rfl) (by rfl) ?_
  refine rem_block m K c 0 (by clear h h0 h1; revert c; decide +kernel) (fun _ => Fin.ext k0_dev17_eq) (fun _ => Fin.ext k0_dev18_eq) (by rfl) (by rfl)
    (by exact fun _ => slot_at _ c (k0_off2_eq c)) (by exact fun _ => slot_at _ c (k0_off2_eq c)) (by rfl) (by rfl)
    (by exact fun _ => rcv_at false c rfl (k0_off1_eq c)) (by exact fun _ => rcv_at true c rfl (k0_off1_eq c)) ?_
  exact pure_step h

set_option maxRecDepth 65536 in
/-- Part 3: copies' starts, up to device 5. -/
theorem part3_wp {Q : _ → sProp 𝕄} (c : Dev nD) {R : sProp 𝕄} (h : Starts m K c 6 6 R ⊢ Q (Scalar.cmpi .eq (word2 c) 6#32)) :
    Starts m K c 1 1 R ⊢ WP c (on (k0_part3 (F := F)) c (word2 c) (Scalar.cmpi .eq (word2 c) 1#32)) Q := by
  rw [k0_part3_eq_skeleton]; unfold on k0_part3_skel
  refine loc_block m K c 1 (by exact isOwn c 1) (by rfl) (by rfl) (by rfl) (by rfl) (by rfl) (by rfl) ?_
  refine rem_block m K c 1 (by clear h; revert c; decide +kernel) (fun _ => Fin.ext k0_dev19_eq) (fun _ => Fin.ext k0_dev20_eq) (by rfl) (by rfl)
    (by exact fun _ => slot_at _ c (k0_off4_eq c)) (by exact fun _ => slot_at _ c (k0_off4_eq c)) (by rfl) (by rfl)
    (by exact fun _ => rcv_at false c rfl (k0_off3_eq c)) (by exact fun _ => rcv_at true c rfl (k0_off3_eq c)) ?_
  refine loc_block m K c 2 (by exact isOwn c 2) (by rfl) (by rfl) (by rfl) (by rfl) (by rfl) (by rfl) ?_
  refine rem_block m K c 2 (by clear h; revert c; decide +kernel) (fun _ => Fin.ext k0_dev21_eq) (fun _ => Fin.ext k0_dev22_eq) (by rfl) (by rfl)
    (by exact fun _ => slot_at _ c (k0_off6_eq c)) (by exact fun _ => slot_at _ c (k0_off6_eq c)) (by rfl) (by rfl)
    (by exact fun _ => rcv_at false c rfl (k0_off5_eq c)) (by exact fun _ => rcv_at true c rfl (k0_off5_eq c)) ?_
  refine loc_block m K c 3 (by exact isOwn c 3) (by rfl) (by rfl) (by rfl) (by rfl) (by rfl) (by rfl) ?_
  refine rem_block m K c 3 (by clear h; revert c; decide +kernel) (fun _ => Fin.ext k0_dev23_eq) (fun _ => Fin.ext k0_dev24_eq) (by rfl) (by rfl)
    (by exact fun _ => slot_at _ c (k0_off8_eq c)) (by exact fun _ => slot_at _ c (k0_off8_eq c)) (by rfl) (by rfl)
    (by exact fun _ => rcv_at false c rfl (k0_off7_eq c)) (by exact fun _ => rcv_at true c rfl (k0_off7_eq c)) ?_
  refine loc_block m K c 4 (by exact isOwn c 4) (by rfl) (by rfl) (by rfl) (by rfl) (by rfl) (by rfl) ?_
  refine rem_block m K c 4 (by clear h; revert c; decide +kernel) (fun _ => Fin.ext k0_dev25_eq) (fun _ => Fin.ext k0_dev26_eq) (by rfl) (by rfl)
    (by exact fun _ => slot_at _ c (k0_off10_eq c)) (by exact fun _ => slot_at _ c (k0_off10_eq c)) (by rfl) (by rfl)
    (by exact fun _ => rcv_at false c rfl (k0_off9_eq c)) (by exact fun _ => rcv_at true c rfl (k0_off9_eq c)) ?_
  refine loc_block m K c 5 (by exact isOwn c 5) (by rfl) (by rfl) (by rfl) (by rfl) (by rfl) (by rfl) ?_
  refine rem_block m K c 5 (by clear h; revert c; decide +kernel) (fun _ => Fin.ext k0_dev27_eq) (fun _ => Fin.ext k0_dev28_eq) (by rfl) (by rfl)
    (by exact fun _ => slot_at _ c (k0_off12_eq c)) (by exact fun _ => slot_at _ c (k0_off12_eq c)) (by rfl) (by rfl)
    (by exact fun _ => rcv_at false c rfl (k0_off11_eq c)) (by exact fun _ => rcv_at true c rfl (k0_off11_eq c)) ?_
  exact pure_step h

set_option maxRecDepth 65536 in
/-- Part 4: copies' starts, up to device 10. -/
theorem part4_wp {Q : _ → sProp 𝕄} (c : Dev nD) {R : sProp 𝕄} (h : Starts m K c 11 11 R ⊢ Q (Scalar.cmpi .eq (word2 c) 11#32)) :
    Starts m K c 6 6 R ⊢ WP c (on (k0_part4 (F := F)) c (word2 c) (Scalar.cmpi .eq (word2 c) 6#32)) Q := by
  rw [k0_part4_eq_skeleton]; unfold on k0_part4_skel
  refine loc_block m K c 6 (by exact isOwn c 6) (by rfl) (by rfl) (by rfl) (by rfl) (by rfl) (by rfl) ?_
  refine rem_block m K c 6 (by clear h; revert c; decide +kernel) (fun _ => Fin.ext k0_dev29_eq) (fun _ => Fin.ext k0_dev30_eq) (by rfl) (by rfl)
    (by exact fun _ => slot_at _ c (k0_off14_eq c)) (by exact fun _ => slot_at _ c (k0_off14_eq c)) (by rfl) (by rfl)
    (by exact fun _ => rcv_at false c rfl (k0_off13_eq c)) (by exact fun _ => rcv_at true c rfl (k0_off13_eq c)) ?_
  refine loc_block m K c 7 (by exact isOwn c 7) (by rfl) (by rfl) (by rfl) (by rfl) (by rfl) (by rfl) ?_
  refine rem_block m K c 7 (by clear h; revert c; decide +kernel) (fun _ => Fin.ext k0_dev31_eq) (fun _ => Fin.ext k0_dev32_eq) (by rfl) (by rfl)
    (by exact fun _ => slot_at _ c (k0_off16_eq c)) (by exact fun _ => slot_at _ c (k0_off16_eq c)) (by rfl) (by rfl)
    (by exact fun _ => rcv_at false c rfl (k0_off15_eq c)) (by exact fun _ => rcv_at true c rfl (k0_off15_eq c)) ?_
  refine loc_block m K c 8 (by exact isOwn c 8) (by rfl) (by rfl) (by rfl) (by rfl) (by rfl) (by rfl) ?_
  refine rem_block m K c 8 (by clear h; revert c; decide +kernel) (fun _ => Fin.ext k0_dev33_eq) (fun _ => Fin.ext k0_dev34_eq) (by rfl) (by rfl)
    (by exact fun _ => slot_at _ c (k0_off18_eq c)) (by exact fun _ => slot_at _ c (k0_off18_eq c)) (by rfl) (by rfl)
    (by exact fun _ => rcv_at false c rfl (k0_off17_eq c)) (by exact fun _ => rcv_at true c rfl (k0_off17_eq c)) ?_
  refine loc_block m K c 9 (by exact isOwn c 9) (by rfl) (by rfl) (by rfl) (by rfl) (by rfl) (by rfl) ?_
  refine rem_block m K c 9 (by clear h; revert c; decide +kernel) (fun _ => Fin.ext k0_dev35_eq) (fun _ => Fin.ext k0_dev36_eq) (by rfl) (by rfl)
    (by exact fun _ => slot_at _ c (k0_off20_eq c)) (by exact fun _ => slot_at _ c (k0_off20_eq c)) (by rfl) (by rfl)
    (by exact fun _ => rcv_at false c rfl (k0_off19_eq c)) (by exact fun _ => rcv_at true c rfl (k0_off19_eq c)) ?_
  refine loc_block m K c 10 (by exact isOwn c 10) (by rfl) (by rfl) (by rfl) (by rfl) (by rfl) (by rfl) ?_
  refine rem_block m K c 10 (by clear h; revert c; decide +kernel) (fun _ => Fin.ext k0_dev37_eq) (fun _ => Fin.ext k0_dev38_eq) (by rfl) (by rfl)
    (by exact fun _ => slot_at _ c (k0_off22_eq c)) (by exact fun _ => slot_at _ c (k0_off22_eq c)) (by rfl) (by rfl)
    (by exact fun _ => rcv_at false c rfl (k0_off21_eq c)) (by exact fun _ => rcv_at true c rfl (k0_off21_eq c)) ?_
  exact pure_step h

set_option maxRecDepth 65536 in
/-- Part 5: copies' starts, up to device 15. -/
theorem part5_wp {Q : _ → sProp 𝕄} (c : Dev nD) {R : sProp 𝕄} (h : Starts m K c 16 16 R ⊢ Q ⟨⟩) :
    Starts m K c 11 11 R ⊢ WP c (on (k0_part5 (F := F)) c (word2 c) (Scalar.cmpi .eq (word2 c) 11#32)) Q := by
  rw [k0_part5_eq_skeleton]; unfold on k0_part5_skel
  refine loc_block m K c 11 (by exact isOwn c 11) (by rfl) (by rfl) (by rfl) (by rfl) (by rfl) (by rfl) ?_
  refine rem_block m K c 11 (by clear h; revert c; decide +kernel) (fun _ => Fin.ext k0_dev39_eq) (fun _ => Fin.ext k0_dev40_eq) (by rfl) (by rfl)
    (by exact fun _ => slot_at _ c (k0_off24_eq c)) (by exact fun _ => slot_at _ c (k0_off24_eq c)) (by rfl) (by rfl)
    (by exact fun _ => rcv_at false c rfl (k0_off23_eq c)) (by exact fun _ => rcv_at true c rfl (k0_off23_eq c)) ?_
  refine loc_block m K c 12 (by exact isOwn c 12) (by rfl) (by rfl) (by rfl) (by rfl) (by rfl) (by rfl) ?_
  refine rem_block m K c 12 (by clear h; revert c; decide +kernel) (fun _ => Fin.ext k0_dev41_eq) (fun _ => Fin.ext k0_dev42_eq) (by rfl) (by rfl)
    (by exact fun _ => slot_at _ c (k0_off26_eq c)) (by exact fun _ => slot_at _ c (k0_off26_eq c)) (by rfl) (by rfl)
    (by exact fun _ => rcv_at false c rfl (k0_off25_eq c)) (by exact fun _ => rcv_at true c rfl (k0_off25_eq c)) ?_
  refine loc_block m K c 13 (by exact isOwn c 13) (by rfl) (by rfl) (by rfl) (by rfl) (by rfl) (by rfl) ?_
  refine rem_block m K c 13 (by clear h; revert c; decide +kernel) (fun _ => Fin.ext k0_dev43_eq) (fun _ => Fin.ext k0_dev44_eq) (by rfl) (by rfl)
    (by exact fun _ => slot_at _ c (k0_off28_eq c)) (by exact fun _ => slot_at _ c (k0_off28_eq c)) (by rfl) (by rfl)
    (by exact fun _ => rcv_at false c rfl (k0_off27_eq c)) (by exact fun _ => rcv_at true c rfl (k0_off27_eq c)) ?_
  refine loc_block m K c 14 (by exact isOwn c 14) (by rfl) (by rfl) (by rfl) (by rfl) (by rfl) (by rfl) ?_
  refine rem_block m K c 14 (by clear h; revert c; decide +kernel) (fun _ => Fin.ext k0_dev45_eq) (fun _ => Fin.ext k0_dev46_eq) (by rfl) (by rfl)
    (by exact fun _ => slot_at _ c (k0_off30_eq c)) (by exact fun _ => slot_at _ c (k0_off30_eq c)) (by rfl) (by rfl)
    (by exact fun _ => rcv_at false c rfl (k0_off29_eq c)) (by exact fun _ => rcv_at true c rfl (k0_off29_eq c)) ?_
  refine loc_block m K c 15 (by exact isOwn c 15) (by rfl) (by rfl) (by rfl) (by rfl) (by rfl) (by rfl) ?_
  refine rem_block m K c 15 (by clear h; revert c; decide +kernel) (fun _ => Fin.ext k0_dev47_eq) (fun _ => Fin.ext k0_dev48_eq) (by rfl) (by rfl)
    (by exact fun _ => slot_at _ c (k0_off32_eq c)) (by exact fun _ => slot_at _ c (k0_off32_eq c)) (by rfl) (by rfl)
    (by exact fun _ => rcv_at false c rfl (k0_off31_eq c)) (by exact fun _ => rcv_at true c rfl (k0_off31_eq c)) ?_
  exact pure_step h

end Cert.Attn

end
-- ==== Proof.Waits.lean ====
/-
The body's parts on the launch's buffers: the queries, and the waits for the exchange.
-/
module

public import proofs.«01_k».proof.Proof.Parts

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The buffers the body reads and writes through -/

abbrev xM : Memref sig .tc .vmem S2x256x512 .f32 := Memref.whole cc0_stg0_0
abbrev wqM : Memref sig .tc .vmem S512x256 .f32 := Memref.whole cc0_stg1_0
abbrev woM : Memref sig .tc .vmem S256x512 .f32 := Memref.whole cc0_stg2_0
abbrev qM : Memref sig .tc .vmem S2x256x256 .f32 := Memref.whole cc0_scratch0
abbrev ctxM : Memref sig .tc .vmem S2x256x4x64 .f32 := Memref.whole cc0_scratch3
abbrev arM : Memref sig .tc .vmem S4x2x256x512 .f32 := Memref.whole cc0_scratch4

omit [FloatOps F] in
/-- Two resources exchanged. -/
theorem swap1 (A B R : sProp 𝕄) : iprop(A ∗ B ∗ R) ⊢ iprop(B ∗ A ∗ R) := by
  iintro ⟨H1, H2, H3⟩
  isplitl [H2]; · iexact H2
  isplitl [H1] <;> iassumption
omit [FloatOps F] in
/-- The third resource brought to the front. -/
theorem swap2 (A B C R : sProp 𝕄) : iprop(A ∗ B ∗ C ∗ R) ⊢ iprop(C ∗ A ∗ B ∗ R) := by
  iintro ⟨H1, H2, H3, H4⟩
  isplitl [H3]; · iexact H3
  isplitl [H1]; · iexact H1
  isplitl [H2] <;> iassumption
omit [FloatOps F] in
/-- The same, back. -/
theorem swap2' (A B C R : sProp 𝕄) : iprop(C ∗ A ∗ B ∗ R) ⊢ iprop(A ∗ B ∗ C ∗ R) := by
  iintro ⟨H3, H1, H2, H4⟩
  isplitl [H1]; · iexact H1
  isplitl [H2]; · iexact H2
  isplitl [H3] <;> iassumption
omit [FloatOps F] in
/-- The fourth resource brought to the front. -/
theorem swap3 (A B C D R : sProp 𝕄) : iprop(A ∗ B ∗ C ∗ D ∗ R) ⊢ iprop(D ∗ A ∗ B ∗ C ∗ R) := by
  iintro ⟨H1, H2, H3, H4, H5⟩
  isplitl [H4]; · iexact H4
  isplitl [H1]; · iexact H1
  isplitl [H2]; · iexact H2
  isplitl [H3] <;> iassumption
omit [FloatOps F] in
/-- The same, back. -/
theorem swap3' (A B C D R : sProp 𝕄) : iprop(D ∗ A ∗ B ∗ C ∗ R) ⊢ iprop(A ∗ B ∗ C ∗ D ∗ R) := by
  iintro ⟨H4, H1, H2, H3, H5⟩
  isplitl [H1]; · iexact H1
  isplitl [H2]; · iexact H2
  isplitl [H3]; · iexact H3
  isplitl [H4] <;> iassumption

/-! ## The queries -/

/-- The query product under way: `n` batches stored. -/
def QS (c : Dev nD) (n : ℕ) (R : sProp 𝕄) : sProp 𝕄 :=
  iprop(whole xM.view c (xAt m c) ∗ whole wqM.view c (wqAt m c) ∗ part qM.view c (qAt m c) (fun i => (i 0).val < n) ∗ R)

/-- A load from the activations. -/
theorem ld_x {α : Type} {Q : α → sProp 𝕄} (c : Dev nD) {n : ℕ} {R : sProp 𝕄} {r : Rect S2x256x512} {hl} {k : _ → PR F α} (h : QS m c n R ⊢ WP c (k (View.ld (xAt m c) r)) Q) :
    QS m c n R ⊢ WP c ((Prog.lift (.load xM r.toLoadRect hl) : PR F _) >>= k) Q := ld_whole .rfl .rfl h
/-- A load from the query weights. -/
theorem ld_wq {α : Type} {Q : α → sProp 𝕄} (c : Dev nD) {n : ℕ} {R : sProp 𝕄} {r : Rect S512x256} {hl} {k : _ → PR F α} (h : QS m c n R ⊢ WP c (k (View.ld (wqAt m c) r)) Q) :
    QS m c n R ⊢ WP c ((Prog.lift (.load wqM r.toLoadRect hl) : PR F _) >>= k) Q := ld_whole (swap1 _ _ _) (swap1 _ _ _) h
/-- A load of the queries whose value is not used. -/
theorem ld_qdead {α : Type} {Q : α → sProp 𝕄} (c : Dev nD) {n : ℕ} {R : sProp 𝕄} {r : LoadRect S2x256x256} {hl} {rest : PR F α} (h : QS m c n R ⊢ WP c rest Q) :
    QS m c n R ⊢ WP c ((Prog.lift (.load qM r hl) : PR F _) >>= fun _ => rest) Q := ld_part (swap2 _ _ _ _) (swap2' _ _ _ _) h

omit [FloatOps F] in
/-- The index that a rectangle of unit strides gives. -/
theorem at_unit {s : Shape} (off size : Fin s.rank → ℕ) (inb) (x : (Rect.unit (s := s) off size inb).shape.Idx) (a : Fin s.rank) :
    ((Rect.unit (s := s) off size inb).idx x a).val = off a + (x a).val := by
  show off a + 1 * (x a).val = _; rw [Nat.one_mul]

omit [FloatOps F] in
/-- An index between the bounds lies in the rectangle. -/
theorem mem_unit {s : Shape} (off size : Fin s.rank → ℕ) (inb) (i : s.Idx) (h : ∀ a, off a ≤ (i a).val ∧ (i a).val < off a + size a) :
    ∃ x : (Rect.unit (s := s) off size inb).shape.Idx, (Rect.unit (s := s) off size inb).idx x = i :=
  ⟨fun a => ⟨(i a).val - off a, by have := h a; show _ < size a; omega⟩, funext fun a => Fin.ext (by
    rw [at_unit]; show off a + ((i a).val - off a) = (i a).val; have := h a; omega)⟩

/-- A batch's query product is the query buffer's at the batch's place. -/
theorem q_row (c : Dev nD) (b : Fin 2) (x : (rQ b).shape.Idx) : qRow m c b x = qAt m c ((rQ b).idx x) := by
  have h0 : (rQ b).idx x 0 = b := by
    apply Fin.ext; rw [at_unit]; have : (x 0).val < 1 := (x 0).isLt; show b.val + (x 0).val = b.val; omega
  unfold qAt
  rw [h0]
  refine congrArg (qRow m c b) (funext fun a => ?_)
  fin_cases a
  · apply Fin.ext; have : (x 0).val < 1 := (x 0).isLt; show (x 0).val = 0; omega
  · apply Fin.ext; show (x 1).val = ((rQ b).idx x 1).val; rw [at_unit]; exact (Nat.zero_add _).symm
  · apply Fin.ext; show (x 2).val = ((rQ b).idx x 2).val; rw [at_unit]; exact (Nat.zero_add _).symm

/-- Storing a batch's queries completes it. -/
theorem st_q {α : Type} {Q : α → sProp 𝕄} (c : Dev nD) {R : sProp 𝕄} (b : Fin 2) {r : Rect S2x256x256} (hr : r = rQ b) {w : r.shape.Idx → F .f32} {hx} {hm} {k : PUnit → PR F α}
    (hw : ∀ x, w x = qAt m c (r.idx x)) (h : QS m c (b.val + 1) R ⊢ WP c (k ⟨⟩) Q) :
    QS m c b.val R ⊢ WP c ((Prog.lift (.store qM r w Finset.univ hx hm) : PR F _) >>= k) Q := by
  unfold QS at h ⊢
  have hP : ∀ i : S2x256x256.Idx, (i 0).val < b.val + 1 → ((i 0).val < b.val ∧ qAt m c i = qAt m c i) ∨ ∃ x, r.idx x = i := by
    intro i hi
    by_cases hb : (i 0).val < b.val
    · exact .inl ⟨hb, rfl⟩
    · subst hr
      refine .inr (mem_unit _ _ _ _ fun a => ?_)
      have h1 : (i 1).val < 256 := (i 1).isLt
      have h2 : (i 2).val < 256 := (i 2).isLt
      fin_cases a
      · show b.val ≤ (i 0).val ∧ (i 0).val < b.val + 1; omega
      · show 0 ≤ (i 1).val ∧ (i 1).val < 0 + 256; omega
      · show 0 ≤ (i 2).val ∧ (i 2).val < 0 + 256; omega
  have e := st_part (F := F) (Q := Q) (c := c) (mm := qM) (cs := .vmem) (r := r) (w := w) (hx := hx) (hm := hm) (k := k) (X := qAt m c) (Y := qAt m c)
    (P := fun i => (i 0).val < b.val) (P' := fun i => (i 0).val < b.val + 1) (swap2 _ _ _ R) (swap2' _ _ _ _) hw hP h
  exact e

/-! ## The local waits and the waits for what the others send -/

abbrev LW (c : Dev nD) (n : ℕ) (R : sProp 𝕄) : sProp 𝕄 := iprop(Rec m K ∗ own c 48 ∗ Fam (lwA c) (lwB m c) n ∗ R)
abbrev RW (c : Dev nD) (n : ℕ) (R : sProp 𝕄) : sProp 𝕄 := iprop(Rec m K ∗ own c 48 ∗ Fam (rwA c) (rwB m c) n ∗ R)

set_option maxRecDepth 65536 in
set_option maxHeartbeats 1000000 in
/-- Part 6: the query product and the first local waits. -/
theorem part6_wp {Q : _ → sProp 𝕄} (c : Dev nD) {R R' : sProp 𝕄} (h1 : QS m c 2 R ⊢ LW m K c 0 R')
    (h : LW m K c 4 R' ⊢ Q (Scalar.cmpi .eq (word2 c) 4#32)) :
    QS m c 0 R ⊢ WP c (on (k0_part6 (F := F)) (word2 c)) Q := by
  rw [k0_part6_eq_skeleton]; unfold on k0_part6_skel
  refine ld_x m c (ld_wq m c (ld_qdead m c (st_q m c 0 (by rfl) (by exact q_row m c 0) ?_)))
  refine ld_x m c (ld_wq m c (ld_qdead m c (st_q m c 1 (by rfl) (by exact q_row m c 1) (h1.trans ?_))))
  refine lw_block m K c 0 (by exact isOwn c 0) (by rfl) (by rfl) (by exact fun _ => credit_slot false 0) (by exact fun _ => credit_slot true 0) ?_
  refine lw_block m K c 1 (by exact isOwn c 1) (by rfl) (by rfl) (by exact fun _ => credit_slot false 1) (by exact fun _ => credit_slot true 1) ?_
  refine lw_block m K c 2 (by exact isOwn c 2) (by rfl) (by rfl) (by exact fun _ => credit_slot false 2) (by exact fun _ => credit_slot true 2) ?_
  refine lw_block m K c 3 (by exact isOwn c 3) (by rfl) (by rfl) (by exact fun _ => credit_slot false 3) (by exact fun _ => credit_slot true 3) ?_
  exact pure_step h

set_option maxRecDepth 65536 in
/-- Part 7: local waits, up to device 13. -/
theorem part7_wp {Q : _ → sProp 𝕄} (c : Dev nD) {R : sProp 𝕄} (h : LW m K c 14 R ⊢ Q (Scalar.cmpi .eq (word2 c) 14#32)) :
    LW m K c 4 R ⊢ WP c (on (k0_part7 (F := F)) (word2 c) (Scalar.cmpi .eq (word2 c) 4#32)) Q := by
  rw [k0_part7_eq_skeleton]; unfold on k0_part7_skel
  refine lw_block m K c 4 (by exact isOwn c 4) (by rfl) (by rfl) (by exact fun _ => credit_slot false 4) (by exact fun _ => credit_slot true 4) ?_
  refine lw_block m K c 5 (by exact isOwn c 5) (by rfl) (by rfl) (by exact fun _ => credit_slot false 5) (by exact fun _ => credit_slot true 5) ?_
  refine lw_block m K c 6 (by exact isOwn c 6) (by rfl) (by rfl) (by exact fun _ => credit_slot false 6) (by exact fun _ => credit_slot true 6) ?_
  refine lw_block m K c 7 (by exact isOwn c 7) (by rfl) (by rfl) (by exact fun _ => credit_slot false 7) (by exact fun _ => credit_slot true 7) ?_
  refine lw_block m K c 8 (by exact isOwn c 8) (by rfl) (by rfl) (by exact fun _ => credit_slot false 8) (by exact fun _ => credit_slot true 8) ?_
  refine lw_block m K c 9 (by exact isOwn c 9) (by rfl) (by rfl) (by exact fun _ => credit_slot false 9) (by exact fun _ => credit_slot true 9) ?_
  refine lw_block m K c 10 (by exact isOwn c 10) (by rfl) (by rfl) (by exact fun _ => credit_slot false 10) (by exact fun _ => credit_slot true 10) ?_
  refine lw_block m K c 11 (by exact isOwn c 11) (by rfl) (by rfl) (by exact fun _ => credit_slot false 11) (by exact fun _ => credit_slot true 11) ?_
  refine lw_block m K c 12 (by exact isOwn c 12) (by rfl) (by rfl) (by exact fun _ => credit_slot false 12) (by exact fun _ => credit_slot true 12) ?_
  refine lw_block m K c 13 (by exact isOwn c 13) (by rfl) (by rfl) (by exact fun _ => credit_slot false 13) (by exact fun _ => credit_slot true 13) ?_
  exact pure_step h

set_option maxRecDepth 65536 in
/-- Part 8: the last local waits and the first remote ones. -/
theorem part8_wp {Q : _ → sProp 𝕄} (c : Dev nD) {R R' : sProp 𝕄} (h1 : LW m K c 16 R ⊢ RW m K c 0 R')
    (h : RW m K c 8 R' ⊢ Q (Scalar.cmpi .ne (word2 c) 8#32)) :
    LW m K c 14 R ⊢ WP c (on (k0_part8 (F := F)) (word2 c) (Scalar.cmpi .eq (word2 c) 14#32)) Q := by
  rw [k0_part8_eq_skeleton]; unfold on k0_part8_skel
  refine lw_block m K c 14 (by exact isOwn c 14) (by rfl) (by rfl) (by exact fun _ => credit_slot false 14) (by exact fun _ => credit_slot true 14) ?_
  refine lw_block m K c 15 (by exact isOwn c 15) (by rfl) (by rfl) (by exact fun _ => credit_slot false 15) (by exact fun _ => credit_slot true 15) ?_
  refine h1.trans ?_
  refine rw_block m K c 0 (by exact isOther c 0) (by rfl) (by rfl) (by exact fun _ => credit_slot false 0) (by exact fun _ => credit_slot true 0) ?_
  refine rw_block m K c 1 (by exact isOther c 1) (by rfl) (by rfl) (by exact fun _ => credit_slot false 1) (by exact fun _ => credit_slot true 1) ?_
  refine rw_block m K c 2 (by exact isOther c 2) (by rfl) (by rfl) (by exact fun _ => credit_slot false 2) (by exact fun _ => credit_slot true 2) ?_
  refine rw_block m K c 3 (by exact isOther c 3) (by rfl) (by rfl) (by exact fun _ => credit_slot false 3) (by exact fun _ => credit_slot true 3) ?_
  refine rw_block m K c 4 (by exact isOther c 4) (by rfl) (by rfl) (by exact fun _ => credit_slot false 4) (by exact fun _ => credit_slot true 4) ?_
  refine rw_block m K c 5 (by exact isOther c 5) (by rfl) (by rfl) (by exact fun _ => credit_slot false 5) (by exact fun _ => credit_slot true 5) ?_
  refine rw_block m K c 6 (by exact isOther c 6) (by rfl) (by rfl) (by exact fun _ => credit_slot false 6) (by exact fun _ => credit_slot true 6) ?_
  refine rw_block m K c 7 (by exact isOther c 7) (by rfl) (by rfl) (by exact fun _ => credit_slot false 7) (by exact fun _ => credit_slot true 7) ?_
  exact pure_step h

/-! ## The waits for its own sends -/

abbrev SW (c : Dev nD) (n : ℕ) (R : sProp 𝕄) : sProp 𝕄 := iprop(Rec m K ∗ own c 48 ∗ Fam (swA c) (swB m c) n ∗ R)

end Cert.Attn

end
-- ==== Proof.Tiles.lean ====
/-
The body's parts on the launch's buffers: the attention tiles.
-/
module

public import proofs.«01_k».proof.Proof.Waits

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The number of the tile that stores element `i` of the context. -/
def tno (i : S2x256x4x64.Idx) : ℕ := ((i 0).val * 4 + (i 1).val / 64) * 4 + (i 2).val

/-- The tiles under way: `n` of them stored. -/
def TS (c : Dev nD) (n : ℕ) (R : sProp 𝕄) : sProp 𝕄 :=
  iprop(whole qM.view c (qAt m c) ∗ whole (allM false).view c (allAt m false c) ∗ whole (allM true).view c (allAt m true c)
    ∗ part ctxM.view c (ctxAt m c) (fun i => tno i < n) ∗ R)

/-- A load from the query buffer. -/
theorem ld_q {α : Type} {Q : α → sProp 𝕄} (c : Dev nD) {n : ℕ} {R : sProp 𝕄} {r : Rect S2x256x256} {hl} {k : _ → PR F α}
    (h : TS m c n R ⊢ WP c (k (View.ld (qAt m c) r)) Q) :
    TS m c n R ⊢ WP c ((Prog.lift (.load qM r.toLoadRect hl) : PR F _) >>= k) Q := ld_whole .rfl .rfl h
/-- A load from the gathered keys. -/
theorem ld_k {α : Type} {Q : α → sProp 𝕄} (c : Dev nD) {n : ℕ} {R : sProp 𝕄} {r : Rect S16x2x256x4x64} {hl} {k : _ → PR F α}
    (h : TS m c n R ⊢ WP c (k (View.ld (allAt m false c) r)) Q) :
    TS m c n R ⊢ WP c ((Prog.lift (.load (allM false) r.toLoadRect hl) : PR F _) >>= k) Q := ld_whole (swap1 _ _ _) (swap1 _ _ _) h
/-- A load from the gathered values. -/
theorem ld_v {α : Type} {Q : α → sProp 𝕄} (c : Dev nD) {n : ℕ} {R : sProp 𝕄} {r : Rect S16x2x256x4x64} {hl} {k : _ → PR F α}
    (h : TS m c n R ⊢ WP c (k (View.ld (allAt m true c) r)) Q) :
    TS m c n R ⊢ WP c ((Prog.lift (.load (allM true) r.toLoadRect hl) : PR F _) >>= k) Q := ld_whole (swap2 _ _ _ _) (swap2' _ _ _ _) h
/-- A load of the context whose value is not used. -/
theorem ld_c {α : Type} {Q : α → sProp 𝕄} (c : Dev nD) {n : ℕ} {R : sProp 𝕄} {r : LoadRect S2x256x4x64} {hl} {rest : PR F α}
    (h : TS m c n R ⊢ WP c rest Q) :
    TS m c n R ⊢ WP c ((Prog.lift (.load ctxM r hl) : PR F _) >>= fun _ => rest) Q := ld_part (swap3 _ _ _ _ _) (swap3' _ _ _ _ _) h

/-- The same where the value is handed on. -/
theorem ld_c' {α : Type} {Q : α → sProp 𝕄} (c : Dev nD) {n : ℕ} {R : sProp 𝕄} {r : LoadRect S2x256x4x64} {hl} {k : _ → PR F α}
    (h : ∀ w, TS m c n R ⊢ WP c (k w) Q) :
    TS m c n R ⊢ WP c ((Prog.lift (.load ctxM r hl) : PR F _) >>= k) Q := by
  unfold TS at h ⊢
  iintro ⟨H1, H2, H3, Hb, HR⟩
  unfold part
  icases Hb with ⟨%f, %hf, Hb⟩
  iapply (wp_load Variants.none (c : Thread nD τ) none Set.univ (m := ctxM) (r := r) (hl := hl) (k := k) (q := fullShare)
    (f := f) (Finset.subset_univ _)) $$ Hb
  iintro Hb
  iapply (h _)
  isplitl [H1]; · iexact H1
  isplitl [H2]; · iexact H2
  isplitl [H3]; · iexact H3
  isplitl [Hb]
  · unfold part
    iexists f
    isplitr; · ipureintro; exact hf
    iexact Hb
  iexact HR

/-- A tile's values are the context buffer's at the tile's place. -/
theorem ctx_tile (c : Dev nD) (b : Fin 2) (g h : Fin 4) (x : (rCt b g h).shape.Idx) : tile m c b g h x = ctxAt m c ((rCt b g h).idx x) := by
  have x0 : (x 0).val < 1 := (x 0).isLt
  have x1 : (x 1).val < 64 := (x 1).isLt
  have x2 : (x 2).val < 1 := (x 2).isLt
  have i1 : ((rCt b g h).idx x 1).val = 64 * g.val + (x 1).val := at_unit _ _ _ _ _
  have h0 : (rCt b g h).idx x 0 = b := by
    apply Fin.ext; rw [at_unit]; show b.val + (x 0).val = b.val; omega
  have h2 : (rCt b g h).idx x 2 = h := by
    apply Fin.ext; rw [at_unit]; show h.val + (x 2).val = h.val; omega
  have h1 : (⟨((rCt b g h).idx x 1).val / 64, by have := ((rCt b g h).idx x 1).isLt; have e : ((rCt b g h).idx x 1).val < 256 := this; omega⟩ : Fin 4) = g := by
    apply Fin.ext; show ((rCt b g h).idx x 1).val / 64 = g.val; omega
  unfold ctxAt
  rw [h0, h1, h2]
  refine congrArg (tile m c b g h) (funext fun a => ?_)
  fin_cases a
  · apply Fin.ext; show (x 0).val = 0; omega
  · apply Fin.ext; show (x 1).val = ((rCt b g h).idx x 1).val % 64; omega
  · apply Fin.ext; show (x 2).val = 0; omega
  · apply Fin.ext; show (x 3).val = ((rCt b g h).idx x 3).val; rw [at_unit]; exact (Nat.zero_add _).symm

/-- Storing a tile completes it. -/
theorem st_c {α : Type} {Q : α → sProp 𝕄} (c : Dev nD) {R : sProp 𝕄} {n : ℕ} (b : Fin 2) (g h : Fin 4) (hn : n = (b.val * 4 + g.val) * 4 + h.val)
    {off : Fin 4 → ℕ} {inb} (ho : off = ![b.val, 64 * g.val, h.val, 0])
    {w : (Rect.unit (s := S2x256x4x64) off S1x64x1x64.size inb).shape.Idx → F .f32} {hx} {hm} {k : PUnit → PR F α}
    (hw : w = tile m c b g h) (hk : TS m c (n + 1) R ⊢ WP c (k ⟨⟩) Q) :
    TS m c n R ⊢ WP c ((Prog.lift (.store ctxM (Rect.unit (s := S2x256x4x64) off S1x64x1x64.size inb) w Finset.univ hx hm) : PR F _) >>= k) Q := by
  unfold TS at hk ⊢
  subst ho hw
  have hP : ∀ i : S2x256x4x64.Idx, tno i < n + 1 → (tno i < n ∧ ctxAt m c i = ctxAt m c i) ∨ ∃ x, (rCt b g h).idx x = i := by
    intro i hi
    by_cases hb : tno i < n
    · exact .inl ⟨hb, rfl⟩
    · refine .inr (mem_unit _ _ _ _ fun a => ?_)
      unfold tno at hi hb
      have h1 : (i 1).val < 256 := (i 1).isLt
      have h2 : (i 2).val < 4 := (i 2).isLt
      have h3 : (i 3).val < 64 := (i 3).isLt
      have hg := g.isLt
      have hh := h.isLt
      fin_cases a
      · show b.val ≤ (i 0).val ∧ (i 0).val < b.val + 1; omega
      · show 64 * g.val ≤ (i 1).val ∧ (i 1).val < 64 * g.val + 64; omega
      · show h.val ≤ (i 2).val ∧ (i 2).val < h.val + 1; omega
      · show 0 ≤ (i 3).val ∧ (i 3).val < 0 + 64; omega
  have e := st_part (F := F) (Q := Q) (c := c) (mm := ctxM) (cs := .vmem) (r := rCt b g h) (w := tile m c b g h) (hx := hx) (hm := hm) (k := k)
    (X := ctxAt m c) (Y := ctxAt m c) (P := fun i => tno i < n) (P' := fun i => tno i < n + 1) (swap3 _ _ _ _ R) (swap3' _ _ _ _ _) (ctx_tile m c b g h) hP hk
  exact e

set_option maxRecDepth 65536 in
set_option maxHeartbeats 1000000 in
/-- The last of the waits, and the first tile's first loads. -/
theorem part9_wp {Q : _ → sProp 𝕄} (c : Dev nD) {R R' : sProp 𝕄} (h1 : RW m K c 16 R ⊢ TS m c 0 R')
    (h : TS m c 0 R' ⊢ Q ⟨k0_pay4 (View.ld (qAt m c) (rQt 0 0 0)), k0_pay5 (View.ld (allAt m false c) (rKt 0 0 0)), constant S64x1024 .f32 0x00000000#32⟩) :
    RW m K c 8 R ⊢ WP c (on (k0_part9 (F := F)) (word2 c) (Scalar.cmpi .ne (word2 c) 8#32)) Q := by
  rw [k0_part9_eq_skeleton]; unfold on k0_part9_skel
  refine rw_block m K c 8 (by exact isOther c 8) (by rfl) (by rfl) (by exact fun _ => credit_slot false 8) (by exact fun _ => credit_slot true 8) ?_
  refine rw_block m K c 9 (by exact isOther c 9) (by rfl) (by rfl) (by exact fun _ => credit_slot false 9) (by exact fun _ => credit_slot true 9) ?_
  refine rw_block m K c 10 (by exact isOther c 10) (by rfl) (by rfl) (by exact fun _ => credit_slot false 10) (by exact fun _ => credit_slot true 10) ?_
  refine rw_block m K c 11 (by exact isOther c 11) (by rfl) (by rfl) (by exact fun _ => credit_slot false 11) (by exact fun _ => credit_slot true 11) ?_
  refine rw_block m K c 12 (by exact isOther c 12) (by rfl) (by rfl) (by exact fun _ => credit_slot false 12) (by exact fun _ => credit_slot true 12) ?_
  refine rw_block m K c 13 (by exact isOther c 13) (by rfl) (by rfl) (by exact fun _ => credit_slot false 13) (by exact fun _ => credit_slot true 13) ?_
  refine rw_block m K c 14 (by exact isOther c 14) (by rfl) (by rfl) (by exact fun _ => credit_slot false 14) (by exact fun _ => credit_slot true 14) ?_
  refine rw_block m K c 15 (by exact isOther c 15) (by rfl) (by rfl) (by exact fun _ => credit_slot false 15) (by exact fun _ => credit_slot true 15) ?_
  exact h1.trans (ld_q m c (ld_k m c (pure_step h)))

/-! ## The local product -/

/-- The local product under way: `n` batches stored. -/
def PS (c : Dev nD) (n : ℕ) (R : sProp 𝕄) : sProp 𝕄 :=
  iprop(whole ctxM.view c (ctxAt m c) ∗ whole woM.view c (woAt m c) ∗ part oM.view c (outAt m c) (fun i => (i 0).val < n) ∗ R)

/-- A load from the finished context. -/
theorem ld_t {α : Type} {Q : α → sProp 𝕄} (c : Dev nD) {n : ℕ} {R : sProp 𝕄} {r : Rect S2x256x4x64} {hl} {k : _ → PR F α}
    (h : PS m c n R ⊢ WP c (k (View.ld (ctxAt m c) r)) Q) :
    PS m c n R ⊢ WP c ((Prog.lift (.load ctxM r.toLoadRect hl) : PR F _) >>= k) Q := ld_whole .rfl .rfl h
/-- A load from the output weights. -/
theorem ld_wo {α : Type} {Q : α → sProp 𝕄} (c : Dev nD) {n : ℕ} {R : sProp 𝕄} {r : Rect S256x512} {hl} {k : _ → PR F α}
    (h : PS m c n R ⊢ WP c (k (View.ld (woAt m c) r)) Q) :
    PS m c n R ⊢ WP c ((Prog.lift (.load woM r.toLoadRect hl) : PR F _) >>= k) Q := ld_whole (swap1 _ _ _) (swap1 _ _ _) h
/-- A load of the output whose value is not used. -/
theorem ld_odead {α : Type} {Q : α → sProp 𝕄} (c : Dev nD) {n : ℕ} {R : sProp 𝕄} {r : LoadRect S2x256x512} {hl} {rest : PR F α}
    (h : PS m c n R ⊢ WP c rest Q) :
    PS m c n R ⊢ WP c ((Prog.lift (.load oM r hl) : PR F _) >>= fun _ => rest) Q := ld_part (swap2 _ _ _ _) (swap2' _ _ _ _) h

/-- A batch's product is the output's at the batch's place. -/
theorem out_row (c : Dev nD) (b : Fin 2) (x : (rX b).shape.Idx) : outRow m c b x = outAt m c ((rX b).idx x) := by
  have h0 : (rX b).idx x 0 = b := by
    apply Fin.ext; rw [at_unit]; have : (x 0).val < 1 := (x 0).isLt; show b.val + (x 0).val = b.val; omega
  unfold outAt
  rw [h0]
  refine congrArg (outRow m c b) (funext fun a => ?_)
  fin_cases a
  · apply Fin.ext; have : (x 0).val < 1 := (x 0).isLt; show (x 0).val = 0; omega
  · apply Fin.ext; show (x 1).val = ((rX b).idx x 1).val; rw [at_unit]; exact (Nat.zero_add _).symm
  · apply Fin.ext; show (x 2).val = ((rX b).idx x 2).val; rw [at_unit]; exact (Nat.zero_add _).symm

/-- Storing a batch completes it. -/
theorem st_o {α : Type} {Q : α → sProp 𝕄} (c : Dev nD) {R : sProp 𝕄} (b : Fin 2) {off : Fin 3 → ℕ} {inb} (ho : off = ![b.val, 0, 0])
    {w : (Rect.unit (s := S2x256x512) off S1x256x512.size inb).shape.Idx → F .f32} {hx} {hm} {k : PUnit → PR F α}
    (hw : w = outRow m c b) (h : PS m c (b.val + 1) R ⊢ WP c (k ⟨⟩) Q) :
    PS m c b.val R ⊢ WP c ((Prog.lift (.store oM (Rect.unit (s := S2x256x512) off S1x256x512.size inb) w Finset.univ hx hm) : PR F _) >>= k) Q := by
  unfold PS at h ⊢
  subst ho hw
  have hP : ∀ i : S2x256x512.Idx, (i 0).val < b.val + 1 → ((i 0).val < b.val ∧ outAt m c i = outAt m c i) ∨ ∃ x, (rX b).idx x = i := by
    intro i hi
    by_cases hb : (i 0).val < b.val
    · exact .inl ⟨hb, rfl⟩
    · refine .inr (mem_unit _ _ _ _ fun a => ?_)
      have h1 : (i 1).val < 256 := (i 1).isLt
      have h2 : (i 2).val < 512 := (i 2).isLt
      fin_cases a
      · show b.val ≤ (i 0).val ∧ (i 0).val < b.val + 1; omega
      · show 0 ≤ (i 1).val ∧ (i 1).val < 0 + 256; omega
      · show 0 ≤ (i 2).val ∧ (i 2).val < 0 + 512; omega
  have e := st_part (F := F) (Q := Q) (c := c) (mm := oM) (cs := .vmem) (r := rX b) (w := outRow m c b) (hx := hx) (hm := hm) (k := k) (X := outAt m c) (Y := outAt m c)
    (P := fun i => (i 0).val < b.val) (P' := fun i => (i 0).val < b.val + 1) (swap2 _ _ _ R) (swap2' _ _ _ _) (out_row m c b) hP h
  exact e

set_option maxRecDepth 65536 in
set_option maxHeartbeats 4000000 in
/-- The first tiles, over the parts the body is cut into. -/
theorem tilesA_wp {α : Type} {Q : α → sProp 𝕄} (c : Dev nD) {R : sProp 𝕄} {k : PR F α} (h : TS m c 13 R ⊢ WP c k Q) :
    TS m c 0 R ⊢ WP c (do
      let ⟨v296, v298⟩ : Σ' (v296 : FVec F S64x1024 .f32), FVec F S64x1 .f32 ← on (k0_part10 (F := F)) (k0_pay4 (View.ld (qAt m c) (rQt 0 0 0))) (k0_pay5 (View.ld (allAt m false c) (rKt 0 0 0))) (constant S64x1024 .f32 0x00000000#32)
      let v328 : FVec F S64x64 .f32 ← on (k0_part11 (F := F)) v296 v298
      let v357 : FVec F S64x64 .f32 ← on (k0_part12 (F := F)) v328
      let v387 : FVec F S64x1024 .f32 ← on (k0_part13 (F := F)) v357
      let v420 : FVec F S64x1024 .f32 ← on (k0_part14 (F := F)) v387
      let v448 : FVec F S64x64 .f32 ← on (k0_part15 (F := F)) v420
      let ⟨v477, v478⟩ : Σ' (v477 : FVec F S64x64 .f32), Vec F S16x1x64x1x64 .f32 ← on (k0_part16 (F := F)) v448
      let v512 : FVec F S64x1024 .f32 ← on (k0_part17 (F := F)) v477 v478
      let ⟨v540, v543⟩ : Σ' (v540 : FVec F S64x1024 .f32), FVec F S1024x64 .f32 ← on (k0_part18 (F := F)) v512
      on (k0_part19 (F := F)) v540 v543
      k) Q := by
  refine bind_step ?_
  rw [k0_part10_eq_skeleton]; unfold on k0_part10_skel
  refine ld_v m c <| ld_c m c <| st_c m c 0 0 0 (by rfl) (by rfl) (by rfl) <| ld_q m c <| ld_k m c <| pure_step ?_
  refine bind_step ?_
  rw [k0_part11_eq_skeleton]; unfold k0_part11_skel
  refine ld_v m c <| ld_c m c <| st_c m c 0 0 1 (by rfl) (by rfl) (by rfl) <| ld_q m c <| ld_k m c <| ld_v m c <| pure_step ?_
  refine bind_step ?_
  rw [k0_part12_eq_skeleton]; unfold k0_part12_skel
  refine ld_c m c <| st_c m c 0 0 2 (by rfl) (by rfl) (by rfl) <| ld_q m c <| ld_k m c <| ld_v m c <| ld_c m c <| st_c m c 0 0 3 (by rfl) (by rfl) (by rfl) <| ld_q m c <| pure_step ?_
  refine bind_step ?_
  rw [k0_part13_eq_skeleton]; unfold k0_part13_skel
  refine ld_k m c <| ld_v m c <| ld_c m c <| st_c m c 0 1 0 (by rfl) (by rfl) (by rfl) <| ld_q m c <| ld_k m c <| pure_step ?_
  refine bind_step ?_
  rw [k0_part14_eq_skeleton]; unfold k0_part14_skel
  refine ld_v m c <| ld_c m c <| st_c m c 0 1 1 (by rfl) (by rfl) (by rfl) <| ld_q m c <| ld_k m c <| pure_step ?_
  refine bind_step ?_
  rw [k0_part15_eq_skeleton]; unfold k0_part15_skel
  refine ld_v m c <| ld_c m c <| st_c m c 0 1 2 (by rfl) (by rfl) (by rfl) <| ld_q m c <| ld_k m c <| ld_v m c <| ld_c m c <| pure_step ?_
  refine bind_step ?_
  rw [k0_part16_eq_skeleton]; unfold k0_part16_skel
  refine st_c m c 0 1 3 (by rfl) (by rfl) (by rfl) <| ld_q m c <| ld_k m c <| ld_v m c <| ld_c m c <| st_c m c 0 2 0 (by rfl) (by rfl) (by rfl) <| ld_q m c <| ld_k m c <| pure_step ?_
  refine bind_step ?_
  rw [k0_part17_eq_skeleton]; unfold k0_part17_skel
  refine ld_v m c <| ld_c m c <| st_c m c 0 2 1 (by rfl) (by rfl) (by rfl) <| ld_q m c <| ld_k m c <| pure_step ?_
  refine bind_step ?_
  rw [k0_part18_eq_skeleton]; unfold k0_part18_skel
  refine ld_v m c <| ld_c m c <| st_c m c 0 2 2 (by rfl) (by rfl) (by rfl) <| ld_q m c <| ld_k m c <| ld_v m c <| pure_step ?_
  refine bind_step ?_
  rw [k0_part19_eq_skeleton]; unfold k0_part19_skel
  refine ld_c m c <| st_c m c 0 2 3 (by rfl) (by rfl) (by rfl) <| ld_q m c <| ld_k m c <| ld_v m c <| ld_c m c <| st_c m c 0 3 0 (by rfl) (by rfl) (by rfl) <| pure_step ?_
  exact h

set_option maxRecDepth 65536 in
set_option maxHeartbeats 4000000 in
/-- The next tiles. -/
theorem tilesB_wp {α : Type} {Q : α → sProp 𝕄} (c : Dev nD) {R : sProp 𝕄} {k : PR F α} (h : TS m c 22 R ⊢ WP c k Q) :
    TS m c 13 R ⊢ WP c (do
      let ⟨v601, cst_473⟩ : Σ' (v601 : FVec F S64x1024 .f32), F .f32 ← on (k0_part20 (F := F))
      let v636 : FVec F S64x1024 .f32 ← on (k0_part21 (F := F)) v601 cst_473
      let v664 : FVec F S64x64 .f32 ← on (k0_part22 (F := F)) v636
      let v693 : FVec F S64x64 .f32 ← on (k0_part23 (F := F)) v664
      let ⟨v723, v725⟩ : Σ' (v723 : FVec F S64x1024 .f32), FVec F S64x1 .f32 ← on (k0_part24 (F := F)) v693
      let v756 : FVec F S64x1024 .f32 ← on (k0_part25 (F := F)) v723 v725
      on (k0_part26 (F := F)) v756
      k) Q := by
  refine bind_step ?_
  rw [k0_part20_eq_skeleton]; unfold on k0_part20_skel
  refine ld_q m c <| ld_k m c <| ld_v m c <| ld_c m c <| st_c m c 0 3 1 (by rfl) (by rfl) (by rfl) <| ld_q m c <| ld_k m c <| pure_step ?_
  refine bind_step ?_
  rw [k0_part21_eq_skeleton]; unfold k0_part21_skel
  refine ld_v m c <| ld_c m c <| st_c m c 0 3 2 (by rfl) (by rfl) (by rfl) <| ld_q m c <| ld_k m c <| pure_step ?_
  refine bind_step ?_
  rw [k0_part22_eq_skeleton]; unfold k0_part22_skel
  refine ld_v m c <| ld_c m c <| st_c m c 0 3 3 (by rfl) (by rfl) (by rfl) <| ld_q m c <| ld_k m c <| ld_v m c <| pure_step ?_
  refine bind_step ?_
  rw [k0_part23_eq_skeleton]; unfold k0_part23_skel
  refine ld_c m c <| st_c m c 1 0 0 (by rfl) (by rfl) (by rfl) <| ld_q m c <| ld_k m c <| ld_v m c <| ld_c m c <| st_c m c 1 0 1 (by rfl) (by rfl) (by rfl) <| ld_q m c <| pure_step ?_
  refine bind_step ?_
  rw [k0_part24_eq_skeleton]; unfold k0_part24_skel
  refine ld_k m c <| ld_v m c <| ld_c m c <| st_c m c 1 0 2 (by rfl) (by rfl) (by rfl) <| ld_q m c <| ld_k m c <| pure_step ?_
  refine bind_step ?_
  rw [k0_part25_eq_skeleton]; unfold k0_part25_skel
  refine ld_v m c <| ld_c m c <| st_c m c 1 0 3 (by rfl) (by rfl) (by rfl) <| ld_q m c <| ld_k m c <| pure_step ?_
  refine bind_step ?_
  rw [k0_part26_eq_skeleton]; unfold k0_part26_skel
  refine ld_v m c <| ld_c m c <| st_c m c 1 1 0 (by rfl) (by rfl) (by rfl) <| ld_q m c <| ld_k m c <| ld_v m c <| ld_c m c <| st_c m c 1 1 1 (by rfl) (by rfl) (by rfl) <| pure_step ?_
  exact h

set_option maxRecDepth 65536 in
set_option maxHeartbeats 4000000 in
/-- The last tiles, and the first batch of the local product. -/
theorem tilesC_wp {α : Type} {Q : α → sProp 𝕄} (c : Dev nD) {R R' : sProp 𝕄} (h1 : TS m c 32 R ⊢ PS m c 0 R') {k : FVec F S256x512 .f32 → PR F α}
    (h : PS m c 1 R' ⊢ WP c (k (k0_pay68 (View.ld (ctxAt m c) (rCh 1 0)) (View.ld (woAt m c) (rWo 0)))) Q) :
    TS m c 22 R ⊢ WP c (do
      let ⟨v813, v816⟩ : Σ' (v813 : FVec F S64x64 .f32), FVec F S1024x64 .f32 ← on (k0_part27 (F := F))
      let ⟨v848, v849⟩ : Σ' (v848 : FVec F S64x1024 .f32), FVec F S64 .f32 ← on (k0_part28 (F := F)) v813 v816
      let v880 : FVec F S64x64 .f32 ← on (k0_part29 (F := F)) v848 v849
      let v909 : FVec F S64x64 .f32 ← on (k0_part30 (F := F)) v880
      let v939 : FVec F S64x1024 .f32 ← on (k0_part31 (F := F)) v909
      let v972 : FVec F S64x1024 .f32 ← on (k0_part32 (F := F)) v939
      let ⟨v1000, v1001⟩ : Σ' (v1000 : FVec F S64x64 .f32), Vec F S1x64x1x64 .f32 ← on (k0_part33 (F := F)) v972
      let ⟨v1029, v1031⟩ : Σ' (v1029 : FVec F S256x64 .f32), FVec F S64x512 .f32 ← on (k0_part34 (F := F)) v1000 v1001
      let v1058 : FVec F S256x512 .f32 ← on (k0_part35 (F := F)) v1029 v1031
      k v1058) Q := by
  refine bind_step ?_
  rw [k0_part27_eq_skeleton]; unfold on k0_part27_skel
  refine ld_q m c <| ld_k m c <| ld_v m c <| ld_c m c <| st_c m c 1 1 2 (by rfl) (by rfl) (by rfl) <| ld_q m c <| ld_k m c <| pure_step ?_
  refine bind_step ?_
  rw [k0_part28_eq_skeleton]; unfold k0_part28_skel
  refine ld_v m c <| ld_c m c <| st_c m c 1 1 3 (by rfl) (by rfl) (by rfl) <| ld_q m c <| ld_k m c <| pure_step ?_
  refine bind_step ?_
  rw [k0_part29_eq_skeleton]; unfold k0_part29_skel
  refine ld_v m c <| ld_c m c <| st_c m c 1 2 0 (by rfl) (by rfl) (by rfl) <| ld_q m c <| ld_k m c <| ld_v m c <| pure_step ?_
  refine bind_step ?_
  rw [k0_part30_eq_skeleton]; unfold k0_part30_skel
  refine ld_c m c <| st_c m c 1 2 1 (by rfl) (by rfl) (by rfl) <| ld_q m c <| ld_k m c <| ld_v m c <| ld_c m c <| st_c m c 1 2 2 (by rfl) (by rfl) (by rfl) <| ld_q m c <| pure_step ?_
  refine bind_step ?_
  rw [k0_part31_eq_skeleton]; unfold k0_part31_skel
  refine ld_k m c <| ld_v m c <| ld_c m c <| st_c m c 1 2 3 (by rfl) (by rfl) (by rfl) <| ld_q m c <| ld_k m c <| pure_step ?_
  refine bind_step ?_
  rw [k0_part32_eq_skeleton]; unfold k0_part32_skel
  refine ld_v m c <| ld_c m c <| st_c m c 1 3 0 (by rfl) (by rfl) (by rfl) <| ld_q m c <| ld_k m c <| pure_step ?_
  refine bind_step ?_
  rw [k0_part33_eq_skeleton]; unfold k0_part33_skel
  refine ld_v m c <| ld_c m c <| st_c m c 1 3 1 (by rfl) (by rfl) (by rfl) <| ld_q m c <| ld_k m c <| ld_v m c <| ld_c' m c fun _ => pure_step ?_
  refine bind_step ?_
  rw [k0_part34_eq_skeleton]; unfold k0_part34_skel
  refine st_c m c 1 3 2 (by rfl) (by rfl) (by rfl) <| ld_q m c <| ld_k m c <| ld_v m c <| ld_c m c <| st_c m c 1 3 3 (by rfl) (by rfl) (by rfl) <| h1.trans <| ld_t m c <| ld_wo m c <| pure_step ?_
  refine bind_step ?_
  rw [k0_part35_eq_skeleton]; unfold k0_part35_skel
  refine ld_t m c <| ld_wo m c <| ld_t m c <| ld_wo m c <| ld_t m c <| ld_wo m c <| ld_odead m c <| st_o m c 0 (by rfl) (by rfl) <| ld_t m c <| ld_wo m c <| pure_step ?_
  exact h

end Cert.Attn

end
-- ==== Proof.Rounds.lean ====
/-
The body's parts on the launch's buffers: the waits for the sends, and the all-reduce.
-/
module

public import proofs.«01_k».proof.Proof.Tiles

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The end of the local product and the waits for its own sends -/

set_option maxRecDepth 65536 in
set_option maxHeartbeats 1000000 in
/-- The second batch of the local product, and the first waits for its own sends. -/
theorem part36_wp {Q : _ → sProp 𝕄} (c : Dev nD) {R R' : sProp 𝕄} (h1 : PS m c 2 R ⊢ SW m K c 0 R')
    (h : SW m K c 2 R' ⊢ Q (Scalar.cmpi .ne (word2 c) 2#32)) :
    PS m c 1 R ⊢ WP c (on (k0_part36 (F := F)) c (word2 c) (k0_pay68 (View.ld (ctxAt m c) (rCh 1 0)) (View.ld (woAt m c) (rWo 0)))) Q := by
  rw [k0_part36_eq_skeleton]; unfold on k0_part36_skel
  refine ld_t m c <| ld_wo m c <| ld_t m c <| ld_wo m c <| ld_t m c <| ld_wo m c <| ld_odead m c <| st_o m c 1 (by rfl) (by rfl) <| h1.trans ?_
  refine sw_block m K c 0 (by clear h1 h; revert c; decide +kernel) (by rfl) (by rfl) (by exact fun _ => credit_src false 0) (by exact fun _ => credit_src true 0) ?_
  refine sw_block m K c 1 (by clear h1 h; revert c; decide +kernel) (by rfl) (by rfl) (by exact fun _ => credit_src false 1) (by exact fun _ => credit_src true 1) ?_
  exact pure_step h

set_option maxRecDepth 65536 in
set_option maxHeartbeats 1000000 in
/-- Part 37: waits for the sends, up to device 11. -/
theorem part37_wp {Q : _ → sProp 𝕄} (c : Dev nD) {R : sProp 𝕄} (h : SW m K c 12 R ⊢ Q (Scalar.cmpi .ne (word2 c) 12#32)) :
    SW m K c 2 R ⊢ WP c (on (k0_part37 (F := F)) c (word2 c) (Scalar.cmpi .ne (word2 c) 2#32)) Q := by
  rw [k0_part37_eq_skeleton]; unfold on k0_part37_skel
  refine sw_block m K c 2 (by clear h; revert c; decide +kernel) (by rfl) (by rfl) (by exact fun _ => credit_src false 2) (by exact fun _ => credit_src true 2) ?_
  refine sw_block m K c 3 (by clear h; revert c; decide +kernel) (by rfl) (by rfl) (by exact fun _ => credit_src false 3) (by exact fun _ => credit_src true 3) ?_
  refine sw_block m K c 4 (by clear h; revert c; decide +kernel) (by rfl) (by rfl) (by exact fun _ => credit_src false 4) (by exact fun _ => credit_src true 4) ?_
  refine sw_block m K c 5 (by clear h; revert c; decide +kernel) (by rfl) (by rfl) (by exact fun _ => credit_src false 5) (by exact fun _ => credit_src true 5) ?_
  refine sw_block m K c 6 (by clear h; revert c; decide +kernel) (by rfl) (by rfl) (by exact fun _ => credit_src false 6) (by exact fun _ => credit_src true 6) ?_
  refine sw_block m K c 7 (by clear h; revert c; decide +kernel) (by rfl) (by rfl) (by exact fun _ => credit_src false 7) (by exact fun _ => credit_src true 7) ?_
  refine sw_block m K c 8 (by clear h; revert c; decide +kernel) (by rfl) (by rfl) (by exact fun _ => credit_src false 8) (by exact fun _ => credit_src true 8) ?_
  refine sw_block m K c 9 (by clear h; revert c; decide +kernel) (by rfl) (by rfl) (by exact fun _ => credit_src false 9) (by exact fun _ => credit_src true 9) ?_
  refine sw_block m K c 10 (by clear h; revert c; decide +kernel) (by rfl) (by rfl) (by exact fun _ => credit_src false 10) (by exact fun _ => credit_src true 10) ?_
  refine sw_block m K c 11 (by clear h; revert c; decide +kernel) (by rfl) (by rfl) (by exact fun _ => credit_src false 11) (by exact fun _ => credit_src true 11) ?_
  exact pure_step h

/-! ## The all-reduce -/

/-- What round `s` starts from, besides the running sum. -/
def Rin (c : Dev nD) (s : Fin 4) : sProp 𝕄 :=
  iprop((∃ f, arPts (F := F) (par s.val c) s f) ∗ tok (F := F) (c, kasn s) c ∗ tok (F := F) (par s.val c, karc s) c ∗ at0 (F := F) (c, kasn s)
    ∗ crd (F := F) (c, karc s) ∗ at0 (F := F) (c, karc s))
/-- What it leaves, besides the running sum. -/
def Rout (c : Dev nD) (s : Fin 4) : sProp 𝕄 :=
  iprop(fin0 (F := F) (c, kasn s) ∗ fin0 (F := F) (c, karc s) ∗ arPts c s (arAt m c))

def A0 (c : Dev nD) (s : Fin 4) (L X : sProp 𝕄) : sProp 𝕄 := iprop(Rec m K ∗ own c (48 + s.val) ∗ oPts c (acc m s.val c) ∗ (Rin c s ∗ L) ∗ X)
def A1 (c : Dev nD) (s : Fin 4) (L X : sProp 𝕄) : sProp 𝕄 :=
  iprop(Rec m K ∗ own c (48 + s.val + 1) ∗ (crd (F := F) (c, kasn s) ∗ at0 (F := F) (c, kasn s)) ∗ (crd (F := F) (c, karc s) ∗ at0 (F := F) (c, karc s)) ∗ L ∗ X)
def A2 (c : Dev nD) (s : Fin 4) (L X : sProp 𝕄) : sProp 𝕄 :=
  iprop(Rec m K ∗ own c (48 + s.val + 1) ∗ (fin0 (F := F) (c, kasn s) ∗ oPts c (acc m s.val c)) ∗ (crd (F := F) (c, karc s) ∗ at0 (F := F) (c, karc s)) ∗ L ∗ X)
def A3 (c : Dev nD) (s : Fin 4) (L X : sProp 𝕄) : sProp 𝕄 := iprop(Rec m K ∗ own c (48 + s.val + 1) ∗ oPts c (acc m s.val c) ∗ L ∗ Rout m c s ∗ X)
/-- Between two rounds, `n` of them over. -/
def A4 (c : Dev nD) (n : ℕ) (L X : sProp 𝕄) : sProp 𝕄 := iprop(Rec m K ∗ own c (48 + n) ∗ oPts c (acc m n c) ∗ L ∗ X)

/-- A round's copy starts: the running sum is lent, the partner's slot is taken. -/
theorem send_round {α : Type} {Q : α → sProp 𝕄} (c n : Dev nD) (s : Fin 4) {L X : sProp 𝕄} (hn : n = par s.val c)
    {dst : Memref sig .tc .vmem S2x256x512 .f32} {sS sR : DmaSem sig} (hd : dst = arOf s)
    (hm : sS = odma (.inr (.inr (.inl s)))) (hr : sR = odma (.inr (.inr (.inr s))))
    {hsc} {h1 : (oM : Memref sig .tc .vmem S2x256x512 .f32).view.WordExact} {h2 : dst.view.WordExact}
    {h3 : DmaTarget.Typed (nD := nD) (τ := τ) (p := .tc) .vmem (.dma sR) (.remote (Dev.tc n : Thread nD τ) dst (.dma sS) hsc)}
    {k : PUnit → PR F α} (h : A1 m K c s L X ⊢ WP c (k ⟨⟩) Q) :
    A0 m K c s L X ⊢ WP c ((Prog.lift (.enqueueDma oM (.remote (Dev.tc n : Thread nD τ) dst (.dma sS) hsc) (.dma sR) h1 h2 h3) : PR F PUnit) >>= k) Q := by
  unfold A0 Rin
  iintro ⟨#HR, Ho, Hs, ⟨⟨Hd, Ht1, Ht2, Ha1, Hc2, Ha2⟩, HL⟩, HX⟩
  iapply (op_sendA m K c n s hn hd hm hr (h1 := h1) (h2 := h2) (h3 := h3) (k := k) (Q := Q)) $$ [Ho Hs Hd Ht1 Ht2]
  · isplitr; · iexact HR
    isplitl [Ho]; · iexact Ho
    isplitl [Hs]; · iexact Hs
    isplitl [Hd]; · iexact Hd
    isplitl [Ht1] <;> iassumption
  iintro ⟨Ho, Hc1⟩
  iapply h
  unfold A1
  isplitr; · iexact HR
  isplitl [Ho]; · iexact Ho
  isplitl [Hc1 Ha1]
  · isplitl [Hc1] <;> iassumption
  isplitl [Hc2 Ha2]
  · isplitl [Hc2] <;> iassumption
  isplitl [HL] <;> iassumption

/-- What a round's send counter gives back is the running sum. -/
theorem kpay_asn (c : Dev nD) (s : Fin 4) (p : Dev nD) : (kpay m (c, kasn s) p : sProp 𝕄) = oPts c (acc m s.val c) := rfl
/-- What a round's receive counter gives is the slot with the partner's sum. -/
theorem kpay_arc (c : Dev nD) (s : Fin 4) (p : Dev nD) : (kpay m (c, karc s) p : sProp 𝕄) = arPts c s (arAt m c) := rfl

/-- Waiting until a round's copy has left gives the running sum back. -/
theorem wait_sent {α : Type} {Q : α → sProp 𝕄} (c : Dev nD) (s : Fin 4) {L X : sProp 𝕄} {sem : DmaSem sig} (hm : sem = odma (.inr (.inr (.inl s))))
    {sp sp' : Space} {s1 s2 : Shape} {e e' : EltTy} {src : Memref sig .tc sp s1 e} {dst : Memref sig .tc sp' s2 e'}
    (hN : dst.view.dmaCredit = NA) {h1 : src.view.WordExact} {h2 : dst.view.WordExact} {k : PUnit → PR F α} (h : A2 m K c s L X ⊢ WP c (k ⟨⟩) Q) :
    A1 m K c s L X ⊢ WP c ((Prog.lift (.waitDma2 sem src dst h1 h2) : PR F PUnit) >>= k) Q := by
  unfold A1
  iintro ⟨#HR, Ho, ⟨Hc1, Ha1⟩, ⟨Hc2, Ha2⟩, HL, HX⟩
  iapply (op_wait m K c (.inr (.inr (.inl s))) c (48 + s.val + 1) rfl (Nat.zero_le _) hm (src := src) (dst := dst) hN (h1 := h1) (h2 := h2) (k := k) (Q := Q)) $$ [Ho Hc1 Ha1]
  · isplitr; · iexact HR
    isplitl [Ho]; · iexact Ho
    isplitl [Hc1] <;> iassumption
  iintro ⟨Ho, Hf, Hp⟩
  iapply h
  unfold A2
  isplitr; · iexact HR
  isplitl [Ho]; · iexact Ho
  isplitl [Hf Hp]
  · isplitl [Hf]; · iexact Hf
    iapply (Entails.of_eq (kpay_asn m c s c)) $$ Hp
  isplitl [Hc2 Ha2]
  · isplitl [Hc2] <;> iassumption
  isplitl [HL] <;> iassumption

/-- Waiting for the partner's copy gives the slot with the partner's sum. -/
theorem wait_got {α : Type} {Q : α → sProp 𝕄} (c : Dev nD) (s : Fin 4) {L X : sProp 𝕄} {sem : DmaSem sig} (hm : sem = odma (.inr (.inr (.inr s))))
    {sp sp' : Space} {s1 s2 : Shape} {e e' : EltTy} {src : Memref sig .tc sp s1 e} {dst : Memref sig .tc sp' s2 e'}
    (hN : dst.view.dmaCredit = NA) {h1 : src.view.WordExact} {h2 : dst.view.WordExact} {k : PUnit → PR F α} (h : A3 m K c s L X ⊢ WP c (k ⟨⟩) Q) :
    A2 m K c s L X ⊢ WP c ((Prog.lift (.waitDma2 sem src dst h1 h2) : PR F PUnit) >>= k) Q := by
  unfold A2
  iintro ⟨#HR, Ho, ⟨Hf, Hp⟩, ⟨Hc2, Ha2⟩, HL, HX⟩
  iapply (op_wait m K c (.inr (.inr (.inr s))) (par s.val c) (48 + s.val + 1) rfl (by clear h hm; revert s; decide) hm (src := src) (dst := dst) hN (h1 := h1) (h2 := h2) (k := k) (Q := Q)) $$ [Ho Hc2 Ha2]
  · isplitr; · iexact HR
    isplitl [Ho]; · iexact Ho
    isplitl [Hc2] <;> iassumption
  iintro ⟨Ho, Hf2, Hp2⟩
  iapply h
  unfold A3 Rout
  isplitr; · iexact HR
  isplitl [Ho]; · iexact Ho
  isplitl [Hp]; · iexact Hp
  isplitl [HL]; · iexact HL
  isplitl [Hf Hf2 Hp2]
  · isplitl [Hf]; · iexact Hf
    isplitl [Hf2]; · iexact Hf2
    iapply (Entails.of_eq (kpay_arc m c s (par s.val c))) $$ Hp2
  iexact HX

omit [FloatOps F] in
/-- The running sum as the output's view. -/
theorem o_whole (c : Dev nD) (X : S2x256x512.Idx → F .f32) : (oPts c X : sProp 𝕄) ⊢ whole oM.view c X := by
  unfold oPts vpts whole part
  iintro H
  iexists X
  isplitr; · ipureintro; exact fun _ _ => rfl
  iapply (Entails.of_eq (congrArg (fun S => (oM.view.loc (c : Thread nD τ) ↦[S]{fullShare} X : sProp 𝕄)) (View.set_whole _))) $$ H

omit [FloatOps F] in
/-- The output's view as the running sum. -/
theorem whole_o (c : Dev nD) (X : S2x256x512.Idx → F .f32) : whole oM.view c X ⊢ (oPts c X : sProp 𝕄) := by
  have hu : (oPts c X : sProp 𝕄) = (oM.view.loc (c : Thread nD τ) ↦{fullShare} X) :=
    congrArg (fun S => (oM.view.loc (c : Thread nD τ) ↦[S]{fullShare} X : sProp 𝕄)) (View.set_whole _)
  rw [hu]
  unfold whole part
  iintro ⟨%f, %hf, H⟩
  have hf' : oM.view.read (Elt F) f = X := funext fun i => hf i trivial
  have e : f = X := hf'
  subst e
  iexact H

/-- The state before an addition, the output as its view. -/
theorem A3_o (c : Dev nD) (s : Fin 4) (L X : sProp 𝕄) :
    A3 m K c s L X ⊢ iprop(whole oM.view c (acc m s.val c) ∗ Rec m K ∗ own c (48 + s.val + 1) ∗ L ∗ Rout m c s ∗ X) := by
  unfold A3
  iintro ⟨HR, Ho, Hp, H⟩
  isplitl [Hp]; · iapply (o_whole c _) $$ Hp
  isplitl [HR]; · iexact HR
  isplitl [Ho] <;> iassumption
/-- The same, back. -/
theorem A3_o' (c : Dev nD) (s : Fin 4) (L X : sProp 𝕄) :
    iprop(whole oM.view c (acc m s.val c) ∗ Rec m K ∗ own c (48 + s.val + 1) ∗ L ∗ Rout m c s ∗ X) ⊢ A3 m K c s L X := by
  unfold A3
  iintro ⟨Hp, HR, Ho, H⟩
  isplitl [HR]; · iexact HR
  isplitl [Ho]; · iexact Ho
  isplitl [Hp]; · iapply (whole_o c _) $$ Hp
  iexact H
/-- The state after an addition, the output as the running sum. -/
theorem A4_o (c : Dev nD) (s : Fin 4) (L X : sProp 𝕄) :
    iprop(whole oM.view c (acc m (s.val + 1) c) ∗ Rec m K ∗ own c (48 + s.val + 1) ∗ L ∗ Rout m c s ∗ X) ⊢ A4 m K c (s.val + 1) L iprop(Rout m c s ∗ X) := by
  unfold A4
  iintro ⟨Hp, HR, Ho, H⟩
  isplitl [HR]; · iexact HR
  isplitl [Ho]; · iexact Ho
  isplitl [Hp]; · iapply (whole_o c _) $$ Hp
  iexact H

abbrev rO : Rect S2x256x512 := Rect.unit (s := S2x256x512) ![0, 0, 0] S2x256x512.size inb_S2x256x512_S2x256x512_0_0_0

omit [FloatOps F] in
/-- The rectangle of the whole output moves no index. -/
theorem rO_idx (x : rO.shape.Idx) : rO.idx x = x := by
  funext a
  apply Fin.ext
  rw [at_unit]
  fin_cases a <;> exact Nat.zero_add _

/-- Loading the running sum. -/
theorem ld_sum {α : Type} {Q : α → sProp 𝕄} (c : Dev nD) (s : Fin 4) {L X : sProp 𝕄} {r : Rect S2x256x512} {hl} {k : _ → PR F α}
    (h : A3 m K c s L X ⊢ WP c (k (View.ld (acc m s.val c) r)) Q) :
    A3 m K c s L X ⊢ WP c ((Prog.lift (.load oM r.toLoadRect hl) : PR F _) >>= k) Q := ld_whole (A3_o m K c s L X) (A3_o' m K c s L X) h

/-- Loading the slot that was received. -/
theorem ld_got {α : Type} {Q : α → sProp 𝕄} (c : Dev nD) (s : Fin 4) {L X : sProp 𝕄} {r : Rect S4x2x256x512} (hr : r = rA s) {hl} {k : _ → PR F α}
    (h : A3 m K c s L X ⊢ WP c (k (View.ld (arAt m c) r)) Q) :
    A3 m K c s L X ⊢ WP c ((Prog.lift (.load arM r.toLoadRect hl) : PR F _) >>= k) Q := by
  subst hr
  have hS : arM.view.setOn (rA s).toLoadRect.set ⊆ (arOf s).view.set := by
    intro i hi
    refine (mem_ar s i).mpr ?_
    obtain ⟨j, hj, rfl⟩ := Finset.mem_map.mp hi
    obtain ⟨x, hx, e⟩ := (LoadRect.mem_set _).mp hj 0
    have hx : x < 1 := hx
    have e : (j 0).val = s.val + 1 * x := e
    apply Fin.ext
    show (j 0).val = s.val
    omega
  unfold A3 Rout at h ⊢
  have hb : (arPts c s (arAt m c) : sProp 𝕄) = (arM.view.loc (c : Thread nD τ) ↦[(show Finset S4x2x256x512.Idx from (arOf s).view.set)]{fullShare} arAt m c) := rfl
  rw [hb] at h ⊢
  iintro ⟨HR, Ho, Hp, HL, ⟨Hf1, Hf2, Hb⟩, HX⟩
  iapply (wp_load Variants.none (c : Thread nD τ) none Set.univ (m := arM) (r := (rA s).toLoadRect) (hl := hl) (k := k) (Q := Q) (q := fullShare)
    (f := arAt m c) hS) $$ Hb
  iintro Hb
  rw [View.readAt_eq_ld, show arM.view.read (Elt F) (arAt m c) = arAt m c from rfl]
  iapply h
  isplitl [HR]; · iexact HR
  isplitl [Ho]; · iexact Ho
  isplitl [Hp]; · iexact Hp
  isplitl [HL]; · iexact HL
  isplitl [Hf1 Hf2 Hb]
  · isplitl [Hf1]; · iexact Hf1
    isplitl [Hf2] <;> iassumption
  iexact HX

/-- A load of the output whose value is not used. -/
theorem ld_sdead {α : Type} {Q : α → sProp 𝕄} (c : Dev nD) (s : Fin 4) {L X : sProp 𝕄} {r : LoadRect S2x256x512} {hl} {rest : PR F α}
    (h : A3 m K c s L X ⊢ WP c rest Q) :
    A3 m K c s L X ⊢ WP c ((Prog.lift (.load oM r hl) : PR F _) >>= fun _ => rest) Q := ld_part (A3_o m K c s L X) (A3_o' m K c s L X) h

/-- A round's store is the next running sum. -/
theorem acc_next (c : Dev nD) (s : Fin 4) (x : rO.shape.Idx) : k0_pay1 (View.ld (acc m s.val c) rO) (View.ld (arAt m c) (rA s)) x = acc m (s.val + 1) c (rO.idx x) := by
  rw [rO_idx]
  have e1 : (fun x => acc m s.val c (rO.idx x)) = acc m s.val c := funext fun i => congrArg (acc m s.val c) (rO_idx i)
  have e2 : (fun x => arAt m c ((rA s).idx x)) = fun i => acc m s.val (par s.val c) (fun | 0 => i 1 | 1 => i 2 | 2 => i 3) := by
    funext i
    have h0 : ((rA s).idx i 0).val = s.val := by
      have : (i 0).val < 1 := (i 0).isLt
      rw [at_unit]; show s.val + (i 0).val = s.val; omega
    show acc m ((rA s).idx i 0).val (par ((rA s).idx i 0).val c) _ = _
    rw [h0]
    refine congrArg (acc m s.val (par s.val c)) (funext fun a => ?_)
    fin_cases a
    · apply Fin.ext; show ((rA s).idx i 1).val = (i 1).val; rw [at_unit]; exact Nat.zero_add _
    · apply Fin.ext; show ((rA s).idx i 2).val = (i 2).val; rw [at_unit]; exact Nat.zero_add _
    · apply Fin.ext; show ((rA s).idx i 3).val = (i 3).val; rw [at_unit]; exact Nat.zero_add _
  show k0_pay1 (fun x => acc m s.val c (rO.idx x)) (fun x => arAt m c ((rA s).idx x)) x = _
  exact congrFun (congrArg₂ (k0_pay1 (F := F)) e1 e2) x

/-- Storing the sum ends the round. -/
theorem st_sum {α : Type} {Q : α → sProp 𝕄} (c : Dev nD) (s : Fin 4) {L X : sProp 𝕄}
    {w : rO.shape.Idx → F .f32} {hx} {hm} {k : PUnit → PR F α}
    (hw : w = k0_pay1 (View.ld (acc m s.val c) rO) (View.ld (arAt m c) (rA s)))
    (h : A4 m K c (s.val + 1) L iprop(Rout m c s ∗ X) ⊢ WP c (k ⟨⟩) Q) :
    A3 m K c s L X ⊢ WP c ((Prog.lift (.store oM rO w Finset.univ hx hm) : PR F _) >>= k) Q := by
  subst hw
  have e := st_part (F := F) (Q := Q) (c := c) (mm := oM) (cs := .vmem) (r := rO) (hx := hx) (hm := hm) (k := k)
    (X := acc m s.val c) (Y := acc m (s.val + 1) c) (P := fun _ => True) (P' := fun _ => True)
    (A3_o m K c s L X) (A4_o m K c s L X) (acc_next m c s) (fun i _ => .inr ⟨i, rO_idx i⟩) h
  exact e

/-- The state after one round is the state before the next. -/
theorem next_round (c : Dev nD) (s : Fin 4) (n : ℕ) (hn : n = s.val) (L X : sProp 𝕄) : A4 m K c n iprop(Rin c s ∗ L) X ⊢ A0 m K c s L X := by
  subst hn; exact .rfl

abbrev L3 (c : Dev nD) : sProp 𝕄 := iprop(Rin (F := F) c 3 ∗ emp)
abbrev L2 (c : Dev nD) : sProp 𝕄 := iprop(Rin (F := F) c 2 ∗ L3 c)
abbrev L1 (c : Dev nD) : sProp 𝕄 := iprop(Rin (F := F) c 1 ∗ L2 c)

set_option maxRecDepth 65536 in
set_option maxHeartbeats 1000000 in
/-- Part 38: the last waits for the sends, and the first round's copy sent. -/
theorem part38_wp {Q : _ → sProp 𝕄} (c : Dev nD) {R X : sProp 𝕄} (h1 : SW m K c 16 R ⊢ A0 m K c 0 (L1 c) X)
    (h : A2 m K c 0 (L1 c) X ⊢ Q ⟨⟩) :
    SW m K c 12 R ⊢ WP c (on (k0_part38 (F := F)) c (word2 c) (Scalar.cmpi .ne (word2 c) 12#32)) Q := by
  rw [k0_part38_eq_skeleton]; unfold on k0_part38_skel
  refine sw_block m K c 12 (by clear h1 h; revert c; decide +kernel) (by rfl) (by rfl) (by exact fun _ => credit_src false 12) (by exact fun _ => credit_src true 12) ?_
  refine sw_block m K c 13 (by clear h1 h; revert c; decide +kernel) (by rfl) (by rfl) (by exact fun _ => credit_src false 13) (by exact fun _ => credit_src true 13) ?_
  refine sw_block m K c 14 (by clear h1 h; revert c; decide +kernel) (by rfl) (by rfl) (by exact fun _ => credit_src false 14) (by exact fun _ => credit_src true 14) ?_
  refine sw_block m K c 15 (by clear h1 h; revert c; decide +kernel) (by rfl) (by rfl) (by exact fun _ => credit_src false 15) (by exact fun _ => credit_src true 15) ?_
  refine h1.trans ?_
  refine send_round m K c _ 0 (by clear h1 h; revert c; decide +kernel) (by rfl) (by rfl) (by rfl) ?_
  refine wait_sent m K c 0 (by rfl) (by rfl) ?_
  exact pure_step h

set_option maxRecDepth 65536 in
set_option maxHeartbeats 1000000 in
/-- Part 39: the first round's addition, and the second round's copy sent. -/
theorem part39_wp {Q : _ → sProp 𝕄} (c : Dev nD) {X : sProp 𝕄}
    (h : A2 m K c 1 (L2 c) iprop(Rout m c 0 ∗ X) ⊢ Q ⟨Scalar.xori (word2 c) 2#32, 1#32⟩) :
    A2 m K c 0 (L1 c) X ⊢ WP c (on (k0_part39 (F := F)) c (word2 c)) Q := by
  rw [k0_part39_eq_skeleton]; unfold on k0_part39_skel
  refine wait_got m K c 0 (by rfl) (by rfl) <| ld_sum m K c 0 <| ld_got m K c 0 (by rfl) <| ld_sdead m K c 0 <| st_sum m K c 0 (by rfl) <| (next_round m K c 1 _ (by rfl) _ _).trans ?_
  refine send_round m K c _ 1 (by clear h; revert c; decide +kernel) (by rfl) (by rfl) (by rfl) ?_
  refine wait_sent m K c 1 (by rfl) (by rfl) ?_
  exact pure_step h

set_option maxRecDepth 65536 in
set_option maxHeartbeats 1000000 in
/-- Part 40: the second round's addition, and the third round's copy sent. -/
theorem part40_wp {Q : _ → sProp 𝕄} (c : Dev nD) {X : sProp 𝕄} (v v' : BitVec 32)
    (h : ∀ w, A2 m K c 2 (L3 c) iprop(Rout m c 1 ∗ X) ⊢ Q w) :
    A2 m K c 1 (L2 c) X ⊢ WP c (on (k0_part40 (F := F)) c (word2 c) v v') Q := by
  rw [k0_part40_eq_skeleton]; unfold on k0_part40_skel
  refine wait_got m K c 1 (by rfl) (by rfl) <| ld_sum m K c 1 <| ld_got m K c 1 (by rfl) <| ld_sdead m K c 1 <| st_sum m K c 1 (by rfl) <| (next_round m K c 2 _ (by rfl) _ _).trans ?_
  refine send_round m K c _ 2 (by clear h; revert c; decide +kernel) (by rfl) (by rfl) (by rfl) ?_
  refine wait_sent m K c 2 (by rfl) (by rfl) ?_
  exact pure_step (h _)

set_option maxRecDepth 65536 in
set_option maxHeartbeats 1000000 in
/-- Part 41: the third round's addition, and the last round's copy started. -/
theorem part41_wp {Q : _ → sProp 𝕄} (c : Dev nD) {X : sProp 𝕄} (v : BitVec 32)
    (h : ∀ w, A1 m K c 3 iprop(emp) iprop(Rout m c 2 ∗ X) ⊢ Q w) :
    A2 m K c 2 (L3 c) X ⊢ WP c (on (k0_part41 (F := F)) c (word2 c) v) Q := by
  rw [k0_part41_eq_skeleton]; unfold on k0_part41_skel
  refine wait_got m K c 2 (by rfl) (by rfl) <| ld_sum m K c 2 <| ld_got m K c 2 (by rfl) <| ld_sdead m K c 2 <| st_sum m K c 2 (by rfl) <| (next_round m K c 3 _ (by rfl) _ _).trans ?_
  refine send_round m K c _ 3 (by clear h; revert c; decide +kernel) (by rfl) (by rfl) (by rfl) ?_
  exact pure_step (h _)

end Cert.Attn

end
-- ==== Proof.Body.lean ====
/-
The whole body, from the resources the launch hands a device to what it hands back.
-/
module

public import proofs.«01_k».proof.Proof.Rounds

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## Families without the device itself -/

/-- A family over the other devices. -/
def off (c : Dev nD) (Φ : Dev nD → sProp 𝕄) : sProp 𝕄 := bigSep Finset.univ fun d => if d = c then iprop(emp) else Φ d

omit [FloatOps F] in
/-- The family over every device but `c`, as a family with nothing at `c`. -/
theorem off_erase (c : Dev nD) (Φ : Dev nD → sProp 𝕄) : bigSep (Finset.univ.erase c) Φ = off c Φ := by
  unfold off
  rw [bigSep_univ_at _ c, if_pos rfl]
  rw [bigSep_congr (s := Finset.univ.erase c) (Ψ := fun d => if d = c then iprop(emp) else Φ d) fun d hd => (if_neg (Finset.mem_erase.mp hd).1).symm]
  exact (equiv_iff.mp emp_sep).symm
omit [FloatOps F] in
/-- A family over the devices is its member at `c` and the others. -/
theorem off_at (c : Dev nD) (Φ : Dev nD → sProp 𝕄) : bigSep Finset.univ Φ = iprop(Φ c ∗ off c Φ) := by
  rw [← off_erase]; exact bigSep_univ_at Φ c
omit [FloatOps F] in
/-- The others of a pair of families are the pair of their others. -/
theorem off_sep (c : Dev nD) (Φ Ψ : Dev nD → sProp 𝕄) : off c (fun d => iprop(Φ d ∗ Ψ d)) = iprop(off c Φ ∗ off c Ψ) := by
  rw [← off_erase, ← off_erase, ← off_erase]; exact bigSep_sep' _ _ _
omit [FloatOps F] in
/-- Entailments at every other device entail the others. -/
theorem off_mono {c : Dev nD} {Φ Ψ : Dev nD → sProp 𝕄} (h : ∀ d, d ≠ c → Φ d ⊢ Ψ d) : off c Φ ⊢ off c Ψ := by
  rw [← off_erase, ← off_erase]; exact bigSep_mono fun d hd => h d (Finset.mem_erase.mp hd).1
omit [FloatOps F] in
/-- Equal members at every other device make the others equal. -/
theorem off_congr {c : Dev nD} {Φ Ψ : Dev nD → sProp 𝕄} (h : ∀ d, d ≠ c → Φ d = Ψ d) : off c Φ = off c Ψ := by
  rw [← off_erase, ← off_erase]; exact bigSep_congr fun d hd => h d (Finset.mem_erase.mp hd).1

omit [FloatOps F] in
/-- A family of nothings is nothing. -/
theorem emps {I : Type} (s : Finset I) : (bigSep s fun _ => iprop(emp)) = (iprop(emp) : sProp 𝕄) := bigSep_emp_const s

omit [FloatOps F] in
/-- A family with one summand. -/
theorem one_at {T : Type} [Fintype T] [DecidableEq T] (i : T) (X : T → sProp 𝕄) : (bigSep Finset.univ fun j => if j = i then X j else iprop(emp)) = X i := by
  rw [bigSep_univ_at _ i, if_pos rfl, bigSep_congr (s := Finset.univ.erase i) (Ψ := fun _ => iprop(emp)) fun d hd => if_neg (Finset.mem_erase.mp hd).1]
  rw [emps]
  exact equiv_iff.mp sep_emp

omit [FloatOps F] in
/-- A family over the two tensors is the pair of them. -/
theorem bool_eq (X : Bool → sProp 𝕄) : bigSep Finset.univ X = both X := by
  rw [bigSep_univ_eq_bigSepL [false, true] (by decide) (by decide)]
  rfl

omit [FloatOps F] in
/-- Two entailments give one between pairs. -/
theorem both_mono {X Y : Bool → sProp 𝕄} (h : ∀ b, X b ⊢ Y b) : both X ⊢ both Y := BIClass.sep_mono (h false) (h true)
omit [FloatOps F] in
/-- A pair of pairs, regrouped. -/
theorem both_sep (X Y : Bool → sProp 𝕄) : (both fun b => iprop(X b ∗ Y b)) = iprop(both X ∗ both Y) := by
  rw [← bool_eq, ← bool_eq, ← bool_eq]; exact bigSep_sep' _ _ _

omit [FloatOps F] in
/-- What each of a pair of guarded waits starts from. -/
theorem pairs_in (c : Dev nD) (A C : Bool → Dev nD → sProp 𝕄) :
    iprop((bigSep Finset.univ fun d => both fun b => A b d) ∗ off c fun d => both fun b => C b d)
      ⊢ bigSep Finset.univ fun d => both fun b => if d = c then A b d else iprop(C b d ∗ A b d) := by
  rw [off, ← bigSep_sep']
  refine bigSep_mono fun d _ => ?_
  by_cases h : d = c
  · simp only [if_pos h]; show (_ : sProp 𝕄) ⊢ _; iintro ⟨H, -⟩; iexact H
  · simp only [if_neg h]
    show (_ : sProp 𝕄) ⊢ _
    iintro ⟨⟨H0, H1⟩, G0, G1⟩
    isplitl [H0 G0]
    · isplitl [G0] <;> iassumption
    isplitl [G1] <;> iassumption

omit [FloatOps F] in
/-- What it leaves. -/
theorem pairs_out (c : Dev nD) (A C : Bool → Dev nD → sProp 𝕄) :
    (bigSep Finset.univ fun d => both fun b => iprop(A b d ∗ if d = c then iprop(emp) else C b d))
      ⊢ iprop((bigSep Finset.univ fun d => both fun b => A b d) ∗ off c fun d => both fun b => C b d) := by
  rw [off, ← bigSep_sep']
  refine bigSep_mono fun d _ => ?_
  by_cases h : d = c
  · simp only [if_pos h]
    show (_ : sProp 𝕄) ⊢ _
    iintro ⟨⟨H0, -⟩, H1, -⟩
    isplitl; · isplitl [H0] <;> iassumption
    iempintro
  · simp only [if_neg h]
    show (_ : sProp 𝕄) ⊢ _
    iintro ⟨⟨H0, G0⟩, H1, G1⟩
    isplitl [H0 H1]
    · isplitl [H0] <;> iassumption
    isplitl [G0] <;> iassumption

/-! ## The buffers, whole -/

/-- A buffer held whole, at whatever it holds. -/
def anyOf {sp : Space} {s : Shape} {e : EltTy} (v : View sig .tc sp s e) (c : Dev nD) : sProp 𝕄 :=
  iprop(∃ f : Buf (Elt F) (v.loc (c : Thread nD τ)), (v.loc (c : Thread nD τ) ↦{fullShare} f))

omit [FloatOps F] in
/-- Partly known contents are some contents. -/
theorem whole_any {sp : Space} {s : Shape} {e : EltTy} {c : Dev nD} {X : s.Idx → Elt F e} {P : s.Idx → Prop} (v : View sig .tc sp s e) : part v c X P ⊢ anyOf v c := by
  unfold part anyOf
  iintro ⟨%f, -, H⟩
  iexists f; iexact H

omit [FloatOps F] in
/-- A gathered buffer with some contents is its sixteen slots, each with some contents. -/
theorem any_slots (b : Bool) (c : Dev nD) : anyOf (F := F) (allM b).view c ⊢ bigSep Finset.univ fun d => iprop(∃ f, slotPts b c d f) := by
  unfold anyOf
  iintro ⟨%f, H⟩
  have h : (bigSep Finset.univ fun d => slotPts b c d f : sProp 𝕄) ⊢ bigSep Finset.univ fun d => iprop(∃ f, slotPts b c d f) :=
    bigSep_mono fun d _ => by
      show (_ : sProp 𝕄) ⊢ _
      iintro H; iexists f; iexact H
  iapply h
  iapply (Entails.of_eq (slots_eq b c f)) $$ H
omit [FloatOps F] in
/-- The rounds' buffer with some contents is its four slots, each with some contents. -/
theorem any_ars (c : Dev nD) : anyOf (F := F) arM.view c ⊢ bigSep Finset.univ fun s => iprop(∃ f, arPts c s f) := by
  unfold anyOf
  iintro ⟨%f, H⟩
  have h : (bigSep Finset.univ fun s => arPts c s f : sProp 𝕄) ⊢ bigSep Finset.univ fun s => iprop(∃ f, arPts c s f) :=
    bigSep_mono fun d _ => by
      show (_ : sProp 𝕄) ⊢ _
      iintro H; iexists f; iexact H
  iapply h
  iapply (Entails.of_eq (ars_eq c f)) $$ H

/-- Sixteen slots with the right contents are the gathered buffer with them. -/
theorem slots_whole (b : Bool) (c : Dev nD) : (bigSep Finset.univ fun d => slotPts b c d (allBuf m b c)) ⊢ whole (allM b).view c (allAt m b c) := by
  rw [← slots_eq]
  unfold whole part
  iintro H
  iexists (allBuf m b c)
  isplitr
  · ipureintro; intro i _; cases b <;> rfl
  iexact H

/-- The argument a device exchanges, held whole as launched. -/
def srcW (b : Bool) (c : Dev nD) : sProp 𝕄 := iprop((srcM b).view.loc (c : Thread nD τ) ↦{fullShare} kvBuf m b c)

/-- A source array is the sixteen head groups that the copies read. -/
theorem srcW_eq (b : Bool) (c : Dev nD) : srcW m b c = bigSep Finset.univ fun d => srcPts m b c d := srcs_eq m b c

omit [FloatOps F] in
/-- Contents known everywhere are the whole contents. -/
theorem part_all {sp : Space} {s : Shape} {e : EltTy} {c : Dev nD} {X : s.Idx → Elt F e} {P : s.Idx → Prop} (v : View sig .tc sp s e) (h : ∀ i, P i) :
    part v c X P ⊢ whole v c X := part_mono v fun i _ => h i
omit [FloatOps F] in
/-- Contents known nowhere are some contents. -/
theorem part_none {sp : Space} {s : Shape} {e : EltTy} {c : Dev nD} {X : s.Idx → Elt F e} {P : s.Idx → Prop} (v : View sig .tc sp s e) (h : ∀ i, ¬P i) :
    anyOf v c ⊢ part v c X P := any_part v h

/-! ## What a device starts with -/

/-- A round's tokens and positions. -/
def arT (c : Dev nD) (s : Fin 4) : sProp 𝕄 :=
  iprop(tok (F := F) (c, kasn s) c ∗ tok (F := F) (par s.val c, karc s) c ∗ at0 (F := F) (c, kasn s) ∗ crd (F := F) (c, karc s) ∗ at0 (F := F) (c, karc s))

/-- Tokens, credits and positions of device `c`. -/
def Ghost (c : Dev nD) : sProp 𝕄 :=
  iprop(off c (fun d => tok (F := F) (d, kbar) c) ∗ crd (F := F) (c, kbar) ∗ at0 (F := F) (c, kbar)
    ∗ (both fun b => tok (F := F) (c, klcl b) c) ∗ (off c fun d => both fun b => iprop(tok (F := F) (c, ksnd b d) c ∗ tok (F := F) (d, krcv b c) c))
    ∗ (bigSep Finset.univ fun s => arT (F := F) c s)
    ∗ (both fun b => at0 (F := F) (c, klcl b)) ∗ (bigSep Finset.univ fun d => both fun b => at0 (F := F) (c, krcv b d))
    ∗ (off c fun d => both fun b => crd (F := F) (c, krcv b d)) ∗ (bigSep Finset.univ fun d => both fun b => at0 (F := F) (c, ksnd b d)))

/-- The cells of device `c`, closed. -/
def Closed (c : Dev nD) : sProp 𝕄 :=
  iprop(fin0 (F := F) (c, kbar) ∗ (bigSep Finset.univ fun d => both fun b => fin0 (F := F) (c, ksnd b d)) ∗ (bigSep Finset.univ fun d => both fun b => fin0 (F := F) (c, krcv b d))
    ∗ (both fun b => fin0 (F := F) (c, klcl b)) ∗ (bigSep Finset.univ fun s => fin0 (F := F) (c, kasn s)) ∗ (bigSep Finset.univ fun s => fin0 (F := F) (c, karc s)))

/-- The operands read. -/
def Ins (c : Dev nD) : sProp 𝕄 := iprop(whole xM.view c (xAt m c) ∗ whole wqM.view c (wqAt m c) ∗ whole woM.view c (woAt m c))
/-- The scratch buffers, at whatever they hold. -/
def Scr (c : Dev nD) : sProp 𝕄 :=
  iprop(anyOf (F := F) qM.view c ∗ (both fun b => anyOf (F := F) (allM b).view c) ∗ anyOf (F := F) ctxM.view c ∗ anyOf (F := F) arM.view c)

/-! ## From one stage to the next -/

omit [FloatOps F] in
/-- Of a family that is empty but at the partner of round `s`, the others are the partner's member. -/
theorem off_one (c : Dev nD) (s : Fin 4) (X : Dev nD → sProp 𝕄) : off c (fun d => if par s.val c = d then X d else iprop(emp)) = X (par s.val c) := by
  unfold off
  rw [← one_at (par s.val c) X]
  refine bigSep_congr fun d _ => ?_
  by_cases h : d = c
  · have hp : par s.val c ≠ c := par_ne s c
    rw [if_pos h, if_neg (by rw [h]; exact fun e => hp e.symm)]
  · rw [if_neg h]
    by_cases h' : d = par s.val c
    · rw [if_pos h']; exact if_pos h'.symm
    · rw [if_neg h']; exact if_neg fun e => h' (Eq.symm e)

omit [FloatOps F] in
/-- The four rounds' partners, one member each, among the other devices. -/
theorem off_fin4 (c : Dev nD) (X : Dev nD → Fin 4 → sProp 𝕄) :
    (off c fun d => bigSep Finset.univ fun s => X d s) = bigSep Finset.univ fun s => off c fun d => X d s := by
  unfold off
  rw [← bigSep_univ_comm]
  refine bigSep_congr fun d _ => ?_
  by_cases h : d = c
  · simp only [if_pos h]; exact (emps _).symm
  · simp only [if_neg h]

omit [FloatOps F] in
/-- The landing slots, told apart by the device that writes each. -/
theorem ars_out (c : Dev nD) : (bigSep Finset.univ fun s => iprop(∃ f, arPts (F := F) c s f))
    = off c fun d => bigSep Finset.univ fun s : Fin 4 => iprop(if par s.val d = c then iprop(∃ f, arPts (F := F) c s f) else emp) := by
  rw [off_fin4]
  refine bigSep_congr fun s _ => ?_
  refine (off_one c s fun _ => iprop(∃ f, arPts (F := F) c s f)).symm.trans (off_congr fun d _ => ?_)
  have hp : par s.val (par s.val c) = c := par_par s c
  have hp' : par s.val (par s.val d) = d := par_par s d
  by_cases h : par s.val c = d
  · rw [if_pos h, if_pos (by rw [← h]; exact hp)]
  · rw [if_neg h, if_neg fun e => h (by rw [← e]; exact hp')]

omit [FloatOps F] in
/-- What the others' entry signals bring. -/
theorem bar_in (c : Dev nD) : (bigSep (Finset.univ.erase c) fun p => barPay (F := F) c p)
    = iprop((off c fun p => both fun b => iprop(∃ f, slotPts (F := F) b p c f)) ∗ bigSep Finset.univ fun s : Fin 4 => iprop(∃ f, arPts (F := F) (par s.val c) s f)) := by
  rw [off_erase]
  unfold barPay
  rw [off_sep, off_fin4]
  congr 1
  · exact off_congr fun d _ => bool_eq _
  · exact bigSep_congr fun s _ => off_one c s fun d => iprop(∃ f, arPts (F := F) d s f)

omit [FloatOps F] in
/-- The others of a pair of families, one per tensor. -/
theorem off_both (c : Dev nD) (X : Bool → Dev nD → sProp 𝕄) : (off c fun d => both fun b => X b d) = both fun b => off c (X b) := off_sep c _ _
omit [FloatOps F] in
/-- All devices of a pair of families, one per tensor. -/
theorem all_both (X : Bool → Dev nD → sProp 𝕄) : (bigSep Finset.univ fun d => both fun b => X b d) = both fun b => bigSep Finset.univ (X b) := bigSep_sep' _ _ _

/-- What stays aside while the entry signals go out. -/
def E0 (c : Dev nD) : sProp 𝕄 :=
  iprop((both fun b => iprop(∃ f, slotPts (F := F) b c c f)) ∗ (both fun b => srcW m b c)
    ∗ (both fun b => tok (F := F) (c, klcl b) c) ∗ (off c fun d => both fun b => iprop(tok (F := F) (c, ksnd b d) c ∗ tok (F := F) (d, krcv b c) c))
    ∗ (bigSep Finset.univ fun s => arT (F := F) c s)
    ∗ (both fun b => at0 (F := F) (c, klcl b)) ∗ (bigSep Finset.univ fun d => both fun b => at0 (F := F) (c, krcv b d))
    ∗ (off c fun d => both fun b => crd (F := F) (c, krcv b d)) ∗ (bigSep Finset.univ fun d => both fun b => at0 (F := F) (c, ksnd b d))
    ∗ Ins m c ∗ anyOf (F := F) oM.view c ∗ anyOf (F := F) qM.view c ∗ anyOf (F := F) ctxM.view c)

/-- What the device starts with is what the signals take. -/
theorem stage0 (c : Dev nD) :
    iprop(Rec m K ∗ own c 0 ∗ Ghost c ∗ (both fun b => srcW m b c) ∗ Ins m c ∗ anyOf (F := F) oM.view c ∗ Scr c)
      ⊢ iprop(Rec m K ∗ own c 0 ∗ Fam (sigA c) none1 0 ∗ crd (F := F) (c, kbar) ∗ at0 (F := F) (c, kbar) ∗ E0 m c) := by
  have hs : (both fun b => anyOf (F := F) (allM b).view c) ⊢ iprop((both fun b => iprop(∃ f, slotPts (F := F) b c c f)) ∗ off c fun d => bigSep Finset.univ fun b => iprop(∃ f, slotPts (F := F) b c d f)) := by
    refine (both_mono fun b => any_slots b c).trans ?_
    rw [← all_both, off_at c]
    exact sep_mono .rfl (Entails.of_eq (off_congr fun d _ => (bool_eq _).symm))
  have ha : anyOf (F := F) arM.view c ⊢ off c fun d => bigSep Finset.univ fun s : Fin 4 => iprop(if par s.val d = c then iprop(∃ f, arPts (F := F) c s f) else emp) :=
    (any_ars c).trans (Entails.of_eq (ars_out c))
  have hf : Fam (F := F) (sigA c) none1 0 = iprop(off c (fun d => tok (F := F) (d, kbar) c) ∗ (off c fun d => bigSep Finset.univ fun b => iprop(∃ f, slotPts (F := F) b c d f))
      ∗ off c fun d => bigSep Finset.univ fun s : Fin 4 => iprop(if par s.val d = c then iprop(∃ f, arPts (F := F) c s f) else emp)) := by
    rw [Fam_zero, ← off_sep, ← off_sep]; rfl
  rw [hf]
  unfold Ghost E0 Scr
  iintro ⟨#HRec, Ho, ⟨T1, C1, A1, T2, T3, T4, A2, A3, C2, A4⟩, Hs, HI, HO, HQ, Hkv, HC, HA⟩
  ihave Hk := hs $$ Hkv
  icases Hk with ⟨Hk, Hk'⟩
  ihave HA' := ha $$ HA
  isplitr; · iexact HRec
  isplitl [Ho]; · iexact Ho
  isplitl [T1 Hk' HA']
  · isplitl [T1]; · iexact T1
    isplitl [Hk']; · iexact Hk'
    iexact HA'
  isplitl [C1]; · iexact C1
  isplitl [A1]; · iexact A1
  isplitl [Hk]; · iexact Hk
  isplitl [Hs]; · iexact Hs
  isplitl [T2]; · iexact T2
  isplitl [T3]; · iexact T3
  isplitl [T4]; · iexact T4
  isplitl [A2]; · iexact A2
  isplitl [A3]; · iexact A3
  isplitl [C2]; · iexact C2
  isplitl [A4]; · iexact A4
  isplitl [HI]; · iexact HI
  isplitl [HO]; · iexact HO
  isplitl [HQ]; · iexact HQ
  iexact HC

/-- What stays aside while the copies start. -/
def E1 (c : Dev nD) : sProp 𝕄 :=
  iprop(fin0 (F := F) (c, kbar) ∗ (bigSep Finset.univ fun s => Rin (F := F) c s)
    ∗ (both fun b => at0 (F := F) (c, klcl b)) ∗ (bigSep Finset.univ fun d => both fun b => at0 (F := F) (c, krcv b d))
    ∗ (off c fun d => both fun b => crd (F := F) (c, krcv b d)) ∗ (bigSep Finset.univ fun d => both fun b => at0 (F := F) (c, ksnd b d))
    ∗ Ins m c ∗ anyOf (F := F) oM.view c ∗ anyOf (F := F) qM.view c ∗ anyOf (F := F) ctxM.view c)

/-- After the signals and the barrier: what the copies' starts take. -/
theorem stage1 (c : Dev nD) :
    iprop(Rec m K ∗ own c 16 ∗ fin0 (F := F) (c, kbar) ∗ (bigSep (Finset.univ.erase c) fun p => barPay (F := F) c p) ∗ E0 m c)
      ⊢ Starts m K c 0 0 (E1 m c) := by
  have hl : Fam (locA m c) (locB c) 0 = both fun b => iprop(srcPts m b c c ∗ (∃ f, slotPts (F := F) b c c f) ∗ tok (F := F) (c, klcl b) c) := by
    rw [Fam_zero]; exact one_at c fun _ => both fun b => iprop(srcPts m b c c ∗ (∃ f, slotPts (F := F) b c c f) ∗ tok (F := F) (c, klcl b) c)
  have hr : Fam (remA m c) (remB c) 0 = iprop((off c fun d => both fun b => srcPts m b c d) ∗ (off c fun d => both fun b => iprop(∃ f, slotPts (F := F) b d c f))
      ∗ off c fun d => both fun b => iprop(tok (F := F) (c, ksnd b d) c ∗ tok (F := F) (d, krcv b c) c)) := by
    rw [Fam_zero, ← off_sep, ← off_sep]
    show off c _ = off c _
    refine off_congr fun d _ => ?_
    rw [both_sep (fun b => srcPts m b c d), both_sep (fun b => iprop(∃ f, slotPts (F := F) b d c f))]
  have hs : (both fun b => srcW m b c) = iprop((both fun b => srcPts m b c c) ∗ off c fun d => both fun b => srcPts m b c d) := by
    rw [← off_at c fun d => both fun b => srcPts m b c d, all_both]
    simp only [srcW_eq]
  have ht : iprop((bigSep Finset.univ fun s : Fin 4 => iprop(∃ f, arPts (F := F) (par s.val c) s f)) ∗ bigSep Finset.univ fun s => arT (F := F) c s)
      = bigSep Finset.univ fun s => Rin (F := F) c s := (bigSep_sep' _ _ _).symm
  have h3 : iprop((both fun b => srcPts m b c c) ∗ (both fun b => iprop(∃ f, slotPts (F := F) b c c f)) ∗ both fun b => tok (F := F) (c, klcl b) c)
      = both fun b => iprop(srcPts m b c c ∗ (∃ f, slotPts (F := F) b c c f) ∗ tok (F := F) (c, klcl b) c) := by
    rw [both_sep (fun b => srcPts m b c c), both_sep (fun b => iprop(∃ f, slotPts (F := F) b c c f))]
  rw [bar_in]
  unfold Starts
  rw [hl, hr, ← h3]
  unfold E0 E1
  rw [hs, ← ht]
  iintro ⟨#HRec, Ho, Hf, ⟨Hd, Har⟩, Hk, ⟨Hs, Hs'⟩, T2, T3, T4, A2, A3, C2, A4, HI, HO, HQ, HC⟩
  isplitr; · iexact HRec
  isplitl [Ho]; · iexact Ho
  isplitl [Hs Hk T2]
  · isplitl [Hs]; · iexact Hs
    isplitl [Hk]; · iexact Hk
    iexact T2
  isplitl [Hs' Hd T3]
  · isplitl [Hs']; · iexact Hs'
    isplitl [Hd]; · iexact Hd
    iexact T3
  isplitl [Hf]; · iexact Hf
  isplitl [Har T4]
  · isplitl [Har]; · iexact Har
    iexact T4
  isplitl [A2]; · iexact A2
  isplitl [A3]; · iexact A3
  isplitl [C2]; · iexact C2
  isplitl [A4]; · iexact A4
  isplitl [HI]; · iexact HI
  isplitl [HO]; · iexact HO
  isplitl [HQ]; · iexact HQ
  iexact HC

/-- What stays aside while the queries are formed. -/
def E2 (c : Dev nD) : sProp 𝕄 :=
  iprop(Rec m K ∗ own c 48 ∗ (both fun b => crd (F := F) (c, klcl b)) ∗ (off c fun d => both fun b => crd (F := F) (c, ksnd b d))
    ∗ fin0 (F := F) (c, kbar) ∗ (bigSep Finset.univ fun s => Rin (F := F) c s)
    ∗ (both fun b => at0 (F := F) (c, klcl b)) ∗ (bigSep Finset.univ fun d => both fun b => at0 (F := F) (c, krcv b d))
    ∗ (off c fun d => both fun b => crd (F := F) (c, krcv b d)) ∗ (bigSep Finset.univ fun d => both fun b => at0 (F := F) (c, ksnd b d))
    ∗ whole woM.view c (woAt m c) ∗ anyOf (F := F) oM.view c ∗ anyOf (F := F) ctxM.view c)

/-- After the copies' starts: what the query product takes. -/
theorem stage2 (c : Dev nD) : Starts m K c 16 16 (E1 m c) ⊢ QS m c 0 (E2 m K c) := by
  have hl : Fam (locA m c) (locB c) 16 = both fun b => crd (F := F) (c, klcl b) := by
    rw [Fam_all]; exact one_at c fun _ => both fun b => crd (F := F) (c, klcl b)
  have hr : Fam (remA m c) (remB c) 16 = off c fun d => both fun b => crd (F := F) (c, ksnd b d) := by
    rw [Fam_all]; rfl
  unfold Starts
  rw [hl, hr]
  unfold E1 E2 QS Ins
  iintro ⟨#HRec, Ho, C1, C3, Hf, HR, A2, A3, C2, A4, ⟨X1, X2, X3⟩, HO, HQ, HC⟩
  isplitl [X1]; · iexact X1
  isplitl [X2]; · iexact X2
  isplitl [HQ]; · iapply (part_none qM.view fun i => Nat.not_lt_zero _) $$ HQ
  isplitr; · iexact HRec
  isplitl [Ho]; · iexact Ho
  isplitl [C1]; · iexact C1
  isplitl [C3]; · iexact C3
  isplitl [Hf]; · iexact Hf
  isplitl [HR]; · iexact HR
  isplitl [A2]; · iexact A2
  isplitl [A3]; · iexact A3
  isplitl [C2]; · iexact C2
  isplitl [A4]; · iexact A4
  isplitl [X3]; · iexact X3
  isplitl [HO]; · iexact HO
  iexact HC

/-- What stays aside during the local waits. -/
def E3 (c : Dev nD) : sProp 𝕄 :=
  iprop((off c fun d => both fun b => crd (F := F) (c, ksnd b d))
    ∗ fin0 (F := F) (c, kbar) ∗ (bigSep Finset.univ fun s => Rin (F := F) c s)
    ∗ (bigSep Finset.univ fun d => both fun b => at0 (F := F) (c, krcv b d))
    ∗ (off c fun d => both fun b => crd (F := F) (c, krcv b d)) ∗ (bigSep Finset.univ fun d => both fun b => at0 (F := F) (c, ksnd b d))
    ∗ whole xM.view c (xAt m c) ∗ whole wqM.view c (wqAt m c) ∗ whole qM.view c (qAt m c)
    ∗ whole woM.view c (woAt m c) ∗ anyOf (F := F) oM.view c ∗ anyOf (F := F) ctxM.view c)

/-- After the query product: what the local waits take. -/
theorem stage3 (c : Dev nD) : QS m c 2 (E2 m K c) ⊢ LW m K c 0 (E3 m c) := by
  have hl : Fam (lwA c) (lwB m c) 0 = iprop((both fun b => crd (F := F) (c, klcl b)) ∗ both fun b => at0 (F := F) (c, klcl b)) := by
    rw [Fam_zero, ← both_sep]; exact one_at c fun _ => both fun b => iprop(crd (F := F) (c, klcl b) ∗ at0 (F := F) (c, klcl b))
  unfold LW
  rw [hl]
  unfold QS E2 E3
  iintro ⟨X1, X2, HQ, #HRec, Ho, C1, C3, Hf, HR, A2, A3, C2, A4, X3, HO, HC⟩
  isplitr; · iexact HRec
  isplitl [Ho]; · iexact Ho
  isplitl [C1 A2]
  · isplitl [C1]; · iexact C1
    iexact A2
  isplitl [C3]; · iexact C3
  isplitl [Hf]; · iexact Hf
  isplitl [HR]; · iexact HR
  isplitl [A3]; · iexact A3
  isplitl [C2]; · iexact C2
  isplitl [A4]; · iexact A4
  isplitl [X1]; · iexact X1
  isplitl [X2]; · iexact X2
  isplitl [HQ]; · iapply (part_all qM.view fun i => show (i 0).val < 2 from (i 0).isLt) $$ HQ
  isplitl [X3]; · iexact X3
  isplitl [HO]; · iexact HO
  iexact HC

/-- What stays aside during the waits for the others' copies. -/
def E4 (c : Dev nD) : sProp 𝕄 :=
  iprop((both fun b => fin0 (F := F) (c, klcl b)) ∗ (both fun b => slotPts b c c (allBuf m b c)) ∗ (both fun b => srcPts m b c c)
    ∗ (off c fun d => both fun b => crd (F := F) (c, ksnd b d))
    ∗ fin0 (F := F) (c, kbar) ∗ (bigSep Finset.univ fun s => Rin (F := F) c s) ∗ (bigSep Finset.univ fun d => both fun b => at0 (F := F) (c, ksnd b d))
    ∗ whole xM.view c (xAt m c) ∗ whole wqM.view c (wqAt m c) ∗ whole qM.view c (qAt m c)
    ∗ whole woM.view c (woAt m c) ∗ anyOf (F := F) oM.view c ∗ anyOf (F := F) ctxM.view c)

/-- After the local waits: what the remote waits take. -/
theorem stage4 (c : Dev nD) : LW m K c 16 (E3 m c) ⊢ RW m K c 0 (E4 m c) := by
  have hl : Fam (lwA c) (lwB m c) 16 = iprop((both fun b => fin0 (F := F) (c, klcl b)) ∗ (both fun b => slotPts b c c (allBuf m b c)) ∗ both fun b => srcPts m b c c) := by
    rw [Fam_all, ← both_sep, ← both_sep]; exact one_at c fun _ => both fun b => iprop(fin0 (F := F) (c, klcl b) ∗ slotPts b c c (allBuf m b c) ∗ srcPts m b c c)
  have hr : iprop((bigSep Finset.univ fun d => both fun b => at0 (F := F) (c, krcv b d)) ∗ off c fun d => both fun b => crd (F := F) (c, krcv b d)) ⊢ Fam (rwA c) (rwB m c) 0 := by
    rw [Fam_zero]; exact pairs_in c (fun b d => at0 (F := F) (c, krcv b d)) (fun b d => crd (F := F) (c, krcv b d))
  unfold LW
  rw [hl]
  refine BIBase.Entails.trans ?_ (sep_mono_right (sep_mono_right (sep_mono_left hr)))
  unfold E3 E4
  iintro ⟨#HRec, Ho, ⟨F1, K1, S1⟩, C3, Hf, HR, A3, C2, A4, X1, X2, HQ, X3, HO, HC⟩
  isplitr; · iexact HRec
  isplitl [Ho]; · iexact Ho
  isplitl [A3 C2]
  · isplitl [A3]; · iexact A3
    iexact C2
  isplitl [F1]; · iexact F1
  isplitl [K1]; · iexact K1
  isplitl [S1]; · iexact S1
  isplitl [C3]; · iexact C3
  isplitl [Hf]; · iexact Hf
  isplitl [HR]; · iexact HR
  isplitl [A4]; · iexact A4
  isplitl [X1]; · iexact X1
  isplitl [X2]; · iexact X2
  isplitl [HQ]; · iexact HQ
  isplitl [X3]; · iexact X3
  isplitl [HO]; · iexact HO
  iexact HC

/-- What stays aside during the tiles. -/
def E5 (c : Dev nD) : sProp 𝕄 :=
  iprop(Rec m K ∗ own c 48 ∗ (bigSep Finset.univ fun d => both fun b => fin0 (F := F) (c, krcv b d)) ∗ (both fun b => fin0 (F := F) (c, klcl b)) ∗ (both fun b => srcPts m b c c)
    ∗ (off c fun d => both fun b => crd (F := F) (c, ksnd b d))
    ∗ fin0 (F := F) (c, kbar) ∗ (bigSep Finset.univ fun s => Rin (F := F) c s) ∗ (bigSep Finset.univ fun d => both fun b => at0 (F := F) (c, ksnd b d))
    ∗ whole xM.view c (xAt m c) ∗ whole wqM.view c (wqAt m c) ∗ whole woM.view c (woAt m c) ∗ anyOf (F := F) oM.view c)

/-- After the remote waits: what the tiles take. -/
theorem stage5 (c : Dev nD) : RW m K c 16 (E4 m c) ⊢ TS m c 0 (E5 m K c) := by
  have hr : Fam (rwA c) (rwB m c) 16 ⊢ iprop((bigSep Finset.univ fun d => both fun b => fin0 (F := F) (c, krcv b d)) ∗ off c fun d => both fun b => slotPts b c d (allBuf m b c)) := by
    rw [Fam_all]; exact pairs_out c (fun b d => fin0 (F := F) (c, krcv b d)) (fun b d => slotPts b c d (allBuf m b c))
  have hw : iprop((both fun b => slotPts b c c (allBuf m b c)) ∗ off c fun d => both fun b => slotPts b c d (allBuf m b c)) ⊢ both fun b => whole (allM b).view c (allAt m b c) := by
    rw [← off_at c fun d => both fun b => slotPts b c d (allBuf m b c), all_both]
    exact both_mono fun b => slots_whole m b c
  unfold RW
  refine (sep_mono_right (sep_mono_right (sep_mono_left hr))).trans ?_
  unfold E4 E5 TS
  iintro ⟨#HRec, Ho, ⟨F2, K2⟩, F1, K1, S1, C3, Hf, HR, A4, X1, X2, HQ, X3, HO, HC⟩
  ihave HK := hw $$ [K1 K2]
  · isplitl [K1] <;> iassumption
  icases HK with ⟨Hk, Hv⟩
  isplitl [HQ]; · iexact HQ
  isplitl [Hk]; · iexact Hk
  isplitl [Hv]; · iexact Hv
  isplitl [HC]; · iapply (part_none ctxM.view fun i => Nat.not_lt_zero _) $$ HC
  isplitr; · iexact HRec
  isplitl [Ho]; · iexact Ho
  isplitl [F2]; · iexact F2
  isplitl [F1]; · iexact F1
  isplitl [S1]; · iexact S1
  isplitl [C3]; · iexact C3
  isplitl [Hf]; · iexact Hf
  isplitl [HR]; · iexact HR
  isplitl [A4]; · iexact A4
  isplitl [X1]; · iexact X1
  isplitl [X2]; · iexact X2
  isplitl [X3]; · iexact X3
  iexact HO

/-- What stays aside during the local product. -/
def E6 (c : Dev nD) : sProp 𝕄 :=
  iprop(Rec m K ∗ own c 48 ∗ (bigSep Finset.univ fun d => both fun b => fin0 (F := F) (c, krcv b d)) ∗ (both fun b => fin0 (F := F) (c, klcl b)) ∗ (both fun b => srcPts m b c c)
    ∗ (off c fun d => both fun b => crd (F := F) (c, ksnd b d))
    ∗ fin0 (F := F) (c, kbar) ∗ (bigSep Finset.univ fun s => Rin (F := F) c s) ∗ (bigSep Finset.univ fun d => both fun b => at0 (F := F) (c, ksnd b d))
    ∗ whole xM.view c (xAt m c) ∗ whole wqM.view c (wqAt m c)
    ∗ anyOf (F := F) qM.view c ∗ (both fun b => anyOf (F := F) (allM b).view c))

/-- A tile's number is below 32. -/
theorem tno_lt (i : S2x256x4x64.Idx) : tno i < 32 := by
  have h0 : (i 0).val < 2 := (i 0).isLt
  have h1 : (i 1).val < 256 := (i 1).isLt
  have h2 : (i 2).val < 4 := (i 2).isLt
  unfold tno; omega

/-- After the tiles: what the output product takes. -/
theorem stage6 (c : Dev nD) : TS m c 32 (E5 m K c) ⊢ PS m c 0 (E6 m K c) := by
  unfold TS E5 E6 PS
  iintro ⟨HQ, Hk, Hv, HC, #HRec, Ho, F2, F1, S1, C3, Hf, HR, A4, X1, X2, X3, HO⟩
  isplitl [HC]; · iapply (part_all ctxM.view fun i => tno_lt i) $$ HC
  isplitl [X3]; · iexact X3
  isplitl [HO]; · iapply (part_none oM.view fun i => Nat.not_lt_zero _) $$ HO
  isplitr; · iexact HRec
  isplitl [Ho]; · iexact Ho
  isplitl [F2]; · iexact F2
  isplitl [F1]; · iexact F1
  isplitl [S1]; · iexact S1
  isplitl [C3]; · iexact C3
  isplitl [Hf]; · iexact Hf
  isplitl [HR]; · iexact HR
  isplitl [A4]; · iexact A4
  isplitl [X1]; · iexact X1
  isplitl [X2]; · iexact X2
  isplitl [HQ]; · iapply (whole_any qM.view) $$ HQ
  isplitl [Hk]; · iapply (whole_any (allM false).view) $$ Hk
  iapply (whole_any (allM true).view) $$ Hv

/-- What stays aside during the waits for its own sends. -/
def E7 (c : Dev nD) : sProp 𝕄 :=
  iprop(whole oM.view c (outAt m c) ∗ (bigSep Finset.univ fun d => both fun b => fin0 (F := F) (c, krcv b d)) ∗ (both fun b => fin0 (F := F) (c, klcl b)) ∗ (both fun b => srcPts m b c c)
    ∗ fin0 (F := F) (c, kbar) ∗ (bigSep Finset.univ fun s => Rin (F := F) c s) ∗ Ins m c
    ∗ anyOf (F := F) qM.view c ∗ (both fun b => anyOf (F := F) (allM b).view c) ∗ anyOf (F := F) ctxM.view c)

/-- After the output product: what the waits for the sends take. -/
theorem stage7 (c : Dev nD) : PS m c 2 (E6 m K c) ⊢ SW m K c 0 (E7 m c) := by
  have hr : iprop((bigSep Finset.univ fun d => both fun b => at0 (F := F) (c, ksnd b d)) ∗ off c fun d => both fun b => crd (F := F) (c, ksnd b d)) ⊢ Fam (swA c) (swB m c) 0 := by
    rw [Fam_zero]; exact pairs_in c (fun b d => at0 (F := F) (c, ksnd b d)) (fun b d => crd (F := F) (c, ksnd b d))
  unfold SW
  refine BIBase.Entails.trans ?_ (sep_mono_right (sep_mono_right (sep_mono_left hr)))
  unfold PS E6 E7 Ins
  iintro ⟨HC, X3, HO, #HRec, Ho, F2, F1, S1, C3, Hf, HR, A4, X1, X2, HQ, HKV⟩
  isplitr; · iexact HRec
  isplitl [Ho]; · iexact Ho
  isplitl [A4 C3]
  · isplitl [A4]; · iexact A4
    iexact C3
  isplitl [HO]; · iapply (part_all oM.view fun i => show (i 0).val < 2 from (i 0).isLt) $$ HO
  isplitl [F2]; · iexact F2
  isplitl [F1]; · iexact F1
  isplitl [S1]; · iexact S1
  isplitl [Hf]; · iexact Hf
  isplitl [HR]; · iexact HR
  isplitl [X1 X2 X3]
  · isplitl [X1]; · iexact X1
    isplitl [X2]; · iexact X2
    iexact X3
  isplitl [HQ]; · iexact HQ
  isplitl [HKV]; · iexact HKV
  iapply (whole_any ctxM.view) $$ HC

/-- What stays aside during the all-reduce. -/
def E8 (c : Dev nD) : sProp 𝕄 :=
  iprop((bigSep Finset.univ fun d => both fun b => fin0 (F := F) (c, ksnd b d)) ∗ (bigSep Finset.univ fun d => both fun b => fin0 (F := F) (c, krcv b d)) ∗ (both fun b => fin0 (F := F) (c, klcl b))
    ∗ fin0 (F := F) (c, kbar) ∗ (both fun b => srcW m b c) ∗ Ins m c
    ∗ anyOf (F := F) qM.view c ∗ (both fun b => anyOf (F := F) (allM b).view c) ∗ anyOf (F := F) ctxM.view c)

omit [FloatOps F] in
/-- A family over the four rounds, written out. -/
theorem fin4_eq (X : Fin 4 → sProp 𝕄) : bigSep Finset.univ X = iprop(X 0 ∗ X 1 ∗ X 2 ∗ X 3) := bigSep_univ_eq_bigSepL [0, 1, 2, 3] (by decide) (by decide) X

/-- The head groups that came back make the source arrays again. -/
theorem srcs_back (c : Dev nD) : iprop((both fun b => srcPts m b c c) ∗ off c fun d => both fun b => srcPts m b c d) ⊢ (both fun b => srcW m b c) := by
  rw [← off_at c fun d => both fun b => srcPts m b c d, all_both]
  simp only [srcW_eq]; rfl

/-- After the waits for the sends: what the rounds take. -/
theorem stage8 (c : Dev nD) : SW m K c 16 (E7 m c) ⊢ A0 m K c 0 (L1 c) (E8 m c) := by
  have hr : Fam (swA c) (swB m c) 16 ⊢ iprop((bigSep Finset.univ fun d => both fun b => fin0 (F := F) (c, ksnd b d)) ∗ off c fun d => both fun b => srcPts m b c d) := by
    rw [Fam_all]; exact pairs_out c (fun b d => fin0 (F := F) (c, ksnd b d)) (fun b d => srcPts m b c d)
  unfold SW
  refine (sep_mono_right (sep_mono_right (sep_mono_left hr))).trans ?_
  unfold E7 E8 A0 L1 L2 L3
  rw [fin4_eq]
  iintro ⟨#HRec, Ho, ⟨F3, S2⟩, HO, F2, F1, S1, Hf, ⟨R0, R1, R2, R3⟩, HI, HQ, HKV, HC⟩
  isplitr; · iexact HRec
  isplitl [Ho]; · iexact Ho
  isplitl [HO]; · iapply (whole_o c _) $$ HO
  isplitl [R0 R1 R2 R3]
  · isplitl [R0]; · iexact R0
    isplitl [R1]; · iexact R1
    isplitl [R2]; · iexact R2
    isplitl [R3]; · iexact R3
    iempintro
  isplitl [F3]; · iexact F3
  isplitl [F2]; · iexact F2
  isplitl [F1]; · iexact F1
  isplitl [Hf]; · iexact Hf
  isplitl [S1 S2]; · (iapply (srcs_back m c); isplitl [S1] <;> iassumption)
  isplitl [HI]; · iexact HI
  isplitl [HQ]; · iexact HQ
  isplitl [HKV]; · iexact HKV
  iexact HC

/-! ## The end -/

/-- The rounds' four slots make their buffer again. -/
theorem any_back (c : Dev nD) : (bigSep Finset.univ fun s => arPts c s (arAt m c)) ⊢ anyOf (F := F) arM.view c := by
  rw [← ars_eq]
  unfold anyOf
  iintro H
  iexists (arAt m c); iexact H

/-- After the rounds: what the device ends with. -/
theorem stage9 (c : Dev nD) : A4 m K c 4 iprop(emp) iprop(Rout m c 3 ∗ Rout m c 2 ∗ Rout m c 1 ∗ Rout m c 0 ∗ E8 m c)
    ⊢ iprop(own c 52 ∗ Closed c ∗ (both fun b => srcW m b c) ∗ Ins m c ∗ whole oM.view c (acc m 4 c) ∗ Scr c) := by
  unfold A4 E8 Closed Scr Rout
  rw [fin4_eq, fin4_eq]
  iintro ⟨-, Ho, HO, -, ⟨P3, Q3, R3⟩, ⟨P2, Q2, R2⟩, ⟨P1, Q1, R1⟩, ⟨P0, Q0, R0⟩, F3, F2, F1, Hf, HS, HI, HQ, HKV, HC⟩
  isplitl [Ho]; · iexact Ho
  isplitl [Hf F3 F2 F1 P0 P1 P2 P3 Q0 Q1 Q2 Q3]
  · isplitl [Hf]; · iexact Hf
    isplitl [F3]; · iexact F3
    isplitl [F2]; · iexact F2
    isplitl [F1]; · iexact F1
    isplitl [P0 P1 P2 P3]
    · isplitl [P0]; · iexact P0
      isplitl [P1]; · iexact P1
      isplitl [P2]; · iexact P2
      iexact P3
    isplitl [Q0]; · iexact Q0
    isplitl [Q1]; · iexact Q1
    isplitl [Q2]; · iexact Q2
    iexact Q3
  isplitl [HS]; · iexact HS
  isplitl [HI]; · iexact HI
  isplitl [HO]; · iapply (o_whole c _) $$ HO
  isplitl [HQ]; · iexact HQ
  isplitl [HKV]; · iexact HKV
  isplitl [HC]; · iexact HC
  iapply (any_back m c)
  iapply (Entails.of_eq (fin4_eq _).symm)
  isplitl [R0]; · iexact R0
  isplitl [R1]; · iexact R1
  isplitl [R2]; · iexact R2
  iexact R3

/-! ## The body -/

set_option maxRecDepth 65536 in
set_option maxHeartbeats 2000000 in
/-- The whole kernel on one device. -/
theorem body_wp (c : Dev nD) :
    iprop(Rec m K ∗ own c 0 ∗ Ghost c ∗ (both fun b => srcW m b c) ∗ Ins m c ∗ anyOf (F := F) oM.view c ∗ Scr c)
      ⊢ WP c (on (cc0_body (F := F))) fun _ => iprop(own c 52 ∗ Closed c ∗ (both fun b => srcW m b c) ∗ Ins m c ∗ whole oM.view c (acc m 4 c) ∗ Scr c) := by
  refine (stage0 m K c).trans ?_
  rw [cc0_body_eq_skeleton]; unfold on cc0_body_skel
  refine bind_step ?_
  rw [k0_part42_eq_skeleton]; unfold k0_part42_skel
  refine bind_step (part1_wp m K c ?_)
  refine bind_step (part2_wp m K c (R' := E0 m c) ?_ (stage1 m K c) ?_)
  · rw [Fam_all]
    iintro ⟨H1, H2, -, H⟩
    isplitl [H1]; · iexact H1
    isplitl [H2] <;> iassumption
  refine bind_step (part3_wp m K c ?_)
  refine bind_step (part4_wp m K c ?_)
  refine bind_step (part5_wp m K c ((stage2 m K c).trans ?_))
  refine bind_step (part6_wp m K c (stage3 m K c) ?_)
  refine bind_step (part7_wp m K c ?_)
  refine bind_step (part8_wp m K c (stage4 m K c) ?_)
  refine bind_step (part9_wp m K c (stage5 m K c) ?_)
  refine tilesA_wp m c (tilesB_wp m c (tilesC_wp m c (stage6 m K c) ?_))
  refine bind_step (part36_wp m K c (stage7 m K c) ?_)
  refine bind_step (part37_wp m K c ?_)
  refine bind_step (part38_wp m K c (stage8 m K c) ?_)
  refine bind_step (part39_wp m K c ?_)
  refine bind_step (part40_wp m K c _ _ fun _ => ?_)
  refine bind_step (part41_wp m K c _ fun _ => ?_)
  refine wait_sent m K c 3 (by rfl) (by rfl) ?_
  refine wait_got m K c 3 (by rfl) (by rfl) <| pure_step ?_
  refine ld_sum m K c 3 <| ld_got m K c 3 (by rfl) <| ld_sdead m K c 3 <| st_sum m K c 3 (by rfl) <| pure_step ?_
  exact stage9 m K c

end Cert.Attn

end
-- ==== Proof.Ghost.lean ====
/-
The launch's resources: the cells' invariants, the tokens dealt to the payers, the credits dealt to the waiters.
-/
module

public import proofs.«01_k».proof.Proof.Body

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## A device's cells, by kind -/

omit [FloatOps F] in
/-- Nothing beside a resource adds nothing. -/
theorem sep_emp' (P : sProp 𝕄) : iprop(P ∗ emp) = P := equiv_iff.mp sep_emp
omit [FloatOps F] in
/-- Nothing before a resource adds nothing. -/
theorem emp_sep' (P : sProp 𝕄) : iprop(emp ∗ P) = P := equiv_iff.mp emp_sep
omit [FloatOps F] in
/-- A pair of nothings is nothing. -/
theorem both_emp : (both fun _ => iprop(emp)) = (iprop(emp) : sProp 𝕄) := sep_emp' _

omit [FloatOps F] in
/-- Resources that entail each other are equal. -/
theorem sep_eq {P Q : sProp 𝕄} (h : P ⊢ Q) (h' : Q ⊢ P) : P = Q := equiv_iff.mp ⟨h, h'⟩
omit [FloatOps F] in
/-- Resources may be regrouped. -/
theorem sep_assoc' (P Q R : sProp 𝕄) : iprop((P ∗ Q) ∗ R) = iprop(P ∗ Q ∗ R) := by
  refine sep_eq ?_ ?_
  · iintro ⟨⟨H1, H2⟩, H3⟩
    isplitl [H1]; · iexact H1
    isplitl [H2] <;> iassumption
  · iintro ⟨H1, H2, H3⟩
    isplitr [H3]
    · isplitl [H1] <;> iassumption
    iexact H3
omit [FloatOps F] in
/-- Resources may be exchanged. -/
theorem sep_comm' (P Q : sProp 𝕄) : iprop(P ∗ Q) = iprop(Q ∗ P) := by
  refine sep_eq ?_ ?_
  · iintro ⟨H1, H2⟩; isplitl [H2] <;> iassumption
  · iintro ⟨H1, H2⟩; isplitl [H2] <;> iassumption
omit [FloatOps F] in
/-- A family of six resources is six families. -/
theorem split6 (A B C D E H : Dev nD → sProp 𝕄) : (bigSep Finset.univ fun c => iprop(A c ∗ B c ∗ C c ∗ D c ∗ E c ∗ H c))
    = iprop(bigSep Finset.univ A ∗ bigSep Finset.univ B ∗ bigSep Finset.univ C ∗ bigSep Finset.univ D ∗ bigSep Finset.univ E ∗ bigSep Finset.univ H) := by
  rw [bigSep_sep', bigSep_sep', bigSep_sep', bigSep_sep', bigSep_sep']

omit [FloatOps F] in
/-- A family over tensors and devices is, per device, a pair. -/
theorem bools_all (X : Bool × Dev nD → sProp 𝕄) : bigSep Finset.univ X = bigSep Finset.univ fun d => both fun b => X (b, d) := by
  rw [bigSep_univ_prod, all_both]; exact bool_eq _

omit [FloatOps F] in
/-- A family over a device's own counters, kind by kind. -/
theorem own_cells_eq (Φ : OwnK → sProp 𝕄) : bigSep Finset.univ Φ
    = iprop(((bigSep Finset.univ fun d => both fun b => Φ (.inl (.inl (b, d)))) ∗ bigSep Finset.univ fun d => both fun b => Φ (.inl (.inr (b, d))))
      ∗ (both fun b => Φ (.inr (.inl b))) ∗ (bigSep Finset.univ fun s => Φ (.inr (.inr (.inl s)))) ∗ bigSep Finset.univ fun s => Φ (.inr (.inr (.inr s)))) := by
  rw [bigSep_univ_sum, bigSep_univ_sum (fun x => Φ (.inl x)), bigSep_univ_sum (fun x => Φ (.inr x)), bigSep_univ_sum (fun x => Φ (.inr (.inr x))), bools_all, bools_all, bool_eq]
  rfl

omit [FloatOps F] in
/-- A family over a device's counters: the barrier's and its own. -/
theorem all_cells_eq (Φ : CK → sProp 𝕄) : bigSep Finset.univ Φ = iprop(Φ kbar ∗ bigSep Finset.univ fun k : OwnK => Φ (.inr k)) := by
  rw [bigSep_univ_sum, Finset.univ_unique, bigSep_singleton]; rfl

omit [FloatOps F] in
/-- A family over a device's cells, kind by kind. -/
theorem cells_eq (Φ : CK → sProp 𝕄) : bigSep Finset.univ Φ
    = iprop(Φ kbar ∗ (bigSep Finset.univ fun d => both fun b => Φ (ksnd b d)) ∗ (bigSep Finset.univ fun d => both fun b => Φ (krcv b d))
      ∗ (both fun b => Φ (klcl b)) ∗ (bigSep Finset.univ fun s => Φ (kasn s)) ∗ bigSep Finset.univ fun s => Φ (karc s)) := by
  rw [all_cells_eq, own_cells_eq]
  exact congrArg (fun X => iprop(Φ kbar ∗ X)) (sep_assoc' _ _ _)

/-! ## The tokens, dealt to their payers -/

/-- The tokens device `p` pays with. -/
def payToks (p : Dev nD) : sProp 𝕄 :=
  iprop(off p (fun d => tok (F := F) (d, kbar) p) ∗ (both fun b => tok (F := F) (p, klcl b) p)
    ∗ (off p fun d => both fun b => iprop(tok (F := F) (p, ksnd b d) p ∗ tok (F := F) (d, krcv b p) p))
    ∗ (bigSep Finset.univ fun s => tok (F := F) (p, kasn s) p) ∗ (bigSep Finset.univ fun s : Fin 4 => tok (F := F) (par s.val p, karc s) p))

/-- The token of a cell's duty that device `p` pays, if it pays one. -/
def tokIf (p : Dev nD) (ck : Dev nD × CK) : sProp 𝕄 := if p ∈ kduties ck then tok ck p else iprop(emp)

omit [FloatOps F] in
/-- The token of a duty the device has. -/
theorem tokIf_yes {p : Dev nD} {ck : Dev nD × CK} (h : p ∈ kduties ck) : tokIf (F := F) p ck = tok ck p := if_pos h
omit [FloatOps F] in
/-- Nothing for a duty it has not. -/
theorem tokIf_no {p : Dev nD} {ck : Dev nD × CK} (h : p ∉ kduties ck) : tokIf (F := F) p ck = iprop(emp) := if_neg h

omit [FloatOps F] in
/-- The barrier duties of a device: one at every other device. -/
theorem toks_bar (p : Dev nD) : (bigSep Finset.univ fun c => tokIf (F := F) p (c, kbar)) = off p fun d => tok (F := F) (d, kbar) p := by
  refine bigSep_congr fun c _ => ?_
  by_cases h : c = p
  · rw [if_pos h]; exact tokIf_no (fun e => (Finset.mem_erase.mp e).1 h.symm)
  · rw [if_neg h]; exact tokIf_yes (Finset.mem_erase.mpr ⟨fun e => h e.symm, Finset.mem_univ _⟩)

omit [FloatOps F] in
/-- The duties on the send counters of a device: its own, one per other device and tensor. -/
theorem toks_snd (p : Dev nD) : (bigSep Finset.univ fun c => bigSep Finset.univ fun d => both fun b => tokIf (F := F) p (c, ksnd b d))
    = off p fun d => both fun b => tok (F := F) (p, ksnd b d) p := by
  rw [← one_at p fun _ => off p fun d => both fun b => tok (F := F) (p, ksnd b d) p]
  refine bigSep_congr fun c _ => ?_
  by_cases h : c = p
  · subst h
    rw [if_pos rfl]
    refine bigSep_congr fun d _ => ?_
    by_cases hd : d = c
    · rw [if_pos hd, ← both_emp]
      exact congrArg both (funext fun b => tokIf_no (by show c ∉ (if d = c then ∅ else {c} : Finset (Dev nD)); rw [if_pos hd]; exact Finset.notMem_empty _))
    · rw [if_neg hd]
      exact congrArg both (funext fun b => tokIf_yes (by show c ∈ (if d = c then ∅ else {c} : Finset (Dev nD)); rw [if_neg hd]; exact Finset.mem_singleton_self _))
  · rw [if_neg h, ← emps (F := F) (Finset.univ : Finset (Dev nD))]
    refine bigSep_congr fun d _ => ?_
    rw [← both_emp]
    refine congrArg both (funext fun b => tokIf_no ?_)
    show p ∉ (if d = c then ∅ else {c} : Finset (Dev nD))
    split
    · exact Finset.notMem_empty _
    · exact fun e => h (Finset.mem_singleton.mp e).symm

omit [FloatOps F] in
/-- The duties on the receive counters: one at every other device, per tensor. -/
theorem toks_rcv (p : Dev nD) : (bigSep Finset.univ fun c => bigSep Finset.univ fun d => both fun b => tokIf (F := F) p (c, krcv b d))
    = off p fun d => both fun b => tok (F := F) (d, krcv b p) p := by
  refine bigSep_congr fun c _ => ?_
  rw [← one_at p fun _ => if c = p then iprop(emp) else both fun b => tok (F := F) (c, krcv b p) p]
  refine bigSep_congr fun d _ => ?_
  by_cases hd : d = p
  · subst hd
    rw [if_pos rfl]
    by_cases h : c = d
    · rw [if_pos h, ← both_emp]
      exact congrArg both (funext fun b => tokIf_no (by show d ∉ (if d = c then ∅ else {d} : Finset (Dev nD)); rw [if_pos h.symm]; exact Finset.notMem_empty _))
    · rw [if_neg h]
      exact congrArg both (funext fun b => tokIf_yes (by show d ∈ (if d = c then ∅ else {d} : Finset (Dev nD)); rw [if_neg fun e => h e.symm]; exact Finset.mem_singleton_self _))
  · rw [if_neg hd, ← both_emp]
    refine congrArg both (funext fun b => tokIf_no ?_)
    show p ∉ (if d = c then ∅ else {d} : Finset (Dev nD))
    split
    · exact Finset.notMem_empty _
    · exact fun e => hd (Finset.mem_singleton.mp e).symm

omit [FloatOps F] in
/-- The duties on the local copies' counters. -/
theorem toks_lcl (p : Dev nD) : (bigSep Finset.univ fun c => both fun b => tokIf (F := F) p (c, klcl b)) = both fun b => tok (F := F) (p, klcl b) p := by
  rw [← one_at p fun _ => both fun b => tok (F := F) (p, klcl b) p]
  refine bigSep_congr fun c _ => ?_
  by_cases h : c = p
  · subst h
    rw [if_pos rfl]
    exact congrArg both (funext fun b => tokIf_yes (Finset.mem_singleton_self _))
  · rw [if_neg h, ← both_emp]
    exact congrArg both (funext fun b => tokIf_no fun e => h (Finset.mem_singleton.mp e).symm)

omit [FloatOps F] in
/-- The duties on the rounds' send counters. -/
theorem toks_asn (p : Dev nD) : (bigSep Finset.univ fun c => bigSep Finset.univ fun s => tokIf (F := F) p (c, kasn s)) = bigSep Finset.univ fun s => tok (F := F) (p, kasn s) p := by
  rw [bigSep_univ_comm]
  refine bigSep_congr fun s _ => ?_
  rw [← one_at p fun _ => tok (F := F) (p, kasn s) p]
  refine bigSep_congr fun c _ => ?_
  by_cases h : c = p
  · subst h
    rw [if_pos rfl]; exact tokIf_yes (Finset.mem_singleton_self _)
  · rw [if_neg h]; exact tokIf_no fun e => h (Finset.mem_singleton.mp e).symm

omit [FloatOps F] in
/-- The duties on the rounds' receive counters: one at each round's partner. -/
theorem toks_arc (p : Dev nD) : (bigSep Finset.univ fun c => bigSep Finset.univ fun s => tokIf (F := F) p (c, karc s))
    = bigSep Finset.univ fun s : Fin 4 => tok (F := F) (par s.val p, karc s) p := by
  rw [bigSep_univ_comm]
  refine bigSep_congr fun s _ => ?_
  rw [← one_at (par s.val p) fun _ => tok (F := F) (par s.val p, karc s) p]
  refine bigSep_congr fun c _ => ?_
  by_cases h : c = par s.val p
  · subst h
    rw [if_pos rfl]; exact tokIf_yes (Finset.mem_singleton.mpr (par_par s p).symm)
  · rw [if_neg h]; exact tokIf_no fun e => h (by rw [Finset.mem_singleton.mp e]; exact (par_par s c).symm)

omit [FloatOps F] in
/-- All a device pays, over all cells. -/
theorem toks_of (p : Dev nD) : (bigSep Finset.univ fun ck => tokIf (F := F) p ck) = payToks p := by
  rw [bigSep_univ_prod, bigSep_congr (s := Finset.univ) fun c _ => cells_eq fun k => tokIf (F := F) p (c, k)]
  rw [split6, toks_bar, toks_snd, toks_rcv, toks_lcl, toks_asn, toks_arc]
  have hb : (off p fun d => both fun b => iprop(tok (F := F) (p, ksnd b d) p ∗ tok (F := F) (d, krcv b p) p))
      = iprop((off p fun d => both fun b => tok (F := F) (p, ksnd b d) p) ∗ off p fun d => both fun b => tok (F := F) (d, krcv b p) p) := by
    rw [← off_sep]; exact off_congr fun d _ => both_sep _ _
  unfold payToks
  rw [hb]
  refine sep_eq ?_ ?_
  · iintro ⟨H1, H2, H3, H4, H5, H6⟩
    isplitl [H1]; · iexact H1
    isplitl [H4]; · iexact H4
    isplitl [H2 H3]
    · isplitl [H2]; · iexact H2
      iexact H3
    isplitl [H5]; · iexact H5
    iexact H6
  · iintro ⟨H1, H4, ⟨H2, H3⟩, H5, H6⟩
    isplitl [H1]; · iexact H1
    isplitl [H2]; · iexact H2
    isplitl [H3]; · iexact H3
    isplitl [H4]; · iexact H4
    isplitl [H5]; · iexact H5
    iexact H6

def ringCells : Finset (GSem nD τ sig) := Finset.univ.map ⟨kcell, kcell_inj⟩
/-- Tokens at one place are one token. -/
theorem tokAt_inj : Function.Injective fun x : (Dev nD × CK) × Dev nD => ((kcell x.1, 0, x.2) : GSem nD τ sig × ℕ × Dev nD) := fun x y h =>
  Prod.ext (kcell_inj (congrArg Prod.fst h)) (congrArg (fun z : GSem nD τ sig × ℕ × Dev nD => z.2.2) h)
def ringToks : Finset (GSem nD τ sig × ℕ × Dev nD) := (Finset.univ.filter fun x : (Dev nD × CK) × Dev nD => x.2 ∈ kduties x.1).map ⟨_, tokAt_inj⟩

/-- What the launch deals device `c`: its cells' round states and positions, and the tokens it pays with. -/
def G (c : Dev nD) : sProp 𝕄 :=
  iprop((bigSep Finset.univ fun k : CK => roundState ER (sch m) (kcell (c, k)) 0)
    ∗ (bigSep Finset.univ fun k : CK => reached ER (kcell (c, k)) 0) ∗ (bigSep Finset.univ fun k : CK => at0 (F := F) (c, k)) ∗ payToks c)

/-- The initial ghost state funds every cell. -/
theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks
    rw [bigSep_map, bigSep_filter, bigSep_univ_prod, bigSep_univ_comm]
    exact bigSep_congr fun p _ => toks_of p
  iintro HX
  imod (Rounds.fund ER (sch m) ringCells ringToks) $$ HX with ⟨Hst, Hr, Hat, Htok⟩
  imodintro
  ihave Hst' := (Entails.of_eq (hX fun g => roundState ER (sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-! ## The invariants, allocated for all devices at once -/

omit [FloatOps F] in
/-- The counters outside the kernel at zero: the barrier's. -/
theorem unscopedSems0_eq (c : Dev nD) : (unscopedSems0 c : sProp 𝕄) = fin0 (c, kbar) := by
  unfold unscopedSems0; rw [bigSep_eq_bigSepL_of_eq [SemLoc.reg barS] (by decide +kernel) (by decide)]; rfl

omit [FloatOps F] in
/-- The kernel's own counters at zero, kind by kind. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : CK => fin0 (c, k) : sProp 𝕄) := by
  rw [unscopedSems0_eq, all_cells_eq]
  exact sep_comm' _ _

omit [FloatOps F] in
/-- The cells closed are the semaphores handed back. -/
theorem closed_eq (c : Dev nD) : (Closed c : sProp 𝕄)
    = iprop(Pipeline.ownSems0 (Ix := Unit) (Name := ℕ) (U := UU) (Lvl := ℕ) (Val := Elt F) (τ := τ) osem c ∗ unscopedSems0 c) := by
  rw [sems0_eq, cells_eq]; rfl

/-- The invariants and marks of all cells, under the names `K`. -/
def records (K : Dev nD × CK → ℕ) : sProp 𝕄 :=
  iprop((bigSep Finset.univ fun ck : Dev nD × CK => cellInv ER (sch m) (K ck) (kcell ck)) ∗ bigSep Finset.univ fun ck : Dev nD × CK => reached ER (kcell ck) 0)

instance records_persistent (K : Dev nD × CK → ℕ) : BI.Persistent (records (F := F) m K) := by unfold records; infer_instance

/-- What the global step leaves device `c`. -/
def G' (c : Dev nD) : sProp 𝕄 := iprop(∃ K, records m K ∗ (bigSep Finset.univ fun k : CK => at0 (F := F) (c, k)) ∗ payToks c)

/-- A device's zero counters become its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sch m) κ (kcell (c, k))))
          ∗ (bigSep Finset.univ fun k : CK => reached ER (kcell (c, k)) 0) ∗ (bigSep Finset.univ fun k : CK => at0 (F := F) (c, k)) ∗ payToks c) := by
  unfold G
  iintro ⟨Hos, Hus, Hst, Hr, Hat, Htok⟩
  ihave Hv := (Entails.of_eq (sems0_eq (F := F) c)) $$ [Hos Hus]
  · isplitl [Hos] <;> iassumption
  imod (show iprop((bigSep Finset.univ fun k : CK => fin0 (c, k)) ∗ bigSep Finset.univ fun k : CK => roundState ER (sch m) (kcell (c, k)) 0)
      ⊢ (|={Set.univ}=> bigSep Finset.univ fun k : CK => iprop(∃ κ : ℕ, cellInv ER (sch m) κ (kcell (c, k))) : sProp 𝕄) from by
        rw [← bigSep_sep']
        exact (bigSep_mono fun k _ => (Rounds.body_intro ER (sch m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The devices' cells and tokens, dealt out to the devices. -/
theorem regroup :
    (bigSep Finset.univ fun c : Dev nD => iprop((bigSep Finset.univ fun k : CK => iprop(∃ κ : ℕ, cellInv ER (sch m) κ (kcell (c, k))))
          ∗ (bigSep Finset.univ fun k : CK => reached ER (kcell (c, k)) 0) ∗ (bigSep Finset.univ fun k : CK => at0 (F := F) (c, k)) ∗ payToks c) : sProp 𝕄)
      ⊢ bigSep Finset.univ (G' (F := F) m) := by
  rw [bigSep_sep', bigSep_sep', ← bigSep_univ_prod (fun ck : Dev nD × CK => iprop(∃ κ : ℕ, cellInv ER (sch m) κ (kcell ck))),
    ← bigSep_univ_prod (fun ck : Dev nD × CK => (reached ER (kcell ck) 0 : sProp 𝕄))]
  iintro ⟨HI, #HR, Hl⟩
  ihave HK := (BI.bigSep_exists_pi Finset.univ (fun (ck : Dev nD × CK) (κ : ℕ) => (cellInv ER (sch m) κ (kcell ck) : sProp 𝕄))) $$ HI
  icases HK with ⟨%K, #HI⟩
  have h : iprop(records m K ∗ bigSep Finset.univ fun c : Dev nD => iprop((bigSep Finset.univ fun k : CK => at0 (F := F) (c, k)) ∗ payToks c))
      ⊢ bigSep Finset.univ (G' (F := F) m) := by
    refine (sep_mono_left (BI.bigSep_of_persistent (Finset.univ : Finset (Dev nD)) (records m K))).trans ?_
    rw [← bigSep_sep']
    refine bigSep_mono fun c _ => ?_
    show (_ : sProp 𝕄) ⊢ _
    unfold G'
    iintro H; iexists K; iexact H
  iapply h
  isplitr
  · unfold records; isplitl; · iexact HI
    iexact HR
  iexact Hl

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The credits -/

/-- What the launch owes a cell that one kind of payment goes to. -/
theorem owed_at (d : Dev nD) (ck : Dev nD × CK) (j : J) (hj : ∀ i, jcell d i = ck → i = j) (hk : (jon d j ∧ jcell d j = ck) ↔ d ∈ kduties ck) :
    O d 0 (kcell ck) () = if d ∈ kduties ck then kamt ck.2 else 0 := by
  unfold O
  rw [Finset.sum_apply, Finsupp.finset_sum_apply, Finset.sum_eq_single j]
  · unfold owj
    by_cases h : d ∈ kduties ck
    · obtain ⟨h1, h2⟩ := hk.mpr h
      rw [if_pos h1, tallyAt_apply, h2, if_pos ⟨rfl, rfl⟩, if_pos h]
    · rw [if_neg h]
      by_cases h1 : jon d j
      · rw [if_pos h1, tallyAt_apply, if_neg]
        exact fun e => h (hk.mp ⟨h1, (kcell_inj e.1).symm⟩)
      · rw [if_neg h1]; rfl
  · intro i _ hi
    unfold owj
    by_cases h1 : jon d i
    · rw [if_pos h1, tallyAt_apply, if_neg]
      exact fun e => hi (hj i (kcell_inj e.1).symm)
    · rw [if_neg h1]; rfl
  · intro h; exact absurd (by simp) h

/-- What `d` owes to the barrier of `c`. -/
theorem owed_bar (d c : Dev nD) : O d 0 (kcell (c, kbar)) () = if d ∈ kduties (c, kbar) then kamt kbar else 0 :=
  owed_at d (c, kbar) (.inl c) (fun i h => by
    rcases i with (e | (⟨e, b⟩ | s))
    · exact congrArg Sum.inl (congrArg Prod.fst h)
    · exact absurd (congrArg Prod.snd h) (fun h => by cases h)
    · exact absurd (congrArg Prod.snd h) (fun h => by cases h))
    ⟨fun h => Finset.mem_erase.mpr ⟨fun e => h.1 e.symm, Finset.mem_univ _⟩, fun h => ⟨fun e => (Finset.mem_erase.mp h).1 e.symm, rfl⟩⟩

/-- What `d` owes to a receive counter of `c`. -/
theorem owed_rcv (d c : Dev nD) (b : Bool) (e : Dev nD) : O d 0 (kcell (c, krcv b e)) () = if d ∈ kduties (c, krcv b e) then kamt (krcv b e) else 0 :=
  owed_at d (c, krcv b e) (.inr (.inl (c, b))) (fun i h => by
    rcases i with (f | (⟨f, b'⟩ | s))
    · exact absurd (congrArg Prod.snd h) (fun h => by cases h)
    · have h1 : f = c := congrArg Prod.fst h
      have h2 : (krcv b' d : CK) = krcv b e := congrArg Prod.snd h
      cases h2; rw [h1]
    · exact absurd (congrArg Prod.snd h) (fun h => by cases h))
    (by
      show (c ≠ d ∧ (c, krcv b d) = (c, krcv b e)) ↔ d ∈ (if e = c then ∅ else {e} : Finset (Dev nD))
      constructor
      · rintro ⟨h1, h2⟩
        have h3 : (krcv b d : CK) = krcv b e := congrArg Prod.snd h2
        cases h3
        rw [if_neg fun e => h1 e.symm]; exact Finset.mem_singleton_self _
      · intro h
        by_cases hc : e = c
        · rw [if_pos hc] at h; exact absurd h (Finset.notMem_empty _)
        · rw [if_neg hc] at h
          have h' := Finset.mem_singleton.mp h
          subst h'
          exact ⟨fun e => hc e.symm, rfl⟩)

/-- What `d` owes to a round's receive counter of `c`. -/
theorem owed_arc (d c : Dev nD) (s : Fin 4) : O d 0 (kcell (c, karc s)) () = if d ∈ kduties (c, karc s) then kamt (karc s) else 0 :=
  owed_at d (c, karc s) (.inr (.inr s)) (fun i h => by
    rcases i with (f | (⟨f, b'⟩ | s'))
    · exact absurd (congrArg Prod.snd h) (fun h => by cases h)
    · exact absurd (congrArg Prod.snd h) (fun h => by cases h)
    · have h2 : (karc s' : CK) = karc s := congrArg Prod.snd h
      cases h2; rfl)
    (by
      show (True ∧ (par s.val d, karc s) = (c, karc s)) ↔ d ∈ ({par s.val c} : Finset (Dev nD))
      constructor
      · rintro ⟨-, h⟩
        have h1 : par s.val d = c := congrArg Prod.fst h
        rw [← h1]; exact Finset.mem_singleton.mpr (par_par s d).symm
      · intro h
        rw [Finset.mem_singleton.mp h]; exact ⟨trivial, by rw [par_par s c]⟩)

/-- The debts of all devices to a cell are what the cell expects. -/
theorem launch_cell (ck : Dev nD × CK) (h : ∀ d, O d 0 (kcell ck) () = if d ∈ kduties ck then kamt ck.2 else 0) :
    tallyOn (kcell ck) (launchCredit (Pipeline.owing fun d => O d 0) 0 (kcell ck)) = (tallyAt (kcell ck) () ((kduties ck).card * kamt ck.2) : CellTallies nD τ sig Unit) := by
  unfold tallyAt; refine congrArg _ (Finsupp.ext fun u => ?_); cases u
  rw [Pipeline.launchCredit_owing, Finsupp.single_eq_same, Finset.sum_congr rfl fun d _ => h d, Finset.sum_ite_mem, Finset.univ_inter, Finset.sum_const, smul_eq_mul]

omit [FloatOps F] in
/-- The credits a device waits with. -/
theorem creds (c : Dev nD) : (Pipeline.launchCred (fun d => O d 0) c : sProp 𝕄)
    ⊢ iprop(crd (F := F) (c, kbar) ∗ (off c fun d => both fun b => crd (F := F) (c, krcv b d)) ∗ bigSep Finset.univ fun s => crd (F := F) (c, karc s)) := by
  have h1 : (Pipeline.launchCred (fun d => O d 0) c : sProp 𝕄)
      ⊢ bigSep Finset.univ fun k : CK => cred (tallyOn (kcell (c, k)) (launchCredit (Pipeline.owing fun d => O d 0) 0 (kcell (c, k)))) := by
    unfold Pipeline.launchCred
    refine (bigSep_subset (Finset.subset_univ ((Finset.univ : Finset CK).map ⟨csem, csem_inj⟩))).trans ?_
    rw [bigSep_map]
    exact BI.Entails.refl _
  have hr : (bigSep Finset.univ fun d => both fun b => crd (F := F) (c, krcv b d)) ⊢ off c fun d => both fun b => crd (F := F) (c, krcv b d) := by
    rw [off_at c]; iintro ⟨-, H⟩; iexact H
  refine h1.trans ?_
  rw [cells_eq]
  have eb : cred (tallyOn (kcell (c, kbar)) (launchCredit (Pipeline.owing fun d => O d 0) 0 (kcell (c, kbar)))) = crd (F := F) (c, kbar) :=
    congrArg cred (launch_cell (c, kbar) fun d => owed_bar d c)
  have er (d : Dev nD) (b : Bool) : cred (tallyOn (kcell (c, krcv b d)) (launchCredit (Pipeline.owing fun d => O d 0) 0 (kcell (c, krcv b d)))) = crd (F := F) (c, krcv b d) :=
    congrArg cred (launch_cell (c, krcv b d) fun e => owed_rcv e c b d)
  have ea (s : Fin 4) : cred (tallyOn (kcell (c, karc s)) (launchCredit (Pipeline.owing fun d => O d 0) 0 (kcell (c, karc s)))) = crd (F := F) (c, karc s) :=
    congrArg cred (launch_cell (c, karc s) fun d => owed_arc d c s)
  simp only [eb, er, ea]
  iintro ⟨H1, -, H2, -, -, H3⟩
  isplitl [H1]; · iexact H1
  isplitl [H2]; · iapply hr $$ H2
  iexact H3

/-- All a device's tokens, positions and credits. -/
theorem ghost_intro (c : Dev nD) :
    iprop((bigSep Finset.univ fun k : CK => at0 (F := F) (c, k)) ∗ payToks c ∗ crd (F := F) (c, kbar) ∗ (off c fun d => both fun b => crd (F := F) (c, krcv b d)) ∗ bigSep Finset.univ fun s => crd (F := F) (c, karc s))
      ⊢ Ghost (F := F) c := by
  have ha : (bigSep Finset.univ fun s => arT (F := F) c s) = iprop((bigSep Finset.univ fun s => tok (F := F) (c, kasn s) c) ∗ (bigSep Finset.univ fun s : Fin 4 => tok (F := F) (par s.val c, karc s) c)
      ∗ (bigSep Finset.univ fun s => at0 (F := F) (c, kasn s)) ∗ (bigSep Finset.univ fun s => crd (F := F) (c, karc s)) ∗ bigSep Finset.univ fun s => at0 (F := F) (c, karc s)) := by
    unfold arT; rw [bigSep_sep', bigSep_sep', bigSep_sep', bigSep_sep']
  unfold Ghost payToks
  rw [cells_eq, ha]
  iintro ⟨⟨A1, A4, A3, A2, A5, A6⟩, ⟨T1, T2, T3, T4, T5⟩, C1, C2, C3⟩
  isplitl [T1]; · iexact T1
  isplitl [C1]; · iexact C1
  isplitl [A1]; · iexact A1
  isplitl [T2]; · iexact T2
  isplitl [T3]; · iexact T3
  isplitl [T4 T5 A5 C3 A6]
  · isplitl [T4]; · iexact T4
    isplitl [T5]; · iexact T5
    isplitl [A5]; · iexact A5
    isplitl [C3]; · iexact C3
    iexact A6
  isplitl [A2]; · iexact A2
  isplitl [A3]; · iexact A3
  isplitl [C2]; · iexact C2
  iexact A4

end Cert.Attn

end
-- ==== Proof.Run.lean ====
/-
The run: every device's kernel launched together, the arrays it leaves, and every counter at zero.
-/
module

public import proofs.«01_k».proof.Proof.Ghost
public import Idealize.ShloMosaic.Lib.Pipeline.CollectiveSegs
public import Idealize.ShloMosaic.Lib.Quiescent
public import Idealize.ShloMosaic.Lib.Pipeline.ValueKit

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's data: one point, before and after it -/

/-- What a device holds before its kernel runs. -/
def start (c : Dev nD) : sProp 𝕄 := iprop((∃ K, Rec m K ∗ Ghost (F := F) c) ∗ both fun b => srcW m b c)

def Phi0 (c : Dev nD) : sProp 𝕄 := iprop(start m c ∗ Scr (F := F) c)
/-- What it holds after: its cells closed, the exchanged arguments as they were. -/
def Phi1 (c : Dev nD) : sProp 𝕄 := iprop(Closed (F := F) c ∗ (both fun b => srcW m b c) ∗ Scr (F := F) c)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wqAt m c
    | ⟨2, _⟩ => woAt m c
    | ⟨3, _⟩ => acc m 4 c
  Φ t := match t with
    | ⟨0, _⟩ => Phi0 m c
    | ⟨_ + 1, _⟩ => Phi1 m c
  q _ := fullShare
  owed t := match t with
    | ⟨0, _⟩ => O c 0
    | ⟨_ + 1, _⟩ => 0

/-- Every input is fetched at the one step. -/
theorem fetch_at (w : Fin 4) (hw : w ≠ 3) (t : Fin cfg0.N) : (cfg0.win w).fetch t = true := by
  rw [fin_N0 t]
  match w with
  | 0 => rfl
  | 1 => rfl
  | 2 => rfl
  | 3 => exact absurd rfl hw

omit [FloatOps F] in
/-- Owning a buffer with contents is owning its whole view with them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer, held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A staged buffer as a whole view. -/
theorem stg_whole (c : Dev nD) (b : Ref sig .tc) (X : b.ty.Contents (Elt F)) : stg c b X ⊢ whole (Memref.whole b).view c X := by
  unfold whole part
  iintro ⟨%f, %hf, H⟩
  iexists f
  isplitr
  · ipureintro; intro i _; exact congrFun ((View.read_whole b f).trans hf) i
  iexact H
omit [FloatOps F] in
/-- A whole view as a staged buffer. -/
theorem whole_stg (c : Dev nD) (b : Ref sig .tc) (X : b.ty.Contents (Elt F)) : whole (Memref.whole b).view c X ⊢ stg c b X := by
  unfold whole part
  iintro ⟨%f, %hf, H⟩
  iexists f
  isplitr
  · ipureintro; exact (View.read_whole b f).symm.trans (funext fun i => hf i trivial)
  iexact H

omit [FloatOps F] in
/-- A staged buffer has some contents. -/
theorem stg_any (c : Dev nD) (b : Ref sig .tc) (X : b.ty.Contents (Elt F)) : stg c b X ⊢ anyOf (F := F) (Memref.whole b).view c := by
  unfold anyOf
  iintro ⟨%f, -, H⟩
  iexists f; iexact H

def bodyPre (c : Dev nD) : sProp 𝕄 :=
  iprop(Phi0 m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Phi1 m c ∗ (dats m 0 c).owesAt () t0_0.succ ∗ stg c cc0_stg0_0 (xAt m c) ∗ stg c cc0_stg1_0 (wqAt m c) ∗ stg c cc0_stg2_0 (woAt m c) ∗ stg c cc0_stg3_0 (acc m 4 c))

/-- Before the body the first staged buffer holds the activations. -/
theorem before_0 (c : Dev nD) (d) : (dats m 0 c).before (0 : Fin 4) t0_0 d = xAt m c := by unfold Dat.before; rw [if_pos (fetch_at 0 (by decide) _)]; rfl
/-- Before the body the second holds the query weights. -/
theorem before_1 (c : Dev nD) (d) : (dats m 0 c).before (1 : Fin 4) t0_0 d = wqAt m c := by unfold Dat.before; rw [if_pos (fetch_at 1 (by decide) _)]; rfl
/-- Before the body the third holds the output weights. -/
theorem before_2 (c : Dev nD) (d) : (dats m 0 c).before (2 : Fin 4) t0_0 d = woAt m c := by unfold Dat.before; rw [if_pos (fetch_at 2 (by decide) _)]; rfl

/-- What the pipeline owes before the step is what the body starts with. -/
theorem owes_in (c : Dev nD) : (dats m 0 c).owesAt () t0_0.castSucc ⊢ own (F := F) c 0 := by
  unfold Dat.owesAt Pipeline.owesWithin own
  iintro ⟨%W, -, H⟩
  iexists W; iexact H
/-- What the body ends owing is what the pipeline owes after the step. -/
theorem owes_out (c : Dev nD) : own (F := F) c 52 ⊢ (dats m 0 c).owesAt () t0_0.succ := by
  unfold Dat.owesAt Pipeline.owesWithin own
  rw [O_end]
  iintro ⟨%W, H⟩
  iexists W
  isplitr; · ipureintro; exact fun _ _ => Or.inl trivial
  iexact H

/-- The pipeline's resources before the step are those the body takes. -/
theorem body_in (c : Dev nD) : bodyPre m c
    ⊢ iprop(∃ K, Rec m K ∗ own c 0 ∗ Ghost c ∗ (both fun b => srcW m b c) ∗ Ins m c ∗ anyOf (F := F) oM.view c ∗ Scr c) := by
  unfold bodyPre Phi0 start Ins
  simp only [before_0, before_1, before_2]
  iintro ⟨⟨⟨⟨%K, #HR, HG⟩, HS⟩, HC⟩, Ho, ⟨%d0, H0⟩, ⟨%d1, H1⟩, ⟨%d2, H2⟩, %d3, H3⟩
  iexists K
  isplitr; · iexact HR
  isplitl [Ho]; · iapply (owes_in m c) $$ Ho
  isplitl [HG]; · iexact HG
  isplitl [HS]; · iexact HS
  isplitl [H0 H1 H2]
  · isplitl [H0]; · iapply (stg_whole c cc0_stg0_0 (xAt m c)) $$ H0
    isplitl [H1]; · iapply (stg_whole c cc0_stg1_0 (wqAt m c)) $$ H1
    iapply (stg_whole c cc0_stg2_0 (woAt m c)) $$ H2
  isplitl [H3]; · iapply (stg_any c cc0_stg3_0 _) $$ H3
  iexact HC

/-- Those the body leaves are the pipeline's after the step. -/
theorem body_out (c : Dev nD) : iprop(own c 52 ∗ Closed c ∗ (both fun b => srcW m b c) ∗ Ins m c ∗ whole oM.view c (acc m 4 c) ∗ Scr c) ⊢ bodyPost m c := by
  unfold bodyPost Phi1 Ins
  iintro ⟨Ho, HF, HS, ⟨H0, H1, H2⟩, H3, HC⟩
  isplitl [HF HS HC]
  · isplitl [HF]; · iexact HF
    isplitl [HS] <;> iassumption
  isplitl [Ho]; · iapply (owes_out m c) $$ Ho
  isplitl [H0]; · iapply (whole_stg c cc0_stg0_0 (xAt m c)) $$ H0
  isplitl [H1]; · iapply (whole_stg c cc0_stg1_0 (wqAt m c)) $$ H1
  isplitl [H2]; · iapply (whole_stg c cc0_stg2_0 (woAt m c)) $$ H2
  iapply (whole_stg c cc0_stg3_0 (acc m 4 c)) $$ H3

/-- The body runs from the one to the other. -/
theorem body_step (c : Dev nD) : bodyPre m c ⊢ WP c (on (cc0_body (F := F))) fun _ => bodyPost m c := by
  refine (body_in m c).trans ?_
  iintro ⟨%K, H⟩
  iapply ((body_wp m K c).trans (Idealize.SL.Sem.wp_mono _ _ _ (fun _ => body_out m c))) $$ H

set_option maxRecDepth 4000 in
/-- The library's body obligation on device `c`. -/
theorem body_obligation (c : Dev nD) : BodyObligation (dats (F := F) m 0 c) (defs₀ (F := F)) Variants.none () Set.univ := fun t => by
  rw [fin_N0 t]
  rw [bigSep_W0, bigSep_W0]
  simp only [owns_whole_eq]
  exact body_step m c

/-! ## The launch -/

/-- The kernel's own semaphores are distinct and not the pipeline's. -/
theorem ownSemFacts : Pipeline.OwnSemFacts cfg0.spec osem where
  isScoped k := by
    rcases k with ((⟨b, d⟩ | ⟨b, d⟩) | (b | (s | s)))
    · revert b d; decide +kernel
    · revert b d; decide +kernel
    · revert b; decide +kernel
    · revert s; decide +kernel
    · revert s; decide +kernel
  inj := osem_inj
  disj k w s h := by
    have h1 : odma k = (cfg0.spec w).sem s := by unfold osem at h; injection h
    have h2 : ((cfg0.spec w).sem s).val < 4 := by clear h1 h; revert w s; decide +kernel
    have h3 : (odma k).val = onum k := rfl
    have := onum_ge k
    rw [← h1, h3] at h2
    omega

/-- Every window is held in full. -/
theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf ringCells ringToks)

/-- The launch's resources for a device are those of its start. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  rw [Pipeline.unscopedRestP_none]
  rw [show Pipeline.unscopedRest cfg0.spec c (fun b => m ((c : Thread nD τ).loc b))
    = iprop((((c : Thread nD τ).loc main_arg2) ↦{fullShare} m ((c : Thread nD τ).loc main_arg2)) ∗ (((c : Thread nD τ).loc main_arg3) ↦{fullShare} m ((c : Thread nD τ).loc main_arg3)))
    from unscopedRest0_eq c _]
  unfold G' start records
  iintro ⟨⟨H2, H3⟩, #Hlev, Hcr, -, %K, ⟨#HI, #HR⟩, Hat, Htok⟩
  ihave Hc := (creds (F := F) c) $$ Hcr
  icases Hc with ⟨C1, C2, C3⟩
  imodintro
  isplitl
  · isplitr [H2 H3]
    · iexists K
      isplitr
      · unfold Rec
        isplitr; · iexact HI
        isplitr; · iexact HR
        iexact Hlev
      iapply (ghost_intro (F := F) c)
      isplitl [Hat]; · iexact Hat
      isplitl [Htok]; · iexact Htok
      isplitl [C1]; · iexact C1
      isplitl [C2] <;> iassumption
    · isplitl [H2]
      · unfold srcW; iexact H2
      · unfold srcW; iexact H3
  · iempintro

omit [FloatOps F] in
/-- The kernel's scratch, buffer by buffer. -/
theorem scr_eq (c : Dev nD) : (Pipeline.scopedRest cfg0.spec c : sProp 𝕄) ⊢ Scr (F := F) c := by
  rw [show (Pipeline.scopedRest cfg0.spec c : sProp 𝕄) = _ from scopedRest0_eq c]
  unfold Scr anyOf
  iintro ⟨H0, H1, H2, H3, H4⟩
  isplitl [H0]; · iexact H0
  isplitl [H1 H2]
  · isplitl [H1]; · iexact H1
    iexact H2
  isplitl [H3]; · iexact H3
  iexact H4
omit [FloatOps F] in
/-- The same, back. -/
theorem scr_eq' (c : Dev nD) : Scr (F := F) c ⊢ (Pipeline.scopedRest cfg0.spec c : sProp 𝕄) := by
  rw [show (Pipeline.scopedRest cfg0.spec c : sProp 𝕄) = _ from scopedRest0_eq c]
  unfold Scr anyOf
  iintro ⟨H0, ⟨H1, H2⟩, H3, H4⟩
  isplitl [H0]; · iexact H0
  isplitl [H1]; · iexact H1
  isplitl [H2]; · iexact H2
  isplitl [H3]; · iexact H3
  iexact H4

/-- The resources at the start of the region. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Phi0 m c from rfl]
  unfold Phi0
  iintro ⟨Hs, -, Hr⟩
  isplitl [Hs]; · iexact Hs
  iapply (scr_eq (F := F) c) $$ Hr

/-- What the kernel leaves outside its own region: its barrier counter at zero and the exchanged arguments. -/
def exitY (c : Dev nD) : sProp 𝕄 := iprop(unscopedSems0 c ∗ both fun b => srcW m b c)

/-- The resources at its end. -/
theorem phi1_exit (c : Dev nD) :
    (dats m 0 c).Φ (Fin.last cfg0.N) ⊢ iprop(exitY m c ∗ Pipeline.ownSems0 osem c ∗ Pipeline.scopedRest cfg0.spec c) := by
  rw [show (dats m 0 c).Φ (Fin.last cfg0.N) = Phi1 m c from rfl]
  unfold Phi1 exitY
  rw [closed_eq]
  iintro ⟨⟨Ho, Hu⟩, HS, Hr⟩
  isplitl [Hu HS]
  · isplitl [Hu] <;> iassumption
  isplitl [Ho]; · iexact Ho
  iapply (scr_eq' (F := F) c) $$ Hr

/-- The pipeline's own counters lie at the lowest level. -/
theorem lv_stage (c : Dev nD) (w : Fin cfg0.W) (s) : lv ((c : Thread nD τ), .dma ((cfg0.spec w).sem s)) () = 0 := by
  unfold lv
  cases h : kinv ((c : Thread nD τ), .dma ((cfg0.spec w).sem s)) with
  | none => rfl
  | some ck =>
    exfalso
    obtain ⟨c', k⟩ := ck
    have h1 : csem k = .dma ((cfg0.spec w).sem s) := congrArg Prod.snd (kinv_some h)
    rcases k with (_ | k)
    · unfold csem at h1; cases h1
    · exact ownSemFacts.disj k w s h1

/-- So the pipeline may wait on them. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 (by rw [lv_stage]; exact Nat.zero_le _)
    · have h := mayWait (F := F) c (.dma ((cfg0.spec w).sem s)) 52 (by rw [lv_stage]; exact Nat.zero_le _)
      rw [O_end] at h
      exact h

/-! ## The run -/

/-- What the arrays of device `c` hold at the end. -/
def finalA (c : Dev nD) (w : Fin cfg0.W) : Buf (Elt F) ((cfg0.win w).arr.view.loc (c : Thread nD τ)) := (dats m 0 c).arrAt w cfg0.N

/-- Each device's arrays at the end: the windows' as computed, the exchanged arguments as launched. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2)
    ∧ r.2.mem ((c : Thread nD τ).loc main_arg3) = m ((c : Thread nD τ).loc main_arg3)

/-- What a device's source array holds is read off the memory. -/
theorem read_src (b : Bool) (c : Dev nD) (s' : Phys nD τ sig (Elt F)) :
    iprop(SI s' ∗ srcW m b c) ⊢ (⌜s'.mem.mem ((srcM b).view.loc (c : Thread nD τ)) = kvBuf m b c⌝ : sProp 𝕄) := by
  unfold srcW
  refine SI_pointsTo_agree.trans (Laws.pure_mono fun h => funext fun i => h i (Finset.mem_univ i))

/-- What a device ends with is read off the memory. -/
theorem read_exit (c : Dev nD) (s' : Phys nD τ sig (Elt F)) : iprop(exitY m c ∗ emp ∗ SI s')
    ⊢ |={Set.univ}=> iprop(⌜(∀ sm : SemLoc sig, sm.isScoped .tc = false → s'.mem.sem ((c.tc : Thread nD τ), sm) = 0)
        ∧ s'.mem.mem ((c : Thread nD τ).loc main_arg2) = m ((c : Thread nD τ).loc main_arg2)
        ∧ s'.mem.mem ((c : Thread nD τ).loc main_arg3) = m ((c : Thread nD τ).loc main_arg3)⌝ ∗ SI s') := by
  unfold exitY
  iintro ⟨⟨Hu, H2, H3⟩, -, HSI⟩
  ihave %h2 := (read_src m false c s') $$ [HSI H2]
  · isplitl [HSI] <;> iassumption
  ihave %h3 := (read_src m true c s') $$ [HSI H3]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro; exact ⟨h, h2, h3⟩
  iexact HSI

set_option maxRecDepth 8000 in
/-- For any float values, from any memory with zero counters: every weakly fair run of the sixteen kernels ends, with each
    device's arrays as computed, the exchanged arguments as launched and every semaphore counter at zero. -/
theorem run_main (ρ : Dev nD → PrngReg) : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := fun d => O d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := exitY m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => read_exit m c s')
    (hQ := fun _ h hs => ⟨fun c => ⟨(h c).1, (h c).2.2.2⟩, sem_eq_zero hs fun c => (h c).2.2.1⟩)

/-! ## The arrays at the end -/

/-- The activations are unchanged. -/
theorem final_x (c : Dev nD) : finalA m c (0 : Fin 4) = m ((c : Thread nD τ).loc main_arg0) := (dats (F := F) m 0 c).arrAt_in (0 : Fin 4) rfl _
/-- The query weights are unchanged. -/
theorem final_wq (c : Dev nD) : finalA m c (1 : Fin 4) = m ((c : Thread nD τ).loc main_arg1) := (dats (F := F) m 0 c).arrAt_in (1 : Fin 4) rfl _
/-- The output weights are unchanged. -/
theorem final_wo (c : Dev nD) : finalA m c (2 : Fin 4) = m ((c : Thread nD τ).loc main_arg4) := (dats (F := F) m 0 c).arrAt_in (2 : Fin 4) rfl _

/-- The result array ends as the sum over the sixteen devices, in the order of the exchange's rounds. -/
theorem final_out (c : Dev nD) : finalA m c (3 : Fin 4) = acc m 4 c := by
  unfold finalA
  refine (dats m 0 c).arrAt_eq_of_after_last (3 : Fin 4) t0_0 (by decide +kernel) _ fun j => ?_
  blk_simp
  rfl

/-- One device's arguments at the end of a run are what they were at its start. -/
theorem args_end {r : PUnit × MemSt nD τ sig (Elt F)} (h : QC m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).1 (0 : Fin 4)).trans (final_x m c), ((h c).1 (1 : Fin 4)).trans (final_wq m c), (h c).2.1, (h c).2.2,
    ((h c).1 (2 : Fin 4)).trans (final_wo m c)⟩

/-- One device's result at the end of a run. -/
theorem out_end {r : PUnit × MemSt nD τ sig (Elt F)} (h : QC m r) (c : Dev nD) :
    r.2.mem ((c : Thread nD τ).loc main_v1) = acc m 4 c :=
  ((h c).1 (3 : Fin 4)).trans (final_out m c)

end Cert.Attn

end
-- ==== Proof.Frames.lean ====
/-
The frames: each program ends, its arguments unchanged and every counter at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Claim

@[expose] public section

noncomputable section

namespace Cert.Attn

open Idealize.ShloMosaic Idealize.SL.Sem

/-- For any float values the kernel ends with its arguments unchanged and every counter at zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => args_end m h.1 c, h.2⟩) (run_main m ρ)

/-- The two prints of the kernel have one body table: read at the one label there is, it is the same body. -/
theorem defs₀_eq : Cert.KernelIdeal.defs₀ (F := Bits) = Cert.Kernel.defs₀ (F := Bits) := by
  refine congrArg (Defs.onTc (nD := Cert.KernelIdeal.nD) (τ := Cert.KernelIdeal.τ) (Λ := Cert.KernelIdeal.Λ₀)) (funext fun k => ?_)
  match k with
  | ⟨0, _⟩ => rfl
  | ⟨n + 1, h⟩ => exact absurd h (by omega)

/-- So they have one table with the pipeline's label added. -/
theorem defs_eq : Cert.KernelIdeal.defs (F := Bits) = Cert.Kernel.defs (F := Bits) :=
  congrArg (Pipeline.defs (Cert.KernelIdeal.pcfgs (F := Bits))) defs₀_eq

/-- A run at one body table is a run at an equal one. -/
theorem run_of_eq {Λ : Labels} {d d' : Defs Cert.KernelIdeal.nD Cert.KernelIdeal.τ Cert.KernelIdeal.sig (Elt Bits) Λ} (e : d = d')
    {p : (t : Thread Cert.KernelIdeal.nD Cert.KernelIdeal.τ) → Prog (TpuEff Cert.KernelIdeal.nD Cert.KernelIdeal.τ Cert.KernelIdeal.sig (Elt Bits) Λ t.2) PUnit} {s Q}
    (h : θ_run d p s Q) : θ_run d' p s Q := e ▸ h

/-- The kernel, on words, ends with its arguments unchanged and every counter at zero. -/
theorem frame_kernel : Cert.quiescent_Kernel := fun m ρ _ => run_of_eq defs_eq (frame_run (F := Bits) m ρ)

/-- The kernel over the extended reals, likewise. -/
theorem frame_ideal : Cert.quiescent_KernelIdeal := fun m ρ _ => frame_run (F := Ideal) m ρ

/-- The reference over the extended reals, likewise: it waits on nothing, so its counters stay as they were. -/
theorem frame_reference : Cert.quiescent_ReferenceIdeal := fun m ρ _ => by
  exact (θ_run Cert.ReferenceIdeal.defs _ _).mono (fun r h => ⟨fun c => (h c).2, sem_eq_zero_of_no_sems (by decide) r.2⟩)
    (Cert.ReferenceIdeal.Value.run m ρ)

end Cert.Attn

end
-- ==== Proof.Local.lean ====
/-
What a device computes by itself, over the extended reals, at an index.
-/
module

public import proofs.«01_k».proof.Proof.Contents
public import Idealize.ShloMosaic.Lib.Pointwise
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe

/-! ## The payloads at an index -/

/-- The score the tile's payload forms: query `i`, key `r` of the 1024. -/
def paySc (q : FVec Ideal S1x64x64 .f32) (k : FVec Ideal S16x1x64x1x64 .f32) (i : Fin 64) (r : Fin 1024) : EReal :=
  (∑ d : Fin 64, q (ix3 0 i d) * k (ix5 ⟨r.val / 64, by omega⟩ 0 ⟨r.val % 64, by omega⟩ 0 d)) * Ideal.ofBits .f32 0x3E000000#32

/-- The word a maximum starts from is `-∞`. -/
theorem pay_bot : Ideal.ofBits .f32 0xFF800000#32 = ⊥ := by simp [Ideal.ofBits, Ideal.ieee]

/-- The tile's payload at an index: the softmax of the scores weighs the values. -/
theorem pay12_at (q : FVec Ideal S1x64x64 .f32) (k v : FVec Ideal S16x1x64x1x64 .f32) (i d : Fin 64) :
    k0_pay12 (F := Ideal) q k v (ix4 0 i 0 d)
      = ∑ r : Fin 1024, Ideal.div (Ideal.exp (paySc q k i r - (Finset.univ : Finset (Fin 1024)).fold max ⊥ (fun r => paySc q k i r)))
          (∑ r' : Fin 1024, Ideal.exp (paySc q k i r' - (Finset.univ : Finset (Fin 1024)).fold max ⊥ (fun r => paySc q k i r)))
          * v (ix5 ⟨r.val / 64, by omega⟩ 0 ⟨r.val % 64, by omega⟩ 0 d) := by
  unfold paySc
  pointwise [k0_pay12]
  simp only [pay_bot]

/-- The query product's payload at an index. -/
theorem pay2_at (x : FVec Ideal S1x256x512 .f32) (w : FVec Ideal S512x256 .f32) (i n : Fin 256) :
    k0_pay2 x w (ix3 0 i n) = ∑ e : Fin 512, x (ix3 0 i e) * w (ix2 e n) := by
  pointwise [k0_pay2]

/-- The output product's payloads at an index: four heads' products, one after another. -/
theorem pay69_at (a0 a1 a2 a3 : FVec Ideal S1x256x1x64 .f32) (w0 w1 w2 w3 : FVec Ideal S64x512 .f32) (i : Fin 256) (n : Fin 512) :
    k0_pay69 (k0_pay68 a0 w0) a1 w1 a2 w2 a3 w3 (ix3 0 i n)
      = (∑ d : Fin 64, a0 (ix4 0 i 0 d) * w0 (ix2 d n)) + (∑ d : Fin 64, a1 (ix4 0 i 0 d) * w1 (ix2 d n))
        + (∑ d : Fin 64, a2 (ix4 0 i 0 d) * w2 (ix2 d n)) + (∑ d : Fin 64, a3 (ix4 0 i 0 d) * w3 (ix2 d n)) := by
  pointwise [k0_pay68, k0_pay69]

/-- The rounds' sum at an index. -/
theorem addP_at (x y : S2x256x512.Idx → Ideal .f32) (b : Fin 2) (i : Fin 256) (n : Fin 512) :
    addP x y (ix3 b i n) = x (ix3 b i n) + y (ix3 b i n) := by
  unfold addP
  pointwise [k0_pay1]
  exact congrArg (fun z : EReal => x (ix3 b i n) + z) (congrArg y (funext fun a => by fin_cases a <;> rfl))

/-! ## The buffers at an index -/

variable (m : (ℓ : Loc nD τ sig) → Buf (Elt Ideal) ℓ) (c : Dev nD)

/-- A device's arguments, as arrays. -/
abbrev aX : FVec Ideal S2x256x512 .f32 := m ((c : Thread nD τ).loc main_arg0)
abbrev aWq : FVec Ideal S512x256 .f32 := m ((c : Thread nD τ).loc main_arg1)
abbrev aWo : FVec Ideal S256x512 .f32 := m ((c : Thread nD τ).loc main_arg4)

/-- The pieces the body loads. -/
abbrev lX (b : Fin 2) : Vec Ideal S1x256x512 .f32 := View.ld (xAt m c) (rX b)
abbrev lWq : Vec Ideal S512x256 .f32 := View.ld (wqAt m c) rWq
abbrev lQ (b : Fin 2) (g h : Fin 4) : Vec Ideal S1x64x64 .f32 := View.ld (qAt m c) (rQt b g h)
abbrev lKV (t : Bool) (b : Fin 2) (g h : Fin 4) : Vec Ideal S16x1x64x1x64 .f32 := View.ld (allAt m t c) (rKt b g h)
abbrev lC (b : Fin 2) (h : Fin 4) : Vec Ideal S1x256x1x64 .f32 := View.ld (ctxAt m c) (rCh b h)
abbrev lWo (h : Fin 4) : Vec Ideal S64x512 .f32 := View.ld (woAt m c) (rWo h)

/-- Head `4 c + h` of the sixty-four. -/
abbrev hd (c : Dev nD) (h : Fin 4) : Fin 64 := ⟨4 * c.val + h.val, by have : c.val < 16 := c.isLt; omega⟩

/-- The staged activations are the argument. -/
theorem xAt_eq : xAt m c = aX m c := by
  funext i
  refine congrArg (aX m c) (funext fun a => Fin.ext ?_)
  blk_simp
  have h : win0_0.index (0 : Fin 1) a = 0 := by fin_cases a <;> rfl
  rw [h, Nat.zero_mul, Nat.zero_add]

/-- The staged query weights are the argument. -/
theorem wqAt_eq : wqAt m c = aWq m c := by
  funext i
  refine congrArg (aWq m c) (funext fun a => Fin.ext ?_)
  blk_simp
  have h : win0_1.index (0 : Fin 1) a = 0 := by fin_cases a <;> rfl
  rw [h, Nat.zero_mul, Nat.zero_add]

/-- The staged output weights are the argument. -/
theorem woAt_eq : woAt m c = aWo m c := by
  funext i
  refine congrArg (aWo m c) (funext fun a => Fin.ext ?_)
  blk_simp
  have h : win0_2.index (0 : Fin 1) a = 0 := by fin_cases a <;> rfl
  rw [h, Nat.zero_mul, Nat.zero_add]

/-- The loaded activations at an index. -/
theorem lX_at (b : Fin 2) (i : Fin 256) (e : Fin 512) : lX m c b (ix3 0 i e) = aX m c (ix3 b i e) := by
  unfold lX
  rw [xAt_eq]
  refine congrArg (aX m c) ?_
  funext a; fin_cases a <;> exact Fin.ext (by simp [ix3])

/-- The loaded query weights at an index. -/
theorem lWq_at (e : Fin 512) (n : Fin 256) : lWq m c (ix2 e n) = aWq m c (ix2 e n) := by
  unfold lWq
  rw [wqAt_eq]
  refine congrArg (aWq m c) ?_
  funext a; fin_cases a <;> exact Fin.ext (by simp [ix2])

/-- The query buffer at an index. -/
theorem qAt_at (b : Fin 2) (i n : Fin 256) :
    qAt m c (ix3 b i n) = ∑ e : Fin 512, aX m c (ix3 b i e) * aWq m c (ix2 e n) := by
  have h : (fun | 0 => (0 : Fin 1) | 1 => i | 2 => n : S1x256x256.Idx) = ix3 0 i n := by
    funext a; fin_cases a <;> rfl
  refine (congrArg (qRow m c b) h).trans ((pay2_at (lX m c b) (lWq m c) i n).trans ?_)
  exact Finset.sum_congr rfl fun e _ => congrArg₂ (fun x y : EReal => x * y) (lX_at m c b i e) (lWq_at m c e n)

/-- The gathered buffers at an index. -/
theorem allAt_at (t : Bool) (j : Fin 16) (b : Fin 2) (p : Fin 256) (h : Fin 4) (d : Fin 64) :
    allAt m t c (ix5 j b p h d) = kv m t j (ix4 b p (hd c h) d) := by
  refine congrArg (kv m t j) ?_
  funext a; fin_cases a <;> rfl

/-- A loaded query tile at an index. -/
theorem lQ_at (b : Fin 2) (g h : Fin 4) (i d : Fin 64) :
    lQ m c b g h (ix3 0 i d) = qAt m c (ix3 b ⟨64 * g.val + i.val, by omega⟩ ⟨64 * h.val + d.val, by omega⟩) := by
  refine congrArg (qAt m c) ?_
  funext a; fin_cases a <;> exact Fin.ext (by simp [ix3])

/-- A loaded key or value tile at an index, its rows numbered over device and position. -/
theorem lKV_at (t : Bool) (b : Fin 2) (g h : Fin 4) (r : Fin 1024) (d : Fin 64) :
    lKV m c t b g h (ix5 ⟨r.val / 64, by omega⟩ 0 ⟨r.val % 64, by omega⟩ 0 d)
      = kv m t ⟨r.val / 64, by show _ < 16; omega⟩ (ix4 b ⟨64 * g.val + r.val % 64, by omega⟩ (hd c h) d) := by
  refine (congrArg (allAt m t c) ?_).trans (allAt_at m c t ⟨r.val / 64, by omega⟩ b ⟨64 * g.val + r.val % 64, by omega⟩ h d)
  funext a; fin_cases a <;> exact Fin.ext (by simp [ix5])

/-- A tile's score: query `i` of block `g`, local head `h`, key `r` of the 1024 gathered. -/
def lsc (b : Fin 2) (g h : Fin 4) (i : Fin 64) (r : Fin 1024) : EReal :=
  (∑ d : Fin 64, qAt m c (ix3 b ⟨64 * g.val + i.val, by omega⟩ ⟨64 * h.val + d.val, by omega⟩)
      * kv m false ⟨r.val / 64, by show _ < 16; omega⟩ (ix4 b ⟨64 * g.val + r.val % 64, by omega⟩ (hd c h) d))
    * Ideal.ofBits .f32 0x3E000000#32

/-- A tile's scores, from the loaded pieces, are the scores of the device's arrays. -/
theorem paySc_tile (b : Fin 2) (g h : Fin 4) (i : Fin 64) (r : Fin 1024) :
    paySc (lQ m c b g h) (lKV m c false b g h) i r = lsc m c b g h i r :=
  congrArg (fun x : EReal => x * Ideal.ofBits .f32 0x3E000000#32)
    (Finset.sum_congr rfl fun d _ => congrArg₂ (fun x y : EReal => x * y) (lQ_at m c b g h i d) (lKV_at m c false b g h r d))

/-- The context buffer at an index: the softmax of the tile's scores weighs the gathered values. -/
theorem ctxAt_at (b : Fin 2) (p : Fin 256) (h : Fin 4) (d : Fin 64) :
    ctxAt m c (ix4 b p h d)
      = ∑ r : Fin 1024, Ideal.div
          (Ideal.exp (lsc m c b ⟨p.val / 64, by omega⟩ h ⟨p.val % 64, by omega⟩ r
            - (Finset.univ : Finset (Fin 1024)).fold max ⊥ (fun r => lsc m c b ⟨p.val / 64, by omega⟩ h ⟨p.val % 64, by omega⟩ r)))
          (∑ r' : Fin 1024, Ideal.exp (lsc m c b ⟨p.val / 64, by omega⟩ h ⟨p.val % 64, by omega⟩ r'
            - (Finset.univ : Finset (Fin 1024)).fold max ⊥ (fun r => lsc m c b ⟨p.val / 64, by omega⟩ h ⟨p.val % 64, by omega⟩ r)))
          * kv m true ⟨r.val / 64, by show _ < 16; omega⟩ (ix4 b ⟨64 * (p.val / 64) + r.val % 64, by omega⟩ (hd c h) d) := by
  have e : (fun | 0 => (0 : Fin 1) | 1 => (⟨p.val % 64, Nat.mod_lt _ (by decide)⟩ : Fin 64) | 2 => (0 : Fin 1) | 3 => d : S1x64x1x64.Idx)
      = ix4 0 ⟨p.val % 64, by omega⟩ 0 d := by
    funext a; fin_cases a <;> rfl
  refine (congrArg (tile m c b ⟨p.val / 64, by omega⟩ h) e).trans ((pay12_at (lQ m c b ⟨p.val / 64, by omega⟩ h)
    (lKV m c false b ⟨p.val / 64, by omega⟩ h) (lKV m c true b ⟨p.val / 64, by omega⟩ h) ⟨p.val % 64, by omega⟩ d).trans ?_)
  simp only [paySc_tile]
  exact Finset.sum_congr rfl fun r _ => congrArg (fun y : EReal => _ * y) (lKV_at m c true b ⟨p.val / 64, by omega⟩ h r d)

/-- A loaded head of the context at an index. -/
theorem lC_at (b : Fin 2) (h : Fin 4) (i : Fin 256) (d : Fin 64) : lC m c b h (ix4 0 i 0 d) = ctxAt m c (ix4 b i h d) := by
  refine congrArg (ctxAt m c) ?_
  funext a; fin_cases a <;> exact Fin.ext (by simp [ix4])

/-- A loaded head of the output weights at an index. -/
theorem lWo_at (h : Fin 4) (d : Fin 64) (n : Fin 512) :
    lWo m c h (ix2 d n) = aWo m c (ix2 ⟨64 * h.val + d.val, by omega⟩ n) := by
  unfold lWo
  rw [woAt_eq]
  refine congrArg (aWo m c) ?_
  funext a; fin_cases a <;> exact Fin.ext (by simp [ix2])

/-- One head's share of the local product at an index. -/
def headAt (b : Fin 2) (i : Fin 256) (n : Fin 512) (h : Fin 4) : EReal :=
  ∑ d : Fin 64, ctxAt m c (ix4 b i h d) * aWo m c (ix2 ⟨64 * h.val + d.val, by omega⟩ n)

/-- One head's product, from the loaded pieces, is that of the device's arrays. -/
theorem head_at (b : Fin 2) (i : Fin 256) (n : Fin 512) (h : Fin 4) :
    (∑ d : Fin 64, (lC m c b h : FVec Ideal S1x256x1x64 .f32) (ix4 0 i 0 d) * (lWo m c h : FVec Ideal S64x512 .f32) (ix2 d n))
      = headAt m c b i n h :=
  Finset.sum_congr rfl fun d _ => congrArg₂ (fun x y : EReal => x * y) (lC_at m c b h i d) (lWo_at m c h d n)

/-- The local product at an index. -/
theorem outAt_at (b : Fin 2) (i : Fin 256) (n : Fin 512) :
    outAt m c (ix3 b i n) = ∑ h : Fin 4, headAt m c b i n h := by
  have e : (fun | 0 => (0 : Fin 1) | 1 => i | 2 => n : S1x256x512.Idx) = ix3 0 i n := by
    funext a; fin_cases a <;> rfl
  refine (congrArg (outRow m c b) e).trans ((pay69_at (lC m c b 0) (lC m c b 1) (lC m c b 2) (lC m c b 3) (lWo m c 0) (lWo m c 1)
    (lWo m c 2) (lWo m c 3) i n).trans ?_)
  rw [Fin.sum_univ_four]
  exact congrArg₂ (fun x y : EReal => x + y) (congrArg₂ (fun x y : EReal => x + y) (congrArg₂ (fun x y : EReal => x + y)
    (head_at m c b i n 0) (head_at m c b i n 1)) (head_at m c b i n 2)) (head_at m c b i n 3)

end Cert.Attn

end
-- ==== Proof.Reference.lean ====
/-
The reference's mask, and its result as a tower of named terms.
-/
module

public import proofs.«01_k».proof.Proof.Gen.ReferenceIdeal.Run
public import Idealize.ShloMosaic.Lib.Pointwise
public import Idealize.ShloMosaic.Lib.Routing.OpsOrder

@[expose] public section

set_option maxRecDepth 16384

noncomputable section

namespace Cert.Attn

open Cert.ReferenceIdeal Cert.ReferenceIdeal.Gen
open Idealize.ShloMosaic Idealize.ShloMosaic.TcCoe

/-! ## The mask's words -/

/-- A query's block of 64 positions. -/
def qbR : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- A key's block of 64 positions. -/
def kbR : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The stride. -/
def fourR : IVec S_ 32 :=
  select (cmpi .eq (id (constantI S_ 32 4#32)) (constantI S_ 32 0#32)) (constantI S_ 32 1#32) (id (constantI S_ 32 4#32))

/-- A key's block modulo the stride. -/
def kmR : IVec S1x4096 32 :=
  select (andi (cmpi .ne (cmpi .slt (Host.remsi (broadcastInDim S1x4096 ![1] bcast_S4096_S1x4096_1 kbR) (broadcastInDim S1x4096 ![] bcast_S_S1x4096 fourR)) (broadcastInDim S1x4096 ![] bcast_S_S1x4096 (constantI S_ 32 0#32))) (broadcastInDim S1x4096 ![] bcast_S_S1x4096 (cmpi .slt fourR (constantI S_ 32 0#32)))) (cmpi .ne (Host.remsi (broadcastInDim S1x4096 ![1] bcast_S4096_S1x4096_1 kbR) (broadcastInDim S1x4096 ![] bcast_S_S1x4096 fourR)) (broadcastInDim S1x4096 ![] bcast_S_S1x4096 (constantI S_ 32 0#32)))) (addi (Host.remsi (broadcastInDim S1x4096 ![1] bcast_S4096_S1x4096_1 kbR) (broadcastInDim S1x4096 ![] bcast_S_S1x4096 fourR)) (broadcastInDim S1x4096 ![] bcast_S_S1x4096 fourR)) (Host.remsi (broadcastInDim S1x4096 ![1] bcast_S4096_S1x4096_1 kbR) (broadcastInDim S1x4096 ![] bcast_S_S1x4096 fourR))

/-- A query's block modulo the stride. -/
def qmR : IVec S256x1 32 :=
  select (andi (cmpi .ne (cmpi .slt (Host.remsi (broadcastInDim S256x1 ![0] bcast_S256_S256x1_0 qbR) (broadcastInDim S256x1 ![] bcast_S_S256x1 fourR)) (broadcastInDim S256x1 ![] bcast_S_S256x1 (constantI S_ 32 0#32))) (broadcastInDim S256x1 ![] bcast_S_S256x1 (cmpi .slt fourR (constantI S_ 32 0#32)))) (cmpi .ne (Host.remsi (broadcastInDim S256x1 ![0] bcast_S256_S256x1_0 qbR) (broadcastInDim S256x1 ![] bcast_S_S256x1 fourR)) (broadcastInDim S256x1 ![] bcast_S_S256x1 (constantI S_ 32 0#32)))) (addi (Host.remsi (broadcastInDim S256x1 ![0] bcast_S256_S256x1_0 qbR) (broadcastInDim S256x1 ![] bcast_S_S256x1 fourR)) (broadcastInDim S256x1 ![] bcast_S_S256x1 fourR)) (Host.remsi (broadcastInDim S256x1 ![0] bcast_S256_S256x1_0 qbR) (broadcastInDim S256x1 ![] bcast_S_S256x1 fourR))

/-- The pairs kept. -/
def maskR : IVec S256x4096 1 :=
  ori (cmpi .eq (broadcastInDim S256x4096 ![0, 1] bcast_S256x1_S256x4096_0_1 (broadcastInDim S256x1 ![0] bcast_S256_S256x1_0 qbR)) (broadcastInDim S256x4096 ![0, 1] bcast_S1x4096_S256x4096_0_1 (broadcastInDim S1x4096 ![1] bcast_S4096_S1x4096_1 kbR))) (cmpi .eq (broadcastInDim S256x4096 ![0, 1] bcast_S1x4096_S256x4096_0_1 kmR) (broadcastInDim S256x4096 ![0, 1] bcast_S256x1_S256x4096_0_1 qmR))

/-- Every query keeps some key. -/
def anyR : IVec S256 1 := Host.reduce IntOp.ori maskR (constantI S_ 1 0#1) reducesTo_S256x4096_S256_d1 h_S_

/-! ## The floating-point terms, over the argument arrays -/

variable {F : FTy → Type} [FloatOps F]

/-- The queries. -/
def qR (X : FVec F S2x256x512 .f32) (Wq : FVec F S512x4096 .f32) : FVec F S2x256x64x64 .f32 :=
  shapeCast _ (Host.dotGeneral dot_S2x256x512_S512x4096_S2x256x4096_2_0_01_1_n_n none X Wq) shapeCasts_S2x256x4096_S2x256x64x64

/-- The scores, the pairs not kept at minus infinity. -/
def scR (X : FVec F S2x256x512 .f32) (Wq : FVec F S512x4096 .f32) (K : FVec F S2x4096x64x64 .f32) : FVec F S2x64x256x4096 .f32 :=
  select (broadcastInDim S2x64x256x4096 ![0, 1, 2, 3] bcast_S1x1x256x4096_S2x64x256x4096_0_1_2_3 (broadcastInDim S1x1x256x4096 ![2, 3] bcast_S256x4096_S1x1x256x4096_2_3 maskR)) (mulf (Host.dotGeneral dot_S2x256x64x64_S2x4096x64x64_S2x64x256x4096_3_3_1_1_02_02 none (qR X Wq) K) (broadcastInDim S2x64x256x4096 ![] bcast_S_S2x64x256x4096 (constant S_ .f32 0x3E000000#32))) (broadcastInDim S2x64x256x4096 ![] bcast_S_S2x64x256x4096 (id (constant S_ .f32 0xFF800000#32)))

/-- Their exponentials, the row maximum taken off. -/
def exR (X : FVec F S2x256x512 .f32) (Wq : FVec F S512x4096 .f32) (K : FVec F S2x4096x64x64 .f32) : FVec F S2x64x256x4096 .f32 :=
  Host.exp (subf (scR X Wq K) (broadcastInDim S2x64x256x4096 ![0, 1, 2, 3] bcast_S2x64x256x1_S2x64x256x4096_0_1_2_3 (broadcastInDim S2x64x256x1 ![0, 1, 2] bcast_S2x64x256_S2x64x256x1_0_1_2 (Host.reduce FloatOps.maximumf (scR X Wq K) (constant S_ .f32 0xFF800000#32) reducesTo_S2x64x256x4096_S2x64x256_d3 h_S_))))

/-- The row sums. -/
def zR (X : FVec F S2x256x512 .f32) (Wq : FVec F S512x4096 .f32) (K : FVec F S2x4096x64x64 .f32) : FVec F S2x64x256x1 .f32 :=
  select (broadcastInDim S2x64x256x1 ![0, 1, 2, 3] bcast_S1x1x256x1_S2x64x256x1_0_1_2_3 (broadcastInDim S1x1x256x1 ![2] bcast_S256_S1x1x256x1_2 anyR)) (broadcastInDim S2x64x256x1 ![0, 1, 2] bcast_S2x64x256_S2x64x256x1_0_1_2 (Host.reduceAdd (exR X Wq K) (constant S_ .f32 0x00000000#32) reducesTo_S2x64x256x4096_S2x64x256_d3 h_S_)) (broadcastInDim S2x64x256x1 ![] bcast_S_S2x64x256x1 (id (constant S_ .f32 0x3F800000#32)))

/-- The weights. -/
def wR (X : FVec F S2x256x512 .f32) (Wq : FVec F S512x4096 .f32) (K : FVec F S2x4096x64x64 .f32) : FVec F S2x64x256x4096 .f32 :=
  select (broadcastInDim S2x64x256x4096 ![0, 1, 2, 3] bcast_S1x1x256x1_S2x64x256x4096_0_1_2_3 (broadcastInDim S1x1x256x1 ![2] bcast_S256_S1x1x256x1_2 anyR)) (Host.divf (exR X Wq K) (broadcastInDim S2x64x256x4096 ![0, 1, 2, 3] bcast_S2x64x256x1_S2x64x256x4096_0_1_2_3 (zR X Wq K))) (broadcastInDim S2x64x256x4096 ![] bcast_S_S2x64x256x4096 (id (constant S_ .f32 0x00000000#32)))

/-- The weighted values. -/
def cR (X : FVec F S2x256x512 .f32) (Wq : FVec F S512x4096 .f32) (K : FVec F S2x4096x64x64 .f32) (V : FVec F S2x4096x64x64 .f32) : FVec F S2x64x64x256 .f32 :=
  Host.dotGeneral dot_S2x4096x64x64_S2x64x256x4096_S2x64x64x256_1_3_3_2_02_01 none V (wR X Wq K)

/-- The result. -/
def outR (X : FVec F S2x256x512 .f32) (Wq : FVec F S512x4096 .f32) (K : FVec F S2x4096x64x64 .f32) (V : FVec F S2x4096x64x64 .f32) (Wo : FVec F S4096x512 .f32) : FVec F S2x256x512 .f32 :=
  Host.dotGeneral dot_S2x256x4096_S4096x512_S2x256x512_2_0_01_1_n_n none (shapeCast _ (transpose S2x256x64x64 [0, 3, 1, 2] (cR X Wq K V) transposes_S2x64x64x256_S2x256x64x64_0_3_1_2) shapeCasts_S2x256x64x64_S2x256x4096) Wo

/-- The reference's composed term is `outR` of its arguments. -/
theorem res_eq (m : (ℓ : Loc nD τ sig) → Buf (Elt F) ℓ) (c : Dev nD) :
    Cert.ReferenceIdeal.Value.res_main_v39 m c
      = outR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## The mask at an index -/

/-- Query `i` keeps key `j`: their blocks agree modulo the stride. -/
abbrev Kept (i : Fin 256) (j : Fin 4096) : Prop := j.val / 64 % 4 = i.val / 64 % 4

/-- Query `i` lies in block `i / 64`. -/
theorem qbR_at : ∀ i : Fin 256, qbR (ix1 i) = BitVec.ofNat 32 (i.val / 64) := by decide +kernel
/-- Key `j` lies in block `j / 64`. -/
theorem kbR_at : ∀ j : Fin 4096, kbR (ix1 j) = BitVec.ofNat 32 (j.val / 64) := by decide +kernel
/-- A query's block modulo 4. -/
theorem qmR_at : ∀ i : Fin 256, qmR (ix2 i 0) = BitVec.ofNat 32 (i.val / 64 % 4) := by decide +kernel
/-- A key's block modulo 4. -/
theorem kmR_at : ∀ j : Fin 4096, kmR (ix2 0 j) = BitVec.ofNat 32 (j.val / 64 % 4) := by decide +kernel

/-- On the block numbers' words: the mask keeps a pair exactly if the blocks agree modulo 4. -/
theorem kept_words : ∀ (a : Fin 4) (b : Fin 64),
    IntOp.ori (IntOp.cmpi .eq (BitVec.ofNat 32 a.val) (BitVec.ofNat 32 b.val))
      (IntOp.cmpi .eq (BitVec.ofNat 32 (b.val % 4)) (BitVec.ofNat 32 (a.val % 4)))
      = BitVec.ofBool (decide (b.val % 4 = a.val % 4)) := by decide +kernel

/-- The mask at a pair. -/
theorem maskR_at (i : Fin 256) (j : Fin 4096) : maskR (ix2 i j) = BitVec.ofBool (decide (Kept i j)) := by
  unfold maskR
  pointwise
  rw [qbR_at, kbR_at, qmR_at, kmR_at]
  exact kept_words ⟨i.val / 64, by omega⟩ ⟨j.val / 64, by omega⟩

/-- Every row of the mask holds. -/
theorem anyR_at (i : Fin 256) : anyR (ix1 i) = 1#1 := by
  unfold anyR
  pointwise
  refine (Routing.fold_ori _ _).mpr ⟨⟨i.val, by omega⟩, Finset.mem_univ _, ?_⟩
  rw [maskR_at]
  simp [Kept]

/-! ## The result at an index -/

section AtIndex

variable (X : FVec Ideal S2x256x512 .f32) (Wq : FVec Ideal S512x4096 .f32) (K V : FVec Ideal S2x4096x64x64 .f32)
  (Wo : FVec Ideal S4096x512 .f32)

/-- The score of key `j` for query `i`, batch `b`, head `h`. -/
def score (b : Fin 2) (h : Fin 64) (i : Fin 256) (j : Fin 4096) : EReal :=
  (∑ d : Fin 64, (∑ e : Fin 512, X (ix3 b i e) * Wq (ix2 e ⟨h.val * 64 + d.val, by omega⟩)) * K (ix4 b j h d))
    * Ideal.ofBits .f32 0x3E000000#32

/-- The reference's queries at an index. -/
theorem qR_at (b : Fin 2) (i : Fin 256) (h d : Fin 64) :
    qR X Wq (ix4 b i h d) = ∑ e : Fin 512, X (ix3 b i e) * Wq (ix2 e ⟨h.val * 64 + d.val, by omega⟩) := by
  pointwise [qR]

/-- The mask's word is `-∞`. -/
theorem bot_bits : Ideal.ofBits .f32 0xFF800000#32 = ⊥ := by simp [Ideal.ofBits, Ideal.ieee]

/-- The reference's masked scores at an index. -/
theorem scR_at (b : Fin 2) (h : Fin 64) (i : Fin 256) (j : Fin 4096) :
    scR X Wq K (ix4 b h i j) = if Kept i j then score X Wq K b h i j else ⊥ := by
  unfold scR score
  pointwise
  simp only [qR_at, maskR_at]
  by_cases hk : Kept i j
  · rw [if_pos hk, decide_eq_true hk]
    rfl
  · rw [if_neg hk, decide_eq_false hk]
    exact bot_bits

/-- The exponentials at an index: of the score minus its row's maximum. -/
theorem exR_at (b : Fin 2) (h : Fin 64) (i : Fin 256) (j : Fin 4096) :
    exR X Wq K (ix4 b h i j)
      = Ideal.exp (scR X Wq K (ix4 b h i j) - (Finset.univ : Finset (Fin 4096)).fold max ⊥ (fun j => scR X Wq K (ix4 b h i j))) := by
  unfold exR
  pointwise
  rw [bot_bits]

/-- The row sums at an index. -/
theorem zR_at (b : Fin 2) (h : Fin 64) (i : Fin 256) :
    zR X Wq K (ix4 b h i 0) = ∑ j : Fin 4096, exR X Wq K (ix4 b h i j) := by
  unfold zR
  pointwise
  rw [anyR_at]
  rfl

/-- The weights at an index: exponential by row sum. -/
theorem wR_at (b : Fin 2) (h : Fin 64) (i : Fin 256) (j : Fin 4096) :
    wR X Wq K (ix4 b h i j) = Ideal.div (exR X Wq K (ix4 b h i j)) (∑ k : Fin 4096, exR X Wq K (ix4 b h i k)) := by
  unfold wR
  pointwise
  rw [anyR_at, zR_at]
  rfl

/-- The context at an index: the values weighed. -/
theorem cR_at (b : Fin 2) (h d : Fin 64) (i : Fin 256) :
    cR X Wq K V (ix4 b h d i) = ∑ j : Fin 4096, V (ix4 b j h d) * wR X Wq K (ix4 b h i j) := by
  unfold cR
  pointwise

/-- The reference's result at an index. -/
theorem outR_at (b : Fin 2) (i : Fin 256) (n : Fin 512) :
    outR X Wq K V Wo (ix3 b i n)
      = ∑ k : Fin 4096, cR X Wq K V (ix4 b ⟨k.val / 64, by omega⟩ ⟨k.val % 64, by omega⟩ i) * Wo (ix2 k n) := by
  unfold outR
  pointwise

end AtIndex

end Cert.Attn

end
-- ==== Proof.Softmax.lean ====
/-
Attention weights over the extended reals: keys sent to minus infinity weigh nothing, so a softmax over all keys is the
softmax over the kept ones.
-/
module

public import Idealize.ShloMosaic.PureOps.Ideal
public import Mathlib.Algebra.BigOperators.Fin

@[expose] public section

noncomputable section

namespace Cert.Attn

open Idealize.ShloMosaic

/-- An extended real that is a real number. -/
def Fine (x : EReal) : Prop := ∃ r : ℝ, x = (r : EReal)

/-- A product of reals is a real. -/
theorem Fine.mul {x y : EReal} : Fine x → Fine y → Fine (x * y)
  | ⟨a, ha⟩, ⟨b, hb⟩ => ⟨a * b, by rw [ha, hb, EReal.coe_mul]⟩

/-- A finite sum of reals, as extended reals. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of reals is a real. -/
theorem Fine.sum {ι : Type*} (s : Finset ι) (f : ι → EReal) (h : ∀ i, Fine (f i)) : Fine (∑ i ∈ s, f i) := by
  classical
  choose g hg using h
  refine ⟨∑ i ∈ s, g i, ?_⟩
  rw [coe_sum]
  exact Finset.sum_congr rfl fun i _ => hg i

/-- The greatest of finitely many reals, at least one, is real. -/
theorem fine_fold_max {n : ℕ} (hn : 0 < n) (f : Fin n → EReal) (h : ∀ r, Fine (f r)) :
    Fine ((Finset.univ : Finset (Fin n)).fold max ⊥ f) := by
  have hle : ∀ r, f r ≤ (Finset.univ : Finset (Fin n)).fold max ⊥ f := fun r =>
    (Finset.le_fold_max _).mpr (.inr ⟨r, Finset.mem_univ r, le_rfl⟩)
  rcases (Finset.le_fold_max _).mp (le_refl ((Finset.univ : Finset (Fin n)).fold max ⊥ f)) with h0 | ⟨r, _, hr⟩
  · obtain ⟨a, ha⟩ := h ⟨0, hn⟩
    have h1 := (hle ⟨0, hn⟩).trans h0
    rw [ha] at h1
    exact absurd (le_bot_iff.mp h1) (EReal.coe_ne_bot a)
  · obtain ⟨a, ha⟩ := h r
    exact ⟨a, (le_antisymm hr (hle r)).trans ha⟩

/-- The greatest of all scores, the masked ones at minus infinity, is the greatest kept score. -/
theorem fold_max_masked {n N : ℕ} (p : Fin N → Prop) [DecidablePred p] (e : Fin n → Fin N)
    (hp : ∀ j, p j ↔ ∃ r, e r = j) (S : Fin N → EReal) :
    (Finset.univ : Finset (Fin N)).fold max ⊥ (fun j => if p j then S j else ⊥)
      = (Finset.univ : Finset (Fin n)).fold max ⊥ (fun r => S (e r)) := by
  refine le_antisymm ((Finset.fold_max_le _).mpr ⟨bot_le, fun j _ => ?_⟩) ((Finset.fold_max_le _).mpr ⟨bot_le, fun r _ => ?_⟩)
  · by_cases hj : p j
    · obtain ⟨r, rfl⟩ := (hp j).mp hj
      rw [if_pos hj]
      exact (Finset.le_fold_max _).mpr (.inr ⟨r, Finset.mem_univ r, le_rfl⟩)
    · rw [if_neg hj]
      exact bot_le
  · refine (Finset.le_fold_max _).mpr (.inr ⟨e r, Finset.mem_univ _, ?_⟩)
    rw [if_pos ((hp _).mpr ⟨r, rfl⟩)]

/-- A sum of exponentials of reals is a positive real. -/
theorem sum_exp_pos {n : ℕ} (hn : 0 < n) (f : Fin n → EReal) (M : EReal) (h : ∀ r, Fine (f r)) (hM : Fine M) :
    ∃ s : ℝ, 0 < s ∧ ∑ r, Ideal.exp (f r - M) = (s : EReal) := by
  obtain ⟨b, rfl⟩ := hM
  choose g hg using h
  refine ⟨∑ r, Real.exp (g r - b), Finset.sum_pos (fun r _ => Real.exp_pos _) ⟨⟨0, hn⟩, Finset.mem_univ _⟩, ?_⟩
  rw [coe_sum]
  refine Finset.sum_congr rfl fun r _ => ?_
  rw [hg r, ← EReal.coe_sub, Ideal.exp_coe]

/-- The softmax over all keys, the masked scores at minus infinity, weighs the values as the softmax over the kept
    keys does. -/
theorem softmax_masked {n N : ℕ} (hn : 0 < n) (p : Fin N → Prop) [DecidablePred p] (e : Fin n → Fin N)
    (he : Function.Injective e) (hp : ∀ j, p j ↔ ∃ r, e r = j) (S v s' : Fin N → EReal)
    (hs : ∀ j, s' j = if p j then S j else ⊥) (hS : ∀ r, Fine (S (e r))) :
    ∑ j, v j * Ideal.div (Ideal.exp (s' j - (Finset.univ : Finset (Fin N)).fold max ⊥ s'))
        (∑ k, Ideal.exp (s' k - (Finset.univ : Finset (Fin N)).fold max ⊥ s'))
      = ∑ r, Ideal.div (Ideal.exp (S (e r) - (Finset.univ : Finset (Fin n)).fold max ⊥ (fun r => S (e r))))
        (∑ k, Ideal.exp (S (e k) - (Finset.univ : Finset (Fin n)).fold max ⊥ (fun r => S (e r)))) * v (e r) := by
  have hs' : s' = fun j => if p j then S j else ⊥ := funext hs
  have hM : (Finset.univ : Finset (Fin N)).fold max ⊥ s' = (Finset.univ : Finset (Fin n)).fold max ⊥ (fun r => S (e r)) := by
    rw [hs']
    exact fold_max_masked p e hp S
  have hMf : Fine ((Finset.univ : Finset (Fin n)).fold max ⊥ (fun r => S (e r))) := fine_fold_max hn _ hS
  rw [hM]
  generalize hMM : (Finset.univ : Finset (Fin n)).fold max ⊥ (fun r => S (e r)) = M at *
  have hout : ∀ j, j ∉ e '' (Finset.univ : Finset (Fin n)) → Ideal.exp (s' j - M) = 0 := fun j hj => by
    have hn : ¬p j := fun h => hj (by obtain ⟨r, hr⟩ := (hp j).mp h; exact ⟨r, by simp, hr⟩)
    rw [hs j, if_neg hn, EReal.bot_sub, Ideal.exp_bot]
  have hin : ∀ r, s' (e r) = S (e r) := fun r => by rw [hs, if_pos ((hp _).mpr ⟨r, rfl⟩)]
  have hsum : ∑ k, Ideal.exp (s' k - M) = ∑ k, Ideal.exp (S (e k) - M) :=
    (Finset.sum_of_injOn e he.injOn (fun _ _ => Finset.mem_coe.mpr (Finset.mem_univ _)) (fun j _ hj => hout j hj)
      (fun r _ => by rw [hin])).symm
  rw [hsum]
  obtain ⟨s, hs0, hsv⟩ := sum_exp_pos hn (fun r => S (e r)) M hS hMf
  rw [hsv]
  refine (Finset.sum_of_injOn e he.injOn (fun _ _ => Finset.mem_coe.mpr (Finset.mem_univ _)) (fun j _ hj => ?_)
      (fun r _ => ?_)).symm
  · rw [hout j hj, Ideal.div_coe hs0.ne', zero_mul, mul_zero]
  · rw [hin, mul_comm]

end Cert.Attn

end
-- ==== Proof.Equation.lean ====
/-
The kernel's result is the reference's: the devices' shares, summed by the rounds, are the reference's one product.
-/
module

public import proofs.«01_k».proof.Proof.Local
public import proofs.«01_k».proof.Proof.Reference
public import proofs.«01_k».proof.Proof.Softmax
public import Idealize.ShloMosaic.Lib.Layout

@[expose] public section

set_option maxRecDepth 16384

noncomputable section

namespace Cert.Attn

open Cert.KernelIdeal Cert.KernelIdeal.Gen
open Idealize.ShloMosaic Idealize.ShloMosaic.TcCoe

/-! ## The rounds sum every device -/

/-- The devices whose shares device `c`'s running sum holds after `s` rounds. -/
def held : ℕ → Dev nD → Finset (Dev nD)
  | 0, c => {c}
  | s + 1, c => held s c ∪ held s (par s c)

/-- Partners hold disjoint sets of shares. -/
theorem held_disj : ∀ (s : Fin 4) (c : Dev nD), Disjoint (held s.val c) (held s.val (par s.val c)) := by decide +kernel
/-- After four rounds every device holds every share. -/
theorem held_all : ∀ c : Dev nD, held 4 c = Finset.univ := by decide +kernel

variable (m : (ℓ : Loc nD τ sig) → Buf (Elt Ideal) ℓ)

/-- The running sum is the sum of the shares it holds. -/
theorem acc_held (s : ℕ) (hs : s ≤ 4) (c : Dev nD) (b : Fin 2) (i : Fin 256) (n : Fin 512) :
    acc m s c (ix3 b i n) = ∑ c' ∈ held s c, outAt m c' (ix3 b i n) := by
  induction s generalizing c with
  | zero => rw [held, Finset.sum_singleton]; rfl
  | succ s ih =>
    rw [held, Finset.sum_union (held_disj ⟨s, hs⟩ c), ← ih (by omega) c, ← ih (by omega) (par s c)]
    exact addP_at _ _ b i n

/-- After the four rounds every device holds the sum of all shares. -/
theorem acc_four (c : Dev nD) (b : Fin 2) (i : Fin 256) (n : Fin 512) :
    acc m 4 c (ix3 b i n) = ∑ c' : Dev nD, outAt m c' (ix3 b i n) := by
  rw [acc_held m 4 le_rfl c b i n, held_all]

/-! ## The arrays as blocks of the whole ones -/

/-- The launch memory holds the whole arrays, each device its block. -/
structure Whole (X : FVec Ideal S2x256x512 .f32) (Wq : FVec Ideal Cert.ReferenceIdeal.S512x4096 .f32)
    (K V : FVec Ideal Cert.ReferenceIdeal.S2x4096x64x64 .f32) (Wo : FVec Ideal Cert.ReferenceIdeal.S4096x512 .f32) : Prop where
  x : ∀ (c : Dev nD) (b : Fin 2) (i : Fin 256) (e : Fin 512),
    aX m c (ix3 b i e) = X (ix3 b i e)
  wq : ∀ (c : Dev nD) (e : Fin 512) (n : Fin 256),
    aWq m c (ix2 e n)
      = Wq (ix2 e ⟨c.val * 256 + n.val, by have : c.val < 16 := c.isLt; omega⟩)
  k : ∀ (c : Dev nD) (b : Fin 2) (p : Fin 256) (h d : Fin 64),
    kv m false c (ix4 b p h d) = K (ix4 b ⟨c.val * 256 + p.val, by have : c.val < 16 := c.isLt; omega⟩ h d)
  v : ∀ (c : Dev nD) (b : Fin 2) (p : Fin 256) (h d : Fin 64),
    kv m true c (ix4 b p h d) = V (ix4 b ⟨c.val * 256 + p.val, by have : c.val < 16 := c.isLt; omega⟩ h d)
  wo : ∀ (c : Dev nD) (e : Fin 256) (n : Fin 512),
    aWo m c (ix2 e n)
      = Wo (ix2 ⟨c.val * 256 + e.val, by have : c.val < 16 := c.isLt; omega⟩ n)

/-- The key a tile's row `r` is: position `r % 64` of block `g` on device `r / 64`. -/
def key (g : Fin 4) (r : Fin 1024) : Fin 4096 := ⟨r.val / 64 * 256 + (64 * g.val + r.val % 64), by omega⟩

/-- The keys of a tile are distinct. -/
theorem key_inj (g : Fin 4) : Function.Injective (key g) := by
  intro r r' h
  have h1 := congrArg Fin.val h
  simp only [key] at h1
  apply Fin.ext
  omega

/-- The keys a query keeps are those of its tile. -/
theorem kept_iff (i : Fin 256) (j : Fin 4096) : Kept i j ↔ ∃ r, key ⟨i.val / 64, by omega⟩ r = j := by
  constructor
  · intro h
    refine ⟨⟨j.val / 256 * 64 + j.val % 64, by omega⟩, Fin.ext ?_⟩
    simp only [key]
    unfold Kept at h
    omega
  · rintro ⟨r, rfl⟩
    simp only [Kept, key]
    omega

variable {m} {X : FVec Ideal S2x256x512 .f32} {Wq : FVec Ideal Cert.ReferenceIdeal.S512x4096 .f32}
  {K V : FVec Ideal Cert.ReferenceIdeal.S2x4096x64x64 .f32} {Wo : FVec Ideal Cert.ReferenceIdeal.S4096x512 .f32}

/-- The scale of the scores is real. -/
theorem fine_eighth : Fine (Ideal.ofBits .f32 0x3E000000#32) := ⟨1 / 8, by
  simp [Ideal.ofBits, Ideal.ieee]
  rw [← EReal.coe_mul]
  norm_num⟩

/-- A tile's score is the reference's at that key. -/
theorem lsc_eq (w : Whole m X Wq K V Wo) (c : Dev nD) (b : Fin 2) (g h : Fin 4) (i : Fin 64) (r : Fin 1024) :
    lsc m c b g h i r = score X Wq K b (hd c h) ⟨64 * g.val + i.val, by omega⟩ (key g r) := by
  have hc : c.val < 16 := c.isLt
  unfold lsc score
  refine congrArg (· * Ideal.ofBits .f32 0x3E000000#32) (Finset.sum_congr rfl fun d _ => ?_)
  rw [qAt_at, w.k]
  refine congrArg₂ (· * ·) (Finset.sum_congr rfl fun e _ => ?_) rfl
  rw [w.x, w.wq]
  refine congrArg (X _ * ·) (congrArg Wq (congrArg (ix2 e) (Fin.ext ?_)))
  show c.val * 256 + (64 * h.val + d.val) = (4 * c.val + h.val) * 64 + d.val
  omega

/-- A device's context is the reference's weighted values of its heads. -/
theorem ctx_eq (w : Whole m X Wq K V Wo) (hX : ∀ i, Fine (X i)) (hWq : ∀ i, Fine (Wq i)) (hK : ∀ i, Fine (K i))
    (c : Dev nD) (b : Fin 2) (p : Fin 256) (h : Fin 4) (d : Fin 64) :
    ctxAt m c (ix4 b p h d) = cR X Wq K V (ix4 b (hd c h) d p) := by
  have hs : ∀ j, Fine (score X Wq K b (hd c h) p j) := fun j =>
    (Fine.sum _ _ fun d => (Fine.sum _ _ fun e => (hX _).mul (hWq _)).mul (hK _)).mul fine_eighth
  rw [cR_at, ctxAt_at]
  simp only [wR_at, exR_at]
  rw [softmax_masked (n := 1024) (by decide) (Kept p) (key ⟨p.val / 64, by omega⟩) (key_inj _) (kept_iff p)
    (score X Wq K b (hd c h) p) (fun j => V (ix4 b j (hd c h) d)) (fun j => scR X Wq K (ix4 b (hd c h) p j))
    (fun j => scR_at X Wq K b (hd c h) p j) (fun r => hs _)]
  have hl : ∀ r, lsc m c b ⟨p.val / 64, by omega⟩ h ⟨p.val % 64, by omega⟩ r
      = score X Wq K b (hd c h) p (key ⟨p.val / 64, by omega⟩ r) := fun r => by
    rw [lsc_eq w]
    congr 1
    exact Fin.ext (by show 64 * (p.val / 64) + p.val % 64 = p.val; omega)
  simp only [hl]
  refine Finset.sum_congr rfl fun r _ => congrArg _ ?_
  rw [w.v]
  rfl

/-- A device's share of the output. -/
theorem out_eq (w : Whole m X Wq K V Wo) (hX : ∀ i, Fine (X i)) (hWq : ∀ i, Fine (Wq i)) (hK : ∀ i, Fine (K i))
    (c : Dev nD) (b : Fin 2) (i : Fin 256) (n : Fin 512) :
    outAt m c (ix3 b i n)
      = ∑ l : Fin 256, (fun k : Fin 4096 => cR X Wq K V (ix4 b ⟨k.val / 64, by omega⟩ ⟨k.val % 64, by omega⟩ i) * Wo (ix2 k n))
          ⟨c.val * 256 + l.val, by have : c.val < 16 := c.isLt; omega⟩ := by
  have hc : c.val < 16 := c.isLt
  rw [outAt_at]
  unfold headAt
  refine Fin.sum_mul_add_congr (fun h d hl => ?_)
  rw [ctx_eq w hX hWq hK, w.wo]
  refine congrArg₂ (· * ·) (congrArg (cR X Wq K V) ?_) (congrArg (fun k => Wo (ix2 k n)) (Fin.ext ?_))
  · have e1 : hd c h = ⟨(c.val * 256 + (h.val * 64 + d.val)) / 64, by omega⟩ := Fin.ext (by show 4 * c.val + h.val = (c.val * 256 + (h.val * 64 + d.val)) / 64; omega)
    have e2 : d = ⟨(c.val * 256 + (h.val * 64 + d.val)) % 64, by omega⟩ := Fin.ext (by show d.val = (c.val * 256 + (h.val * 64 + d.val)) % 64; omega)
    exact congrArg₂ (fun x y => ix4 b x y i) e1 e2
  · show c.val * 256 + (64 * h.val + d.val) = c.val * 256 + (h.val * 64 + d.val)
    omega

/-- The kernel's result is the reference's. -/
theorem result_eq (w : Whole m X Wq K V Wo) (hX : ∀ i, Fine (X i)) (hWq : ∀ i, Fine (Wq i)) (hK : ∀ i, Fine (K i))
    (c : Dev nD) : acc m 4 c = outR X Wq K V Wo := by
  funext j
  obtain ⟨b, i, n, rfl⟩ : ∃ (b : Fin 2) (i : Fin 256) (n : Fin 512), j = ix3 b i n := ⟨j 0, j 1, j 2, eq_ix3 j⟩
  rw [outR_at]
  refine (acc_four m c b i n).trans ?_
  rw [Finset.sum_congr rfl fun c' _ => out_eq w hX hWq hK c' b i n]
  exact Fin.sum_mul_add_fin 16 256 (fun k : Fin 4096 => cR X Wq K V (ix4 b ⟨k.val / 64, by omega⟩ ⟨k.val % 64, by omega⟩ i) * Wo (ix2 k n))

end Cert.Attn

end
-- ==== Proof.Value.lean ====
/-
The value claim: every device's result is the reference's, for finite activations, query weights and keys.
-/
module

public import proofs.«01_k».proof.Proof.Frames
public import proofs.«01_k».proof.Proof.Equation
public import Idealize.ShloMosaic.Lib.ReduceAll

@[expose] public section

set_option maxRecDepth 16384

noncomputable section

namespace Cert.Attn

open Idealize.ShloMosaic Idealize.ShloMosaic.TcCoe Idealize.SL.Sem

/-! ## The precondition read back -/

/-- The precondition on the kernel's arguments takes shapes that fit. -/
theorem finite_facts : Cert.Pre_finite_KernelIdeal.Facts :=
  ⟨by decide, by decide, by decide, by decide, by decide, by decide, by decide⟩

/-- So does the one on the reference's. -/
theorem finite_facts_reference : Cert.Pre_finite_ReferenceIdeal.Facts :=
  ⟨by decide, by decide, by decide, by decide, by decide, by decide, by decide⟩

/-- The word the precondition compares with is `+∞`. -/
theorem inf_bits : Ideal.ofBits .f32 0x7F800000#32 = ⊤ := by simp [Ideal.ofBits, Ideal.ieee]

/-- An extended real whose absolute value is below `+∞` is a real. -/
theorem fine_of_abs_lt {x : EReal} (h : max x (-x) < ⊤) : Fine x := by
  induction x with
  | bot => simp at h
  | top => simp at h
  | coe r => exact ⟨r, rfl⟩

/-- Comparing an absolute value with `+∞` gave 1: the value is a real. -/
theorem fine_of_cmp {x : EReal} (h : Ideal.cmp .olt (max x (-x)) (Ideal.ofBits .f32 0x7F800000#32) = 1#1) : Fine x := by
  rw [inf_bits] at h
  refine fine_of_abs_lt (by_contra fun hn => ?_)
  simp [Ideal.cmp, hn] at h

/-- Under the precondition the three arguments it names hold reals. -/
theorem fine_of_pre [Cert.Pre_finite_KernelIdeal.Facts]
    {X : FVec Ideal Cert.Pre_finite_KernelIdeal.S2x256x512 .f32} {Wq : FVec Ideal Cert.Pre_finite_KernelIdeal.S512x256 .f32}
    {K V : FVec Ideal Cert.Pre_finite_KernelIdeal.S2x256x64x64 .f32} {Wo : FVec Ideal Cert.Pre_finite_KernelIdeal.S256x512 .f32}
    (h : Cert.Pre_finite_KernelIdeal.fn (F := Ideal) X Wq K V Wo = fun _ => 1#1) :
    (∀ i, Fine (X i)) ∧ (∀ i, Fine (Wq i)) ∧ ∀ i, Fine (K i) := by
  have : Subsingleton Cert.Pre_finite_KernelIdeal.S_.Idx := ⟨fun a b => funext fun i => i.elim0⟩
  have h0 := congrFun h (fun i => i.elim0)
  obtain ⟨h1, hK⟩ := IntOp.andi_eq_one.1 h0
  obtain ⟨hX, hWq⟩ := IntOp.andi_eq_one.1 h1
  exact ⟨fun i => fine_of_cmp (Host.reduce_andi_all _ _ _ _ _ hX i), fun i => fine_of_cmp (Host.reduce_andi_all _ _ _ _ _ hWq i),
    fun i => fine_of_cmp (Host.reduce_andi_all _ _ _ _ _ hK i)⟩

/-! ## The blocks -/

/-- Entry `n` of the 4096 is entry `n % 256` of block `n / 256`. -/
theorem split_at (n : Fin 4096) : n = ⟨n.val / 256 * 256 + n.val % 256, by omega⟩ := Fin.ext (by show n.val = n.val / 256 * 256 + n.val % 256; omega)

variable {m : (ℓ : Loc Cert.KernelIdeal.nD Cert.KernelIdeal.τ Cert.KernelIdeal.sig) → Buf (Elt Ideal) ℓ}
  {X : FVec Ideal Cert.KernelIdeal.S2x256x512 .f32} {Wq : FVec Ideal Cert.ReferenceIdeal.S512x4096 .f32}
  {K V : FVec Ideal Cert.ReferenceIdeal.S2x4096x64x64 .f32} {Wo : FVec Ideal Cert.ReferenceIdeal.S4096x512 .f32}

/-- Reals in every device's blocks are reals in the whole arrays. -/
theorem Whole.fine (w : Whole m X Wq K V Wo)
    (h : ∀ c : Dev Cert.KernelIdeal.nD, (∀ i, Fine (aX m c i)) ∧ (∀ i, Fine (aWq m c i)) ∧ ∀ i, Fine (kv m false c i)) :
    (∀ i, Fine (X i)) ∧ (∀ i, Fine (Wq i)) ∧ ∀ i, Fine (K i) := by
  refine ⟨fun i => ?_, fun i => ?_, fun i => ?_⟩
  · obtain ⟨b, p, e, rfl⟩ : ∃ (b : Fin 2) (p : Fin 256) (e : Fin 512), i = ix3 b p e := ⟨i 0, i 1, i 2, eq_ix3 i⟩
    exact w.x 0 b p e ▸ (h 0).1 _
  · obtain ⟨e, n, rfl⟩ : ∃ (e : Fin 512) (n : Fin 4096), i = ix2 e n := ⟨i 0, i 1, eq_ix2 i⟩
    rw [split_at n]
    exact w.wq ⟨n.val / 256, by show _ < 16; omega⟩ e ⟨n.val % 256, by omega⟩ ▸ (h _).2.1 _
  · obtain ⟨b, n, g, d, rfl⟩ : ∃ (b : Fin 2) (n : Fin 4096) (g d : Fin 64), i = ix4 b n g d := ⟨i 0, i 1, i 2, i 3, eq_ix4 i⟩
    rw [split_at n]
    exact w.k ⟨n.val / 256, by show _ < 16; omega⟩ b ⟨n.val % 256, by omega⟩ g d ▸ (h _).2.2 _

/-- Arguments that are the blocks of whole arrays hold the whole arrays' entries. -/
theorem whole_of_blocks
    (h : ∀ c : Dev Cert.KernelIdeal.nD, aX m c = X ∧ aWq m c = Layout.block ⟨2, ![512, 256]⟩ ⟨2, ![512, 4096]⟩ 1 16 c Wq
      ∧ kv m false c = Layout.block ⟨4, ![2, 256, 64, 64]⟩ ⟨4, ![2, 4096, 64, 64]⟩ 1 16 c K
      ∧ kv m true c = Layout.block ⟨4, ![2, 256, 64, 64]⟩ ⟨4, ![2, 4096, 64, 64]⟩ 1 16 c V
      ∧ aWo m c = Layout.block ⟨2, ![256, 512]⟩ ⟨2, ![4096, 512]⟩ 0 16 c Wo) : Whole m X Wq K V Wo where
  x c b i e := congrFun (h c).1 _
  wq c e n := (congrFun (h c).2.1 _).trans (congrArg Wq (by funext a; fin_cases a <;> rfl))
  k c b p g d := (congrFun (h c).2.2.1 _).trans (congrArg K (by funext a; fin_cases a <;> rfl))
  v c b p g d := (congrFun (h c).2.2.2.1 _).trans (congrArg V (by funext a; fin_cases a <;> rfl))
  wo c e n := (congrFun (h c).2.2.2.2 _).trans (congrArg Wo (by funext a; fin_cases a <;> rfl))

/-! ## The claims -/

/-- The kernel ends so under the precondition too. -/
theorem frame_ideal_pre [h : Cert.Pre_finite_KernelIdeal.Facts] : Cert.quiescent_KernelIdeal_pre_finite_KernelIdeal :=
  fun m ρ _ => frame_run (F := Ideal) m ρ

/-- And the reference. -/
theorem frame_reference_pre [h : Cert.Pre_finite_ReferenceIdeal.Facts] : Cert.quiescent_ReferenceIdeal_pre_finite_ReferenceIdeal :=
  fun m ρ _ => (θ_run Cert.ReferenceIdeal.defs _ _).mono (fun r h => ⟨fun c => (h c).2, sem_eq_zero_of_no_sems (by decide) r.2⟩)
    (Cert.ReferenceIdeal.Value.run m ρ)

/-- Every device ends with the reference's result, the arguments unchanged. -/
theorem value [h : Cert.Pre_finite_KernelIdeal.Facts] : Cert.algebraic_KernelIdeal_ReferenceIdeal_pre_finite_KernelIdeal := by
  intro m g m' g' hp hb
  have w := whole_of_blocks (m := m) hb
  obtain ⟨hX, hWq, hK⟩ := w.fine fun c => fine_of_pre (hp c)
  refine ⟨Cert.ReferenceIdeal.Value.res_main_v39 m' 0, ?_, ?_⟩
  · exact (θ_run Cert.KernelIdeal.defs _ _).mono
      (fun r q c => ⟨(out_end m q.1 c).trans ((result_eq w hX hWq hK c).trans (res_eq m' 0).symm), args_end m q.1 c⟩) (run_main m g)
  · exact (θ_run Cert.ReferenceIdeal.defs _ _).mono (fun r q => q 0) (Cert.ReferenceIdeal.Value.run m' g')

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims: the three frames, with and without the precondition, the preservation, and the value. -/
theorem claim : Cert.Claim :=
  ⟨Cert.Kernel.Gen.facts, Cert.KernelIdeal.Gen.facts, Cert.ReferenceIdeal.Gen.facts, Cert.Attn.finite_facts, Cert.Attn.finite_facts_reference,
    Cert.Attn.frame_kernel, Cert.Attn.frame_ideal, Cert.Attn.frame_ideal_pre (h := Cert.Attn.finite_facts), Cert.Attn.frame_reference,
    Cert.Attn.frame_reference_pre (h := Cert.Attn.finite_facts_reference), trivial, Cert.Attn.value (h := Cert.Attn.finite_facts)⟩

end Cert.Proof

end
